-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attn_pre [hPre_attn_pre : Cert.Pre_attn_pre.Facts] (m : (ℓ : Loc Cert.KernelIdeal.nD Cert.KernelIdeal.τ Cert.KernelIdeal.sig) → Buf (Elt Ideal) ℓ) : Prop :=
  ∀ c : Dev Cert.KernelIdeal.nD,
    (Cert.Pre_attn_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attn_pre [hPre_attn_pre : Cert.Pre_attn_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attn_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_attn_pre [hKernelIdeal : Cert.KernelIdeal.Facts] [hPre_attn_pre : Cert.Pre_attn_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attn_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_attn_pre [hReferenceIdeal : Cert.ReferenceIdeal.Facts] [hPre_attn_pre : Cert.Pre_attn_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attn_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  True

def algebraic_KernelIdeal_ReferenceIdeal_pre_attn_pre [hKernelIdeal : Cert.KernelIdeal.Facts] [hReferenceIdeal : Cert.ReferenceIdeal.Facts] [hPre_attn_pre : Cert.Pre_attn_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attn_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v91) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  IdealRules.named_const.Statement Cert.Kernel3Ideal.κ "inv_qr" .f32 0x3B2AAAAB#32 ((1 / 384 : ℝ) : EReal)
  ∧ IdealRules.named_const.Statement Cert.Kernel3Ideal.κ "inv_qk" .f32 0x3C2AAAAB#32 ((1 / 96 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v51_0)) (v1 : (c : Dev Cert.Kernel3Ideal.nD) → Buf (Elt Ideal) ((c.tc : Thread Cert.Kernel3Ideal.nD Cert.Kernel3Ideal.τ).loc Cert.Kernel3Ideal.main_v51_1)) (v2 : (c : Dev Cert.Kernel3Ideal.nD) → Buf (Elt Ideal) ((c.tc : Thread Cert.Kernel3Ideal.nD Cert.Kernel3Ideal.τ).loc Cert.Kernel3Ideal.main_v51_2)) (v3 : (c : Dev Cert.Kernel3Ideal.nD) → Buf (Elt Ideal) ((c.tc : Thread Cert.Kernel3Ideal.nD Cert.Kernel3Ideal.τ).loc Cert.Kernel3Ideal.main_v51_3)) (v4 : (c : Dev Cert.Kernel3Ideal.nD) → Buf (Elt Ideal) ((c.tc : Thread Cert.Kernel3Ideal.nD Cert.Kernel3Ideal.τ).loc Cert.Kernel3Ideal.main_v51_4)) (v5 : (c : Dev Cert.Kernel3Ideal.nD) → Buf (Elt Ideal) ((c.tc : Thread Cert.Kernel3Ideal.nD Cert.Kernel3Ideal.τ).loc Cert.Kernel3Ideal.main_v51_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v51_0) = v0 c
          ∧ r.2.mem ((c.tc : Thread Cert.Kernel3Ideal.nD Cert.Kernel3Ideal.τ).loc Cert.Kernel3Ideal.main_v51_1) = v1 c
          ∧ r.2.mem ((c.tc : Thread Cert.Kernel3Ideal.nD Cert.Kernel3Ideal.τ).loc Cert.Kernel3Ideal.main_v51_2) = v2 c
          ∧ r.2.mem ((c.tc : Thread Cert.Kernel3Ideal.nD Cert.Kernel3Ideal.τ).loc Cert.Kernel3Ideal.main_v51_3) = v3 c
          ∧ r.2.mem ((c.tc : Thread Cert.Kernel3Ideal.nD Cert.Kernel3Ideal.τ).loc Cert.Kernel3Ideal.main_v51_4) = v4 c
          ∧ r.2.mem ((c.tc : Thread Cert.Kernel3Ideal.nD Cert.Kernel3Ideal.τ).loc Cert.Kernel3Ideal.main_v51_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_v58) = v1 c
          ∧ r.2.mem ((c.tc : Thread Cert.Reference3Ideal.nD Cert.Reference3Ideal.τ).loc Cert.Reference3Ideal.main_v72) = v2 c
          ∧ r.2.mem ((c.tc : Thread Cert.Reference3Ideal.nD Cert.Reference3Ideal.τ).loc Cert.Reference3Ideal.main_v192) = v3 c
          ∧ r.2.mem ((c.tc : Thread Cert.Reference3Ideal.nD Cert.Reference3Ideal.τ).loc Cert.Reference3Ideal.main_v195) = v4 c
          ∧ r.2.mem ((c.tc : Thread Cert.Reference3Ideal.nD Cert.Reference3Ideal.τ).loc Cert.Reference3Ideal.main_v198) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_attn_pre : Cert.Pre_attn_pre.Facts),
    quiescent_Kernel (hKernel := hKernel)
    ∧ quiescent_KernelIdeal (hKernelIdeal := hKernelIdeal)
    ∧ quiescent_KernelIdeal_pre_attn_pre (hKernelIdeal := hKernelIdeal) (hPre_attn_pre := hPre_attn_pre)
    ∧ quiescent_ReferenceIdeal (hReferenceIdeal := hReferenceIdeal)
    ∧ quiescent_ReferenceIdeal_pre_attn_pre (hReferenceIdeal := hReferenceIdeal) (hPre_attn_pre := hPre_attn_pre)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_attn_pre (hKernelIdeal := hKernelIdeal) (hReferenceIdeal := hReferenceIdeal) (hPre_attn_pre := hPre_attn_pre)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_attn_pre.lean ====
abbrev S4x8448x1024 : Shape := ⟨3, ![4, 8448, 1024]⟩
abbrev S4x8448x8x128 : Shape := ⟨4, ![4, 8448, 8, 128]⟩
abbrev S4x8448x8x1 : Shape := ⟨4, ![4, 8448, 8, 1]⟩
abbrev S4x8448x8 : Shape := ⟨3, ![4, 8448, 8]⟩
abbrev S_ : Shape := ⟨0, ![]⟩

class Facts : Prop where
  bitsLt_bf16_f32 : FTy.bits .bf16 < FTy.bits .f32
  shapeCasts_S4x8448x1024_S4x8448x8x128 : S4x8448x1024.ShapeCasts S4x8448x8x128
  slices_S4x8448x8x128_S4x8448x8x1_0_0_0_64 : S4x8448x8x128.Slices ![0, 0, 0, 64] S4x8448x8x1
  shapeCasts_S4x8448x8x1_S4x8448x8 : S4x8448x8x1.ShapeCasts S4x8448x8
  bcast_S_S4x8448x1024 : S_.BroadcastsInDim S4x8448x1024 (![] : Fin 0 → Fin S4x8448x1024.rank)
  reducesTo_S4x8448x1024_S_d0_1_2 : S4x8448x1024.ReducesTo [0, 1, 2] S_
  h_S_ : 0 < S_.numel
  bcast_S_S4x8448x8 : S_.BroadcastsInDim S4x8448x8 (![] : Fin 0 → Fin S4x8448x8.rank)
  reducesTo_S4x8448x8_S_d0_1_2 : S4x8448x8.ReducesTo [0, 1, 2] S_

variable [Facts]

def fn_part1 {F : FTy → Type} [FloatOps F] (main_v4 : FVec F S4x8448x8 .f32) (main_v13 : IVec S_ 1) (main_v17 : IVec S_ 1) : IVec S_ 1 :=
  let main_v18 : IVec S_ 1 := andi main_v13 main_v17
  let main_cst_4 : FVec F S_ .f32 := constant S_ .f32 0x3F800000#32
  let main_v19 : FVec F S4x8448x8 .f32 := broadcastInDim S4x8448x8 ![] bcast_S_S4x8448x8 main_cst_4
  let main_v20 : IVec S4x8448x8 1 := cmpf .oeq main_v4 main_v19
  let main_c_5 : IVec S_ 1 := constantI S_ 1 1#1
  let main_v21 : IVec S_ 1 := (fun x v => Host.reduce IntOp.andi x v reducesTo_S4x8448x8_S_d0_1_2 h_S_) main_v20 main_c_5
  let main_v22 : IVec S_ 1 := andi main_v18 main_v21
  main_v22

def fn {F : FTy → Type} [FloatOps F] (main_arg0 : FVec F S4x8448x1024 .f32) (main_arg1 : FVec F S4x8448x1024 .bf16) (main_arg2 : FVec F S4x8448x1024 .bf16) : IVec S_ 1 :=
  let main_v0 : FVec F S4x8448x1024 .f32 := (extf .f32 · bitsLt_bf16_f32) main_arg1
  let main_v1 : FVec F S4x8448x1024 .f32 := (extf .f32 · bitsLt_bf16_f32) main_arg2
  let main_v2 : FVec F S4x8448x8x128 .f32 := shapeCast S4x8448x8x128 main_v1 shapeCasts_S4x8448x1024_S4x8448x8x128
  let main_v3 : FVec F S4x8448x8x1 .f32 := (extractStridedSlice S4x8448x8x1 ![0, 0, 0, 64] · slices_S4x8448x8x128_S4x8448x8x1_0_0_0_64) main_v2
  let main_v4 : FVec F S4x8448x8 .f32 := shapeCast S4x8448x8 main_v3 shapeCasts_S4x8448x8x1_S4x8448x8
  let main_v5 : FVec F S4x8448x1024 .f32 := Host.absf main_arg0
  let main_cst : FVec F S_ .f32 := constant S_ .f32 0x7F800000#32
  let main_v6 : FVec F S4x8448x1024 .f32 := broadcastInDim S4x8448x1024 ![] bcast_S_S4x8448x1024 main_cst
  let main_v7 : IVec S4x8448x1024 1 := cmpf .olt main_v5 main_v6
  let main_c : IVec S_ 1 := constantI S_ 1 1#1
  let main_v8 : IVec S_ 1 := (fun x v => Host.reduce IntOp.andi x v reducesTo_S4x8448x1024_S_d0_1_2 h_S_) main_v7 main_c
  let main_v9 : FVec F S4x8448x1024 .f32 := Host.absf main_v0
  let main_cst_0 : FVec F S_ .f32 := constant S_ .f32 0x7F800000#32
  let main_v10 : FVec F S4x8448x1024 .f32 := broadcastInDim S4x8448x1024 ![] bcast_S_S4x8448x1024 main_cst_0
  let main_v11 : IVec S4x8448x1024 1 := cmpf .olt main_v9 main_v10
  let main_c_1 : IVec S_ 1 := constantI S_ 1 1#1
  let main_v12 : IVec S_ 1 := (fun x v => Host.reduce IntOp.andi x v reducesTo_S4x8448x1024_S_d0_1_2 h_S_) main_v11 main_c_1
  let main_v13 : IVec S_ 1 := andi main_v8 main_v12
  let main_v14 : FVec F S4x8448x1024 .f32 := Host.absf main_v1
  let main_cst_2 : FVec F S_ .f32 := constant S_ .f32 0x7F800000#32
  let main_v15 : FVec F S4x8448x1024 .f32 := broadcastInDim S4x8448x1024 ![] bcast_S_S4x8448x1024 main_cst_2
  let main_v16 : IVec S4x8448x1024 1 := cmpf .olt main_v14 main_v15
  let main_c_3 : IVec S_ 1 := constantI S_ 1 1#1
  let main_v17 : IVec S_ 1 := (fun x v => Host.reduce IntOp.andi x v reducesTo_S4x8448x1024_S_d0_1_2 h_S_) main_v16 main_c_3
  fn_part1 (F := F) main_v4 main_v13 main_v17
-- ==== Kernel.lean ====
abbrev S4x8448x1024 : Shape := ⟨3, ![4, 8448, 1024]⟩
abbrev S_ : Shape := ⟨0, ![]⟩
abbrev S4x8448x512 : Shape := ⟨3, ![4, 8448, 512]⟩
abbrev S1x256x256 : Shape := ⟨3, ![1, 256, 256]⟩
abbrev S1x8448x256 : Shape := ⟨3, ![1, 8448, 256]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x512x128 : Shape := ⟨3, ![1, 512, 128]⟩
abbrev S512x128 : Shape := ⟨2, ![512, 128]⟩
abbrev S256x512 : Shape := ⟨2, ![256, 512]⟩

abbrev nBuf : Space → Nat
  | .hbm => 14
  | .vmem => 8
  | .smem => 0
  | _ => 0

abbrev bufTy : (tb : Table) → Fin (tcTables nBuf tb) → BufTy
  | .hbm, ⟨0, _⟩ => ⟨S4x8448x1024, .f32⟩
  | .hbm, ⟨1, _⟩ => ⟨S4x8448x1024, .bf16⟩
  | .hbm, ⟨2, _⟩ => ⟨S4x8448x1024, .bf16⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x8448x1024, .f32⟩
  | .hbm, ⟨11, _⟩ => ⟨S4x8448x1024, .f32⟩
  | .hbm, ⟨12, _⟩ => ⟨S4x8448x1024, .bf16⟩
  | .hbm, ⟨13, _⟩ => ⟨S4x8448x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x8448x256, .bf16⟩
  | .local _ .vmem, ⟨3, _⟩ => ⟨S1x8448x256, .bf16⟩
  | .local _ .vmem, ⟨4, _⟩ => ⟨S1x8448x256, .bf16⟩
  | .local _ .vmem, ⟨5, _⟩ => ⟨S1x8448x256, .bf16⟩
  | .local _ .vmem, ⟨6, _⟩ => ⟨S1x256x128, .bf16⟩
  | .local _ .vmem, ⟨7, _⟩ => ⟨S1x256x128, .bf16⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 33], ![false, false, false]⟩

@[reducible] def k0_t1_loop (i : grid0.Coords) : Scf.Loop 32 :=
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_37 : BitVec 32 := 1#32
  ⟨c0_i32_35, v60, c1_i32_37⟩
def k0_mult1 (i : grid0.Coords) (k0_t1 : Fin (k0_t1_loop i).trips) : BitVec 32 :=
  let c256_i32 : BitVec 32 := 256#32
  let c0_i32_35 : BitVec 32 := 0#32
  let c1_i32_37 : BitVec 32 := 1#32
  let arg7 : BitVec 32 := Scf.iv c0_i32_35 c1_i32_37 k0_t1
  let c16_i32 : BitVec 32 := 16#32
  let v82 : BitVec 32 := Scalar.muli arg7 c16_i32
  let c0_i32_45 : BitVec 32 := 0#32
  let v83 : BitVec 32 := Scalar.addi v82 c0_i32_45
  let c512_i32 : BitVec 32 := 512#32
  let v84 : BitVec 32 := Scalar.muli v83 c512_i32
  let v85 : BitVec 32 := Scalar.addi c256_i32 v84
  v85
def k0_mult2 (i : grid0.Coords) (k0_t1 : Fin (k0_t1_loop i).trips) : BitVec 32 :=
  let c256_i32_48 : BitVec 32 := 256#32
  let c0_i32_35 : BitVec 32 := 0#32
  let c1_i32_37 : BitVec 32 := 1#32
  let arg7 : BitVec 32 := Scf.iv c0_i32_35 c1_i32_37 k0_t1
  let c16_i32 : BitVec 32 := 16#32
  let v82 : BitVec 32 := Scalar.muli arg7 c16_i32
  let c0_i32_45 : BitVec 32 := 0#32
  let v83 : BitVec 32 := Scalar.addi v82 c0_i32_45
  let c1_i32_46 : BitVec 32 := 1#32
  let v87 : BitVec 32 := Scalar.addi v83 c1_i32_46
  let c15_i32 : BitVec 32 := 15#32
  let v88 : BitVec 32 := Scalar.minsi v87 c15_i32
  let c512_i32_47 : BitVec 32 := 512#32
  let v89 : BitVec 32 := Scalar.muli v88 c512_i32_47
  let v90 : BitVec 32 := Scalar.addi c256_i32_48 v89
  v90
def k0_off1 (i : grid0.Coords) (k0_t1 : Fin (k0_t1_loop i).trips) (c0_i32_45 : BitVec 32) : Fin 3 → Nat :=
  let c0_49 : Index := 0#32
  let c256_i32_48 : BitVec 32 := 256#32
  let c0_i32_35 : BitVec 32 := 0#32
  let c1_i32_37 : BitVec 32 := 1#32
  let arg7 : BitVec 32 := Scf.iv c0_i32_35 c1_i32_37 k0_t1
  let c16_i32 : BitVec 32 := 16#32
  let v82 : BitVec 32 := Scalar.muli arg7 c16_i32
  let v83 : BitVec 32 := Scalar.addi v82 c0_i32_45
  let c1_i32_46 : BitVec 32 := 1#32
  let v87 : BitVec 32 := Scalar.addi v83 c1_i32_46
  let c15_i32 : BitVec 32 := 15#32
  let v88 : BitVec 32 := Scalar.minsi v87 c15_i32
  let c512_i32_47 : BitVec 32 := 512#32
  let v89 : BitVec 32 := Scalar.muli v88 c512_i32_47
  let v90 : BitVec 32 := Scalar.addi c256_i32_48 v89
  let v91 : BitVec 32 := v90
  let v92 : Index := Scalar.indexCast v91
  let c0_50 : Index := 0#32
  ![0, v92.toNat, 0]
def k0_off2 (i : grid0.Coords) (k0_t1 : Fin (k0_t1_loop i).trips) (c0_i32_45 : BitVec 32) : Fin 3 → Nat :=
  let c0_53 : Index := 0#32
  let c256_i32_48 : BitVec 32 := 256#32
  let c0_i32_35 : BitVec 32 := 0#32
  let c1_i32_37 : BitVec 32 := 1#32
  let arg7 : BitVec 32 := Scf.iv c0_i32_35 c1_i32_37 k0_t1
  let c16_i32 : BitVec 32 := 16#32
  let v82 : BitVec 32 := Scalar.muli arg7 c16_i32
  let v83 : BitVec 32 := Scalar.addi v82 c0_i32_45
  let c1_i32_46 : BitVec 32 := 1#32
  let v87 : BitVec 32 := Scalar.addi v83 c1_i32_46
  let c15_i32 : BitVec 32 := 15#32
  let v88 : BitVec 32 := Scalar.minsi v87 c15_i32
  let c512_i32_47 : BitVec 32 := 512#32
  let v89 : BitVec 32 := Scalar.muli v88 c512_i32_47
  let v90 : BitVec 32 := Scalar.addi c256_i32_48 v89
  let v91 : BitVec 32 := v90
  let v98 : Index := Scalar.indexCast v91
  let c128_54 : Index := 128#32
  ![0, v98.toNat, 128]
def k0_off3 (i : grid0.Coords) (k0_t1 : Fin (k0_t1_loop i).trips) (c0_i32_45 : BitVec 32) : Fin 3 → Nat :=
  let c0_57 : Index := 0#32
  let c256_i32 : BitVec 32 := 256#32
  let c0_i32_35 : BitVec 32 := 0#32
  let c1_i32_37 : BitVec 32 := 1#32
  let arg7 : BitVec 32 := Scf.iv c0_i32_35 c1_i32_37 k0_t1
  let c16_i32 : BitVec 32 := 16#32
  let v82 : BitVec 32 := Scalar.muli arg7 c16_i32
  let v83 : BitVec 32 := Scalar.addi v82 c0_i32_45
  let c512_i32 : BitVec 32 := 512#32
  let v84 : BitVec 32 := Scalar.muli v83 c512_i32
  let v85 : BitVec 32 := Scalar.addi c256_i32 v84
  let v86 : BitVec 32 := v85
  let v104 : Index := Scalar.indexCast v86
  let c0_58 : Index := 0#32
  ![0, v104.toNat, 0]
def k0_off4 (i : grid0.Coords) (k0_t1 : Fin (k0_t1_loop i).trips) (c0_i32_45 : BitVec 32) : Fin 3 → Nat :=
  let c0_60 : Index := 0#32
  let c256_i32 : BitVec 32 := 256#32
  let c0_i32_35 : BitVec 32 := 0#32
  let c1_i32_37 : BitVec 32 := 1#32
  let arg7 : BitVec 32 := Scf.iv c0_i32_35 c1_i32_37 k0_t1
  let c16_i32 : BitVec 32 := 16#32
  let v82 : BitVec 32 := Scalar.muli arg7 c16_i32
  let v83 : BitVec 32 := Scalar.addi v82 c0_i32_45
  let c512_i32 : BitVec 32 := 512#32
  let v84 : BitVec 32 := Scalar.muli v83 c512_i32
  let v85 : BitVec 32 := Scalar.addi c256_i32 v84
  let v86 : BitVec 32 := v85
  let v118 : Index := Scalar.indexCast v86
  let c128_61 : Index := 128#32
  ![0, v118.toNat, 128]
def k0_mult3 (i : grid0.Coords) (k0_t1 : Fin (k0_t1_loop i).trips) : BitVec 32 :=
  let c256_i32_66 : BitVec 32 := 256#32
  let c0_i32_35 : BitVec 32 := 0#32
  let c1_i32_37 : BitVec 32 := 1#32
  let arg7 : BitVec 32 := Scf.iv c0_i32_35 c1_i32_37 k0_t1
  let c16_i32_63 : BitVec 32 := 16#32
  let v132 : BitVec 32 := Scalar.muli arg7 c16_i32_63
  let c1_i32_64 : BitVec 32 := 1#32
  let v133 : BitVec 32 := Scalar.addi v132 c1_i32_64
  let c512_i32_65 : BitVec 32 := 512#32
  let v134 : BitVec 32 := Scalar.muli v133 c512_i32_65
  let v135 : BitVec 32 := Scalar.addi c256_i32_66 v134
  v135
def k0_mult4 (i : grid0.Coords) (k0_t1 : Fin (k0_t1_loop i).trips) : BitVec 32 :=
  let c256_i32_70 : BitVec 32 := 256#32
  let c0_i32_35 : BitVec 32 := 0#32
  let c1_i32_37 : BitVec 32 := 1#32
  let arg7 : BitVec 32 := Scf.iv c0_i32_35 c1_i32_37 k0_t1
  let c16_i32_63 : BitVec 32 := 16#32
  let v132 : BitVec 32 := Scalar.muli arg7 c16_i32_63
  let c1_i32_64 : BitVec 32 := 1#32
  let v133 : BitVec 32 := Scalar.addi v132 c1_i32_64
  let c1_i32_67 : BitVec 32 := 1#32
  let v137 : BitVec 32 := Scalar.addi v133 c1_i32_67
  let c15_i32_68 : BitVec 32 := 15#32
  let v138 : BitVec 32 := Scalar.minsi v137 c15_i32_68
  let c512_i32_69 : BitVec 32 := 512#32
  let v139 : BitVec 32 := Scalar.muli v138 c512_i32_69
  let v140 : BitVec 32 := Scalar.addi c256_i32_70 v139
  v140
def k0_mult5 (i : grid0.Coords) (k0_t1 : Fin (k0_t1_loop i).trips) : BitVec 32 :=
  let c256_i32_87 : BitVec 32 := 256#32
  let c0_i32_35 : BitVec 32 := 0#32
  let c1_i32_37 : BitVec 32 := 1#32
  let arg7 : BitVec 32 := Scf.iv c0_i32_35 c1_i32_37 k0_t1
  let c16_i32_85 : BitVec 32 := 16#32
  let v182 : BitVec 32 := Scalar.muli arg7 c16_i32_85
  let c2_i32 : BitVec 32 := 2#32
  let v183 : BitVec 32 := Scalar.addi v182 c2_i32
  let c512_i32_86 : BitVec 32 := 512#32
  let v184 : BitVec 32 := Scalar.muli v183 c512_i32_86
  let v185 : BitVec 32 := Scalar.addi c256_i32_87 v184
  v185
def k0_mult6 (i : grid0.Coords) (k0_t1 : Fin (k0_t1_loop i).trips) : BitVec 32 :=
  let c256_i32_91 : BitVec 32 := 256#32
  let c0_i32_35 : BitVec 32 := 0#32
  let c1_i32_37 : BitVec 32 := 1#32
  let arg7 : BitVec 32 := Scf.iv c0_i32_35 c1_i32_37 k0_t1
  let c16_i32_85 : BitVec 32 := 16#32
  let v182 : BitVec 32 := Scalar.muli arg7 c16_i32_85
  let c2_i32 : BitVec 32 := 2#32
  let v183 : BitVec 32 := Scalar.addi v182 c2_i32
  let c1_i32_88 : BitVec 32 := 1#32
  let v187 : BitVec 32 := Scalar.addi v183 c1_i32_88
  let c15_i32_89 : BitVec 32 := 15#32
  let v188 : BitVec 32 := Scalar.minsi v187 c15_i32_89
  let c512_i32_90 : BitVec 32 := 512#32
  let v189 : BitVec 32 := Scalar.muli v188 c512_i32_90
  let v190 : BitVec 32 := Scalar.addi c256_i32_91 v189
  v190
def k0_mult7 (i : grid0.Coords) (k0_t1 : Fin (k0_t1_loop i).trips) : BitVec 32 :=
  let c256_i32_108 : BitVec 32 := 256#32
  let c0_i32_35 : BitVec 32 := 0#32
  let c1_i32_37 : BitVec 32 := 1#32
  let arg7 : BitVec 32 := Scf.iv c0_i32_35 c1_i32_37 k0_t1
  let c16_i32_106 : BitVec 32 := 16#32
  let v232 : BitVec 32 := Scalar.muli arg7 c16_i32_106
  let c3_i32 : BitVec 32 := 3#32
  let v233 : BitVec 32 := Scalar.addi v232 c3_i32
  let c512_i32_107 : BitVec 32 := 512#32
  let v234 : BitVec 32 := Scalar.muli v233 c512_i32_107
  let v235 : BitVec 32 := Scalar.addi c256_i32_108 v234
  v235
def k0_mult8 (i : grid0.Coords) (k0_t1 : Fin (k0_t1_loop i).trips) : BitVec 32 :=
  let c256_i32_112 : BitVec 32 := 256#32
  let c0_i32_35 : BitVec 32 := 0#32
  let c1_i32_37 : BitVec 32 := 1#32
  let arg7 : BitVec 32 := Scf.iv c0_i32_35 c1_i32_37 k0_t1
  let c16_i32_106 : BitVec 32 := 16#32
  let v232 : BitVec 32 := Scalar.muli arg7 c16_i32_106
  let c3_i32 : BitVec 32 := 3#32
  let v233 : BitVec 32 := Scalar.addi v232 c3_i32
  let c1_i32_109 : BitVec 32 := 1#32
  let v237 : BitVec 32 := Scalar.addi v233 c1_i32_109
  let c15_i32_110 : BitVec 32 := 15#32
  let v238 : BitVec 32 := Scalar.minsi v237 c15_i32_110
  let c512_i32_111 : BitVec 32 := 512#32
  let v239 : BitVec 32 := Scalar.muli v238 c512_i32_111
  let v240 : BitVec 32 := Scalar.addi c256_i32_112 v239
  v240
def k0_mult9 (i : grid0.Coords) (k0_t1 : Fin (k0_t1_loop i).trips) : BitVec 32 :=
  let c256_i32_129 : BitVec 32 := 256#32
  let c0_i32_35 : BitVec 32 := 0#32
  let c1_i32_37 : BitVec 32 := 1#32
  let arg7 : BitVec 32 := Scf.iv c0_i32_35 c1_i32_37 k0_t1
  let c16_i32_127 : BitVec 32 := 16#32
  let v282 : BitVec 32 := Scalar.muli arg7 c16_i32_127
  let c4_i32 : BitVec 32 := 4#32
  let v283 : BitVec 32 := Scalar.addi v282 c4_i32
  let c512_i32_128 : BitVec 32 := 512#32
  let v284 : BitVec 32 := Scalar.muli v283 c512_i32_128
  let v285 : BitVec 32 := Scalar.addi c256_i32_129 v284
  v285
def k0_mult10 (i : grid0.Coords) (k0_t1 : Fin (k0_t1_loop i).trips) : BitVec 32 :=
  let c256_i32_133 : BitVec 32 := 256#32
  let c0_i32_35 : BitVec 32 := 0#32
  let c1_i32_37 : BitVec 32 := 1#32
  let arg7 : BitVec 32 := Scf.iv c0_i32_35 c1_i32_37 k0_t1
  let c16_i32_127 : BitVec 32 := 16#32
  let v282 : BitVec 32 := Scalar.muli arg7 c16_i32_127
  let c4_i32 : BitVec 32 := 4#32
  let v283 : BitVec 32 := Scalar.addi v282 c4_i32
  let c1_i32_130 : BitVec 32 := 1#32
  let v287 : BitVec 32 := Scalar.addi v283 c1_i32_130
  let c15_i32_131 : BitVec 32 := 15#32
  let v288 : BitVec 32 := Scalar.minsi v287 c15_i32_131
  let c512_i32_132 : BitVec 32 := 512#32
  let v289 : BitVec 32 := Scalar.muli v288 c512_i32_132
  let v290 : BitVec 32 := Scalar.addi c256_i32_133 v289
  v290
def k0_mult11 (i : grid0.Coords) (k0_t1 : Fin (k0_t1_loop i).trips) : BitVec 32 :=
  let c256_i32_150 : BitVec 32 := 256#32
  let c0_i32_35 : BitVec 32 := 0#32
  let c1_i32_37 : BitVec 32 := 1#32
  let arg7 : BitVec 32 := Scf.iv c0_i32_35 c1_i32_37 k0_t1
  let c16_i32_148 : BitVec 32 := 16#32
  let v332 : BitVec 32 := Scalar.muli arg7 c16_i32_148
  let c5_i32 : BitVec 32 := 5#32
  let v333 : BitVec 32 := Scalar.addi v332 c5_i32
  let c512_i32_149 : BitVec 32 := 512#32
  let v334 : BitVec 32 := Scalar.muli v333 c512_i32_149
  let v335 : BitVec 32 := Scalar.addi c256_i32_150 v334
  v335
def k0_mult12 (i : grid0.Coords) (k0_t1 : Fin (k0_t1_loop i).trips) : BitVec 32 :=
  let c256_i32_154 : BitVec 32 := 256#32
  let c0_i32_35 : BitVec 32 := 0#32
  let c1_i32_37 : BitVec 32 := 1#32
  let arg7 : BitVec 32 := Scf.iv c0_i32_35 c1_i32_37 k0_t1
  let c16_i32_148 : BitVec 32 := 16#32
  let v332 : BitVec 32 := Scalar.muli arg7 c16_i32_148
  let c5_i32 : BitVec 32 := 5#32
  let v333 : BitVec 32 := Scalar.addi v332 c5_i32
  let c1_i32_151 : BitVec 32 := 1#32
  let v337 : BitVec 32 := Scalar.addi v333 c1_i32_151
  let c15_i32_152 : BitVec 32 := 15#32
  let v338 : BitVec 32 := Scalar.minsi v337 c15_i32_152
  let c512_i32_153 : BitVec 32 := 512#32
  let v339 : BitVec 32 := Scalar.muli v338 c512_i32_153
  let v340 : BitVec 32 := Scalar.addi c256_i32_154 v339
  v340
def k0_mult13 (i : grid0.Coords) (k0_t1 : Fin (k0_t1_loop i).trips) : BitVec 32 :=
  let c256_i32_171 : BitVec 32 := 256#32
  let c0_i32_35 : BitVec 32 := 0#32
  let c1_i32_37 : BitVec 32 := 1#32
  let arg7 : BitVec 32 := Scf.iv c0_i32_35 c1_i32_37 k0_t1
  let c16_i32_169 : BitVec 32 := 16#32
  let v382 : BitVec 32 := Scalar.muli arg7 c16_i32_169
  let c6_i32 : BitVec 32 := 6#32
  let v383 : BitVec 32 := Scalar.addi v382 c6_i32
  let c512_i32_170 : BitVec 32 := 512#32
  let v384 : BitVec 32 := Scalar.muli v383 c512_i32_170
  let v385 : BitVec 32 := Scalar.addi c256_i32_171 v384
  v385
def k0_mult14 (i : grid0.Coords) (k0_t1 : Fin (k0_t1_loop i).trips) : BitVec 32 :=
  let c256_i32_175 : BitVec 32 := 256#32
  let c0_i32_35 : BitVec 32 := 0#32
  let c1_i32_37 : BitVec 32 := 1#32
  let arg7 : BitVec 32 := Scf.iv c0_i32_35 c1_i32_37 k0_t1
  let c16_i32_169 : BitVec 32 := 16#32
  let v382 : BitVec 32 := Scalar.muli arg7 c16_i32_169
  let c6_i32 : BitVec 32 := 6#32
  let v383 : BitVec 32 := Scalar.addi v382 c6_i32
  let c1_i32_172 : BitVec 32 := 1#32
  let v387 : BitVec 32 := Scalar.addi v383 c1_i32_172
  let c15_i32_173 : BitVec 32 := 15#32
  let v388 : BitVec 32 := Scalar.minsi v387 c15_i32_173
  let c512_i32_174 : BitVec 32 := 512#32
  let v389 : BitVec 32 := Scalar.muli v388 c512_i32_174
  let v390 : BitVec 32 := Scalar.addi c256_i32_175 v389
  v390
def k0_mult15 (i : grid0.Coords) (k0_t1 : Fin (k0_t1_loop i).trips) : BitVec 32 :=
  let c256_i32_192 : BitVec 32 := 256#32
  let c0_i32_35 : BitVec 32 := 0#32
  let c1_i32_37 : BitVec 32 := 1#32
  let arg7 : BitVec 32 := Scf.iv c0_i32_35 c1_i32_37 k0_t1
  let c16_i32_190 : BitVec 32 := 16#32
  let v432 : BitVec 32 := Scalar.muli arg7 c16_i32_190
  let c7_i32 : BitVec 32 := 7#32
  let v433 : BitVec 32 := Scalar.addi v432 c7_i32
  let c512_i32_191 : BitVec 32 := 512#32
  let v434 : BitVec 32 := Scalar.muli v433 c512_i32_191
  let v435 : BitVec 32 := Scalar.addi c256_i32_192 v434
  v435
def k0_mult16 (i : grid0.Coords) (k0_t1 : Fin (k0_t1_loop i).trips) : BitVec 32 :=
  let c256_i32_196 : BitVec 32 := 256#32
  let c0_i32_35 : BitVec 32 := 0#32
  let c1_i32_37 : BitVec 32 := 1#32
  let arg7 : BitVec 32 := Scf.iv c0_i32_35 c1_i32_37 k0_t1
  let c16_i32_190 : BitVec 32 := 16#32
  let v432 : BitVec 32 := Scalar.muli arg7 c16_i32_190
  let c7_i32 : BitVec 32 := 7#32
  let v433 : BitVec 32 := Scalar.addi v432 c7_i32
  let c1_i32_193 : BitVec 32 := 1#32
  let v437 : BitVec 32 := Scalar.addi v433 c1_i32_193
  let c15_i32_194 : BitVec 32 := 15#32
  let v438 : BitVec 32 := Scalar.minsi v437 c15_i32_194
  let c512_i32_195 : BitVec 32 := 512#32
  let v439 : BitVec 32 := Scalar.muli v438 c512_i32_195
  let v440 : BitVec 32 := Scalar.addi c256_i32_196 v439
  v440
def k0_mult17 (i : grid0.Coords) (k0_t1 : Fin (k0_t1_loop i).trips) : BitVec 32 :=
  let c256_i32_213 : BitVec 32 := 256#32
  let c0_i32_35 : BitVec 32 := 0#32
  let c1_i32_37 : BitVec 32 := 1#32
  let arg7 : BitVec 32 := Scf.iv c0_i32_35 c1_i32_37 k0_t1
  let c16_i32_211 : BitVec 32 := 16#32
  let v482 : BitVec 32 := Scalar.muli arg7 c16_i32_211
  let c8_i32 : BitVec 32 := 8#32
  let v483 : BitVec 32 := Scalar.addi v482 c8_i32
  let c512_i32_212 : BitVec 32 := 512#32
  let v484 : BitVec 32 := Scalar.muli v483 c512_i32_212
  let v485 : BitVec 32 := Scalar.addi c256_i32_213 v484
  v485
def k0_mult18 (i : grid0.Coords) (k0_t1 : Fin (k0_t1_loop i).trips) : BitVec 32 :=
  let c256_i32_217 : BitVec 32 := 256#32
  let c0_i32_35 : BitVec 32 := 0#32
  let c1_i32_37 : BitVec 32 := 1#32
  let arg7 : BitVec 32 := Scf.iv c0_i32_35 c1_i32_37 k0_t1
  let c16_i32_211 : BitVec 32 := 16#32
  let v482 : BitVec 32 := Scalar.muli arg7 c16_i32_211
  let c8_i32 : BitVec 32 := 8#32
  let v483 : BitVec 32 := Scalar.addi v482 c8_i32
  let c1_i32_214 : BitVec 32 := 1#32
  let v487 : BitVec 32 := Scalar.addi v483 c1_i32_214
  let c15_i32_215 : BitVec 32 := 15#32
  let v488 : BitVec 32 := Scalar.minsi v487 c15_i32_215
  let c512_i32_216 : BitVec 32 := 512#32
  let v489 : BitVec 32 := Scalar.muli v488 c512_i32_216
  let v490 : BitVec 32 := Scalar.addi c256_i32_217 v489
  v490
def k0_mult19 (i : grid0.Coords) (k0_t1 : Fin (k0_t1_loop i).trips) : BitVec 32 :=
  let c256_i32_234 : BitVec 32 := 256#32
  let c0_i32_35 : BitVec 32 := 0#32
  let c1_i32_37 : BitVec 32 := 1#32
  let arg7 : BitVec 32 := Scf.iv c0_i32_35 c1_i32_37 k0_t1
  let c16_i32_232 : BitVec 32 := 16#32
  let v532 : BitVec 32 := Scalar.muli arg7 c16_i32_232
  let c9_i32 : BitVec 32 := 9#32
  let v533 : BitVec 32 := Scalar.addi v532 c9_i32
  let c512_i32_233 : BitVec 32 := 512#32
  let v534 : BitVec 32 := Scalar.muli v533 c512_i32_233
  let v535 : BitVec 32 := Scalar.addi c256_i32_234 v534
  v535
def k0_mult20 (i : grid0.Coords) (k0_t1 : Fin (k0_t1_loop i).trips) : BitVec 32 :=
  let c256_i32_238 : BitVec 32 := 256#32
  let c0_i32_35 : BitVec 32 := 0#32
  let c1_i32_37 : BitVec 32 := 1#32
  let arg7 : BitVec 32 := Scf.iv c0_i32_35 c1_i32_37 k0_t1
  let c16_i32_232 : BitVec 32 := 16#32
  let v532 : BitVec 32 := Scalar.muli arg7 c16_i32_232
  let c9_i32 : BitVec 32 := 9#32
  let v533 : BitVec 32 := Scalar.addi v532 c9_i32
  let c1_i32_235 : BitVec 32 := 1#32
  let v537 : BitVec 32 := Scalar.addi v533 c1_i32_235
  let c15_i32_236 : BitVec 32 := 15#32
  let v538 : BitVec 32 := Scalar.minsi v537 c15_i32_236
  let c512_i32_237 : BitVec 32 := 512#32
  let v539 : BitVec 32 := Scalar.muli v538 c512_i32_237
  let v540 : BitVec 32 := Scalar.addi c256_i32_238 v539
  v540
def k0_mult21 (i : grid0.Coords) (k0_t1 : Fin (k0_t1_loop i).trips) : BitVec 32 :=
  let c256_i32_255 : BitVec 32 := 256#32
  let c0_i32_35 : BitVec 32 := 0#32
  let c1_i32_37 : BitVec 32 := 1#32
  let arg7 : BitVec 32 := Scf.iv c0_i32_35 c1_i32_37 k0_t1
  let c16_i32_253 : BitVec 32 := 16#32
  let v582 : BitVec 32 := Scalar.muli arg7 c16_i32_253
  let c10_i32 : BitVec 32 := 10#32
  let v583 : BitVec 32 := Scalar.addi v582 c10_i32
  let c512_i32_254 : BitVec 32 := 512#32
  let v584 : BitVec 32 := Scalar.muli v583 c512_i32_254
  let v585 : BitVec 32 := Scalar.addi c256_i32_255 v584
  v585
def k0_mult22 (i : grid0.Coords) (k0_t1 : Fin (k0_t1_loop i).trips) : BitVec 32 :=
  let c256_i32_259 : BitVec 32 := 256#32
  let c0_i32_35 : BitVec 32 := 0#32
  let c1_i32_37 : BitVec 32 := 1#32
  let arg7 : BitVec 32 := Scf.iv c0_i32_35 c1_i32_37 k0_t1
  let c16_i32_253 : BitVec 32 := 16#32
  let v582 : BitVec 32 := Scalar.muli arg7 c16_i32_253
  let c10_i32 : BitVec 32 := 10#32
  let v583 : BitVec 32 := Scalar.addi v582 c10_i32
  let c1_i32_256 : BitVec 32 := 1#32
  let v587 : BitVec 32 := Scalar.addi v583 c1_i32_256
  let c15_i32_257 : BitVec 32 := 15#32
  let v588 : BitVec 32 := Scalar.minsi v587 c15_i32_257
  let c512_i32_258 : BitVec 32 := 512#32
  let v589 : BitVec 32 := Scalar.muli v588 c512_i32_258
  let v590 : BitVec 32 := Scalar.addi c256_i32_259 v589
  v590
def k0_mult23 (i : grid0.Coords) (k0_t1 : Fin (k0_t1_loop i).trips) : BitVec 32 :=
  let c256_i32_276 : BitVec 32 := 256#32
  let c0_i32_35 : BitVec 32 := 0#32
  let c1_i32_37 : BitVec 32 := 1#32
  let arg7 : BitVec 32 := Scf.iv c0_i32_35 c1_i32_37 k0_t1
  let c16_i32_274 : BitVec 32 := 16#32
  let v632 : BitVec 32 := Scalar.muli arg7 c16_i32_274
  let c11_i32 : BitVec 32 := 11#32
  let v633 : BitVec 32 := Scalar.addi v632 c11_i32
  let c512_i32_275 : BitVec 32 := 512#32
  let v634 : BitVec 32 := Scalar.muli v633 c512_i32_275
  let v635 : BitVec 32 := Scalar.addi c256_i32_276 v634
  v635
def k0_mult24 (i : grid0.Coords) (k0_t1 : Fin (k0_t1_loop i).trips) : BitVec 32 :=
  let c256_i32_280 : BitVec 32 := 256#32
  let c0_i32_35 : BitVec 32 := 0#32
  let c1_i32_37 : BitVec 32 := 1#32
  let arg7 : BitVec 32 := Scf.iv c0_i32_35 c1_i32_37 k0_t1
  let c16_i32_274 : BitVec 32 := 16#32
  let v632 : BitVec 32 := Scalar.muli arg7 c16_i32_274
  let c11_i32 : BitVec 32 := 11#32
  let v633 : BitVec 32 := Scalar.addi v632 c11_i32
  let c1_i32_277 : BitVec 32 := 1#32
  let v637 : BitVec 32 := Scalar.addi v633 c1_i32_277
  let c15_i32_278 : BitVec 32 := 15#32
  let v638 : BitVec 32 := Scalar.minsi v637 c15_i32_278
  let c512_i32_279 : BitVec 32 := 512#32
  let v639 : BitVec 32 := Scalar.muli v638 c512_i32_279
  let v640 : BitVec 32 := Scalar.addi c256_i32_280 v639
  v640
def k0_mult25 (i : grid0.Coords) (k0_t1 : Fin (k0_t1_loop i).trips) : BitVec 32 :=
  let c256_i32_297 : BitVec 32 := 256#32
  let c0_i32_35 : BitVec 32 := 0#32
  let c1_i32_37 : BitVec 32 := 1#32
  let arg7 : BitVec 32 := Scf.iv c0_i32_35 c1_i32_37 k0_t1
  let c16_i32_295 : BitVec 32 := 16#32
  let v682 : BitVec 32 := Scalar.muli arg7 c16_i32_295
  let c12_i32 : BitVec 32 := 12#32
  let v683 : BitVec 32 := Scalar.addi v682 c12_i32
  let c512_i32_296 : BitVec 32 := 512#32
  let v684 : BitVec 32 := Scalar.muli v683 c512_i32_296
  let v685 : BitVec 32 := Scalar.addi c256_i32_297 v684
  v685
def k0_mult26 (i : grid0.Coords) (k0_t1 : Fin (k0_t1_loop i).trips) : BitVec 32 :=
  let c256_i32_301 : BitVec 32 := 256#32
  let c0_i32_35 : BitVec 32 := 0#32
  let c1_i32_37 : BitVec 32 := 1#32
  let arg7 : BitVec 32 := Scf.iv c0_i32_35 c1_i32_37 k0_t1
  let c16_i32_295 : BitVec 32 := 16#32
  let v682 : BitVec 32 := Scalar.muli arg7 c16_i32_295
  let c12_i32 : BitVec 32 := 12#32
  let v683 : BitVec 32 := Scalar.addi v682 c12_i32
  let c1_i32_298 : BitVec 32 := 1#32
  let v687 : BitVec 32 := Scalar.addi v683 c1_i32_298
  let c15_i32_299 : BitVec 32 := 15#32
  let v688 : BitVec 32 := Scalar.minsi v687 c15_i32_299
  let c512_i32_300 : BitVec 32 := 512#32
  let v689 : BitVec 32 := Scalar.muli v688 c512_i32_300
  let v690 : BitVec 32 := Scalar.addi c256_i32_301 v689
  v690
def k0_mult27 (i : grid0.Coords) (k0_t1 : Fin (k0_t1_loop i).trips) : BitVec 32 :=
  let c256_i32_318 : BitVec 32 := 256#32
  let c0_i32_35 : BitVec 32 := 0#32
  let c1_i32_37 : BitVec 32 := 1#32
  let arg7 : BitVec 32 := Scf.iv c0_i32_35 c1_i32_37 k0_t1
  let c16_i32_316 : BitVec 32 := 16#32
  let v732 : BitVec 32 := Scalar.muli arg7 c16_i32_316
  let c13_i32 : BitVec 32 := 13#32
  let v733 : BitVec 32 := Scalar.addi v732 c13_i32
  let c512_i32_317 : BitVec 32 := 512#32
  let v734 : BitVec 32 := Scalar.muli v733 c512_i32_317
  let v735 : BitVec 32 := Scalar.addi c256_i32_318 v734
  v735
def k0_mult28 (i : grid0.Coords) (k0_t1 : Fin (k0_t1_loop i).trips) : BitVec 32 :=
  let c256_i32_322 : BitVec 32 := 256#32
  let c0_i32_35 : BitVec 32 := 0#32
  let c1_i32_37 : BitVec 32 := 1#32
  let arg7 : BitVec 32 := Scf.iv c0_i32_35 c1_i32_37 k0_t1
  let c16_i32_316 : BitVec 32 := 16#32
  let v732 : BitVec 32 := Scalar.muli arg7 c16_i32_316
  let c13_i32 : BitVec 32 := 13#32
  let v733 : BitVec 32 := Scalar.addi v732 c13_i32
  let c1_i32_319 : BitVec 32 := 1#32
  let v737 : BitVec 32 := Scalar.addi v733 c1_i32_319
  let c15_i32_320 : BitVec 32 := 15#32
  let v738 : BitVec 32 := Scalar.minsi v737 c15_i32_320
  let c512_i32_321 : BitVec 32 := 512#32
  let v739 : BitVec 32 := Scalar.muli v738 c512_i32_321
  let v740 : BitVec 32 := Scalar.addi c256_i32_322 v739
  v740
def k0_mult29 (i : grid0.Coords) (k0_t1 : Fin (k0_t1_loop i).trips) : BitVec 32 :=
  let c256_i32_339 : BitVec 32 := 256#32
  let c0_i32_35 : BitVec 32 := 0#32
  let c1_i32_37 : BitVec 32 := 1#32
  let arg7 : BitVec 32 := Scf.iv c0_i32_35 c1_i32_37 k0_t1
  let c16_i32_337 : BitVec 32 := 16#32
  let v782 : BitVec 32 := Scalar.muli arg7 c16_i32_337
  let c14_i32 : BitVec 32 := 14#32
  let v783 : BitVec 32 := Scalar.addi v782 c14_i32
  let c512_i32_338 : BitVec 32 := 512#32
  let v784 : BitVec 32 := Scalar.muli v783 c512_i32_338
  let v785 : BitVec 32 := Scalar.addi c256_i32_339 v784
  v785
def k0_mult30 (i : grid0.Coords) (k0_t1 : Fin (k0_t1_loop i).trips) : BitVec 32 :=
  let c256_i32_343 : BitVec 32 := 256#32
  let c0_i32_35 : BitVec 32 := 0#32
  let c1_i32_37 : BitVec 32 := 1#32
  let arg7 : BitVec 32 := Scf.iv c0_i32_35 c1_i32_37 k0_t1
  let c16_i32_337 : BitVec 32 := 16#32
  let v782 : BitVec 32 := Scalar.muli arg7 c16_i32_337
  let c14_i32 : BitVec 32 := 14#32
  let v783 : BitVec 32 := Scalar.addi v782 c14_i32
  let c1_i32_340 : BitVec 32 := 1#32
  let v787 : BitVec 32 := Scalar.addi v783 c1_i32_340
  let c15_i32_341 : BitVec 32 := 15#32
  let v788 : BitVec 32 := Scalar.minsi v787 c15_i32_341
  let c512_i32_342 : BitVec 32 := 512#32
  let v789 : BitVec 32 := Scalar.muli v788 c512_i32_342
  let v790 : BitVec 32 := Scalar.addi c256_i32_343 v789
  v790
def k0_mult31 (i : grid0.Coords) (k0_t1 : Fin (k0_t1_loop i).trips) : BitVec 32 :=
  let c256_i32_361 : BitVec 32 := 256#32
  let c0_i32_35 : BitVec 32 := 0#32
  let c1_i32_37 : BitVec 32 := 1#32
  let arg7 : BitVec 32 := Scf.iv c0_i32_35 c1_i32_37 k0_t1
  let c16_i32_358 : BitVec 32 := 16#32
  let v832 : BitVec 32 := Scalar.muli arg7 c16_i32_358
  let c15_i32_359 : BitVec 32 := 15#32
  let v833 : BitVec 32 := Scalar.addi v832 c15_i32_359
  let c512_i32_360 : BitVec 32 := 512#32
  let v834 : BitVec 32 := Scalar.muli v833 c512_i32_360
  let v835 : BitVec 32 := Scalar.addi c256_i32_361 v834
  v835
def k0_mult32 (i : grid0.Coords) (k0_t1 : Fin (k0_t1_loop i).trips) : BitVec 32 :=
  let c256_i32_365 : BitVec 32 := 256#32
  let c0_i32_35 : BitVec 32 := 0#32
  let c1_i32_37 : BitVec 32 := 1#32
  let arg7 : BitVec 32 := Scf.iv c0_i32_35 c1_i32_37 k0_t1
  let c16_i32_358 : BitVec 32 := 16#32
  let v832 : BitVec 32 := Scalar.muli arg7 c16_i32_358
  let c15_i32_359 : BitVec 32 := 15#32
  let v833 : BitVec 32 := Scalar.addi v832 c15_i32_359
  let c1_i32_362 : BitVec 32 := 1#32
  let v837 : BitVec 32 := Scalar.addi v833 c1_i32_362
  let c15_i32_363 : BitVec 32 := 15#32
  let v838 : BitVec 32 := Scalar.minsi v837 c15_i32_363
  let c512_i32_364 : BitVec 32 := 512#32
  let v839 : BitVec 32 := Scalar.muli v838 c512_i32_364
  let v840 : BitVec 32 := Scalar.addi c256_i32_365 v839
  v840
@[reducible] def k0_t2_loop (i : grid0.Coords) : Scf.Loop 32 :=
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let v57 : BitVec 32 := Scalar.addi c0_i32_35 v56
  let c1_i32_38 : BitVec 32 := 1#32
  ⟨v60, v57, c1_i32_38⟩
def k0_mult33 (i : grid0.Coords) (k0_t2 : Fin (k0_t2_loop i).trips) : BitVec 32 :=
  let c256_i32 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32 : BitVec 32 := 16#32
  let v82 : BitVec 32 := Scalar.muli arg7 c16_i32
  let c0_i32_45 : BitVec 32 := 0#32
  let v83 : BitVec 32 := Scalar.addi v82 c0_i32_45
  let c512_i32 : BitVec 32 := 512#32
  let v84 : BitVec 32 := Scalar.muli v83 c512_i32
  let v85 : BitVec 32 := Scalar.addi c256_i32 v84
  v85
def k0_mult34 (i : grid0.Coords) (k0_t2 : Fin (k0_t2_loop i).trips) : BitVec 32 :=
  let c256_i32_48 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32 : BitVec 32 := 16#32
  let v82 : BitVec 32 := Scalar.muli arg7 c16_i32
  let c0_i32_45 : BitVec 32 := 0#32
  let v83 : BitVec 32 := Scalar.addi v82 c0_i32_45
  let c1_i32_46 : BitVec 32 := 1#32
  let v87 : BitVec 32 := Scalar.addi v83 c1_i32_46
  let c15_i32 : BitVec 32 := 15#32
  let v88 : BitVec 32 := Scalar.minsi v87 c15_i32
  let c512_i32_47 : BitVec 32 := 512#32
  let v89 : BitVec 32 := Scalar.muli v88 c512_i32_47
  let v90 : BitVec 32 := Scalar.addi c256_i32_48 v89
  v90
def k0_off5 (i : grid0.Coords) (k0_t2 : Fin (k0_t2_loop i).trips) (c0_i32_45 : BitVec 32) : Fin 3 → Nat :=
  let c0_49 : Index := 0#32
  let c256_i32_48 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32 : BitVec 32 := 16#32
  let v82 : BitVec 32 := Scalar.muli arg7 c16_i32
  let v83 : BitVec 32 := Scalar.addi v82 c0_i32_45
  let c1_i32_46 : BitVec 32 := 1#32
  let v87 : BitVec 32 := Scalar.addi v83 c1_i32_46
  let c15_i32 : BitVec 32 := 15#32
  let v88 : BitVec 32 := Scalar.minsi v87 c15_i32
  let c512_i32_47 : BitVec 32 := 512#32
  let v89 : BitVec 32 := Scalar.muli v88 c512_i32_47
  let v90 : BitVec 32 := Scalar.addi c256_i32_48 v89
  let v91 : BitVec 32 := v90
  let v92 : Index := Scalar.indexCast v91
  let c0_50 : Index := 0#32
  ![0, v92.toNat, 0]
def k0_off6 (i : grid0.Coords) (k0_t2 : Fin (k0_t2_loop i).trips) (c0_i32_45 : BitVec 32) : Fin 3 → Nat :=
  let c0_53 : Index := 0#32
  let c256_i32_48 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32 : BitVec 32 := 16#32
  let v82 : BitVec 32 := Scalar.muli arg7 c16_i32
  let v83 : BitVec 32 := Scalar.addi v82 c0_i32_45
  let c1_i32_46 : BitVec 32 := 1#32
  let v87 : BitVec 32 := Scalar.addi v83 c1_i32_46
  let c15_i32 : BitVec 32 := 15#32
  let v88 : BitVec 32 := Scalar.minsi v87 c15_i32
  let c512_i32_47 : BitVec 32 := 512#32
  let v89 : BitVec 32 := Scalar.muli v88 c512_i32_47
  let v90 : BitVec 32 := Scalar.addi c256_i32_48 v89
  let v91 : BitVec 32 := v90
  let v98 : Index := Scalar.indexCast v91
  let c128_54 : Index := 128#32
  ![0, v98.toNat, 128]
def k0_off7 (i : grid0.Coords) (k0_t2 : Fin (k0_t2_loop i).trips) (c0_i32_45 : BitVec 32) : Fin 3 → Nat :=
  let c0_57 : Index := 0#32
  let c256_i32 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32 : BitVec 32 := 16#32
  let v82 : BitVec 32 := Scalar.muli arg7 c16_i32
  let v83 : BitVec 32 := Scalar.addi v82 c0_i32_45
  let c512_i32 : BitVec 32 := 512#32
  let v84 : BitVec 32 := Scalar.muli v83 c512_i32
  let v85 : BitVec 32 := Scalar.addi c256_i32 v84
  let v86 : BitVec 32 := v85
  let v104 : Index := Scalar.indexCast v86
  let c0_58 : Index := 0#32
  ![0, v104.toNat, 0]
def k0_off8 (i : grid0.Coords) (k0_t2 : Fin (k0_t2_loop i).trips) (c0_i32_45 : BitVec 32) : Fin 3 → Nat :=
  let c0_60 : Index := 0#32
  let c256_i32 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32 : BitVec 32 := 16#32
  let v82 : BitVec 32 := Scalar.muli arg7 c16_i32
  let v83 : BitVec 32 := Scalar.addi v82 c0_i32_45
  let c512_i32 : BitVec 32 := 512#32
  let v84 : BitVec 32 := Scalar.muli v83 c512_i32
  let v85 : BitVec 32 := Scalar.addi c256_i32 v84
  let v86 : BitVec 32 := v85
  let v118 : Index := Scalar.indexCast v86
  let c128_61 : Index := 128#32
  ![0, v118.toNat, 128]
def k0_mult35 (i : grid0.Coords) (k0_t2 : Fin (k0_t2_loop i).trips) : BitVec 32 :=
  let c256_i32_66 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_63 : BitVec 32 := 16#32
  let v132 : BitVec 32 := Scalar.muli arg7 c16_i32_63
  let c1_i32_64 : BitVec 32 := 1#32
  let v133 : BitVec 32 := Scalar.addi v132 c1_i32_64
  let c512_i32_65 : BitVec 32 := 512#32
  let v134 : BitVec 32 := Scalar.muli v133 c512_i32_65
  let v135 : BitVec 32 := Scalar.addi c256_i32_66 v134
  v135
def k0_mult36 (i : grid0.Coords) (k0_t2 : Fin (k0_t2_loop i).trips) : BitVec 32 :=
  let c256_i32_70 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_63 : BitVec 32 := 16#32
  let v132 : BitVec 32 := Scalar.muli arg7 c16_i32_63
  let c1_i32_64 : BitVec 32 := 1#32
  let v133 : BitVec 32 := Scalar.addi v132 c1_i32_64
  let c1_i32_67 : BitVec 32 := 1#32
  let v137 : BitVec 32 := Scalar.addi v133 c1_i32_67
  let c15_i32_68 : BitVec 32 := 15#32
  let v138 : BitVec 32 := Scalar.minsi v137 c15_i32_68
  let c512_i32_69 : BitVec 32 := 512#32
  let v139 : BitVec 32 := Scalar.muli v138 c512_i32_69
  let v140 : BitVec 32 := Scalar.addi c256_i32_70 v139
  v140
def k0_mult37 (i : grid0.Coords) (k0_t2 : Fin (k0_t2_loop i).trips) : BitVec 32 :=
  let c256_i32_87 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_85 : BitVec 32 := 16#32
  let v182 : BitVec 32 := Scalar.muli arg7 c16_i32_85
  let c2_i32 : BitVec 32 := 2#32
  let v183 : BitVec 32 := Scalar.addi v182 c2_i32
  let c512_i32_86 : BitVec 32 := 512#32
  let v184 : BitVec 32 := Scalar.muli v183 c512_i32_86
  let v185 : BitVec 32 := Scalar.addi c256_i32_87 v184
  v185
def k0_mult38 (i : grid0.Coords) (k0_t2 : Fin (k0_t2_loop i).trips) : BitVec 32 :=
  let c256_i32_91 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_85 : BitVec 32 := 16#32
  let v182 : BitVec 32 := Scalar.muli arg7 c16_i32_85
  let c2_i32 : BitVec 32 := 2#32
  let v183 : BitVec 32 := Scalar.addi v182 c2_i32
  let c1_i32_88 : BitVec 32 := 1#32
  let v187 : BitVec 32 := Scalar.addi v183 c1_i32_88
  let c15_i32_89 : BitVec 32 := 15#32
  let v188 : BitVec 32 := Scalar.minsi v187 c15_i32_89
  let c512_i32_90 : BitVec 32 := 512#32
  let v189 : BitVec 32 := Scalar.muli v188 c512_i32_90
  let v190 : BitVec 32 := Scalar.addi c256_i32_91 v189
  v190
def k0_mult39 (i : grid0.Coords) (k0_t2 : Fin (k0_t2_loop i).trips) : BitVec 32 :=
  let c256_i32_108 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_106 : BitVec 32 := 16#32
  let v232 : BitVec 32 := Scalar.muli arg7 c16_i32_106
  let c3_i32 : BitVec 32 := 3#32
  let v233 : BitVec 32 := Scalar.addi v232 c3_i32
  let c512_i32_107 : BitVec 32 := 512#32
  let v234 : BitVec 32 := Scalar.muli v233 c512_i32_107
  let v235 : BitVec 32 := Scalar.addi c256_i32_108 v234
  v235
def k0_mult40 (i : grid0.Coords) (k0_t2 : Fin (k0_t2_loop i).trips) : BitVec 32 :=
  let c256_i32_112 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_106 : BitVec 32 := 16#32
  let v232 : BitVec 32 := Scalar.muli arg7 c16_i32_106
  let c3_i32 : BitVec 32 := 3#32
  let v233 : BitVec 32 := Scalar.addi v232 c3_i32
  let c1_i32_109 : BitVec 32 := 1#32
  let v237 : BitVec 32 := Scalar.addi v233 c1_i32_109
  let c15_i32_110 : BitVec 32 := 15#32
  let v238 : BitVec 32 := Scalar.minsi v237 c15_i32_110
  let c512_i32_111 : BitVec 32 := 512#32
  let v239 : BitVec 32 := Scalar.muli v238 c512_i32_111
  let v240 : BitVec 32 := Scalar.addi c256_i32_112 v239
  v240
def k0_mult41 (i : grid0.Coords) (k0_t2 : Fin (k0_t2_loop i).trips) : BitVec 32 :=
  let c256_i32_129 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_127 : BitVec 32 := 16#32
  let v282 : BitVec 32 := Scalar.muli arg7 c16_i32_127
  let c4_i32 : BitVec 32 := 4#32
  let v283 : BitVec 32 := Scalar.addi v282 c4_i32
  let c512_i32_128 : BitVec 32 := 512#32
  let v284 : BitVec 32 := Scalar.muli v283 c512_i32_128
  let v285 : BitVec 32 := Scalar.addi c256_i32_129 v284
  v285
def k0_mult42 (i : grid0.Coords) (k0_t2 : Fin (k0_t2_loop i).trips) : BitVec 32 :=
  let c256_i32_133 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_127 : BitVec 32 := 16#32
  let v282 : BitVec 32 := Scalar.muli arg7 c16_i32_127
  let c4_i32 : BitVec 32 := 4#32
  let v283 : BitVec 32 := Scalar.addi v282 c4_i32
  let c1_i32_130 : BitVec 32 := 1#32
  let v287 : BitVec 32 := Scalar.addi v283 c1_i32_130
  let c15_i32_131 : BitVec 32 := 15#32
  let v288 : BitVec 32 := Scalar.minsi v287 c15_i32_131
  let c512_i32_132 : BitVec 32 := 512#32
  let v289 : BitVec 32 := Scalar.muli v288 c512_i32_132
  let v290 : BitVec 32 := Scalar.addi c256_i32_133 v289
  v290
def k0_mult43 (i : grid0.Coords) (k0_t2 : Fin (k0_t2_loop i).trips) : BitVec 32 :=
  let c256_i32_150 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_148 : BitVec 32 := 16#32
  let v332 : BitVec 32 := Scalar.muli arg7 c16_i32_148
  let c5_i32 : BitVec 32 := 5#32
  let v333 : BitVec 32 := Scalar.addi v332 c5_i32
  let c512_i32_149 : BitVec 32 := 512#32
  let v334 : BitVec 32 := Scalar.muli v333 c512_i32_149
  let v335 : BitVec 32 := Scalar.addi c256_i32_150 v334
  v335
def k0_mult44 (i : grid0.Coords) (k0_t2 : Fin (k0_t2_loop i).trips) : BitVec 32 :=
  let c256_i32_154 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_148 : BitVec 32 := 16#32
  let v332 : BitVec 32 := Scalar.muli arg7 c16_i32_148
  let c5_i32 : BitVec 32 := 5#32
  let v333 : BitVec 32 := Scalar.addi v332 c5_i32
  let c1_i32_151 : BitVec 32 := 1#32
  let v337 : BitVec 32 := Scalar.addi v333 c1_i32_151
  let c15_i32_152 : BitVec 32 := 15#32
  let v338 : BitVec 32 := Scalar.minsi v337 c15_i32_152
  let c512_i32_153 : BitVec 32 := 512#32
  let v339 : BitVec 32 := Scalar.muli v338 c512_i32_153
  let v340 : BitVec 32 := Scalar.addi c256_i32_154 v339
  v340
def k0_mult45 (i : grid0.Coords) (k0_t2 : Fin (k0_t2_loop i).trips) : BitVec 32 :=
  let c256_i32_171 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_169 : BitVec 32 := 16#32
  let v382 : BitVec 32 := Scalar.muli arg7 c16_i32_169
  let c6_i32 : BitVec 32 := 6#32
  let v383 : BitVec 32 := Scalar.addi v382 c6_i32
  let c512_i32_170 : BitVec 32 := 512#32
  let v384 : BitVec 32 := Scalar.muli v383 c512_i32_170
  let v385 : BitVec 32 := Scalar.addi c256_i32_171 v384
  v385
def k0_mult46 (i : grid0.Coords) (k0_t2 : Fin (k0_t2_loop i).trips) : BitVec 32 :=
  let c256_i32_175 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_169 : BitVec 32 := 16#32
  let v382 : BitVec 32 := Scalar.muli arg7 c16_i32_169
  let c6_i32 : BitVec 32 := 6#32
  let v383 : BitVec 32 := Scalar.addi v382 c6_i32
  let c1_i32_172 : BitVec 32 := 1#32
  let v387 : BitVec 32 := Scalar.addi v383 c1_i32_172
  let c15_i32_173 : BitVec 32 := 15#32
  let v388 : BitVec 32 := Scalar.minsi v387 c15_i32_173
  let c512_i32_174 : BitVec 32 := 512#32
  let v389 : BitVec 32 := Scalar.muli v388 c512_i32_174
  let v390 : BitVec 32 := Scalar.addi c256_i32_175 v389
  v390
def k0_mult47 (i : grid0.Coords) (k0_t2 : Fin (k0_t2_loop i).trips) : BitVec 32 :=
  let c256_i32_192 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_190 : BitVec 32 := 16#32
  let v432 : BitVec 32 := Scalar.muli arg7 c16_i32_190
  let c7_i32 : BitVec 32 := 7#32
  let v433 : BitVec 32 := Scalar.addi v432 c7_i32
  let c512_i32_191 : BitVec 32 := 512#32
  let v434 : BitVec 32 := Scalar.muli v433 c512_i32_191
  let v435 : BitVec 32 := Scalar.addi c256_i32_192 v434
  v435
def k0_mult48 (i : grid0.Coords) (k0_t2 : Fin (k0_t2_loop i).trips) : BitVec 32 :=
  let c256_i32_196 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_190 : BitVec 32 := 16#32
  let v432 : BitVec 32 := Scalar.muli arg7 c16_i32_190
  let c7_i32 : BitVec 32 := 7#32
  let v433 : BitVec 32 := Scalar.addi v432 c7_i32
  let c1_i32_193 : BitVec 32 := 1#32
  let v437 : BitVec 32 := Scalar.addi v433 c1_i32_193
  let c15_i32_194 : BitVec 32 := 15#32
  let v438 : BitVec 32 := Scalar.minsi v437 c15_i32_194
  let c512_i32_195 : BitVec 32 := 512#32
  let v439 : BitVec 32 := Scalar.muli v438 c512_i32_195
  let v440 : BitVec 32 := Scalar.addi c256_i32_196 v439
  v440
def k0_mult49 (i : grid0.Coords) (k0_t2 : Fin (k0_t2_loop i).trips) : BitVec 32 :=
  let c256_i32_213 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_211 : BitVec 32 := 16#32
  let v482 : BitVec 32 := Scalar.muli arg7 c16_i32_211
  let c8_i32 : BitVec 32 := 8#32
  let v483 : BitVec 32 := Scalar.addi v482 c8_i32
  let c512_i32_212 : BitVec 32 := 512#32
  let v484 : BitVec 32 := Scalar.muli v483 c512_i32_212
  let v485 : BitVec 32 := Scalar.addi c256_i32_213 v484
  v485
def k0_mult50 (i : grid0.Coords) (k0_t2 : Fin (k0_t2_loop i).trips) : BitVec 32 :=
  let c256_i32_217 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_211 : BitVec 32 := 16#32
  let v482 : BitVec 32 := Scalar.muli arg7 c16_i32_211
  let c8_i32 : BitVec 32 := 8#32
  let v483 : BitVec 32 := Scalar.addi v482 c8_i32
  let c1_i32_214 : BitVec 32 := 1#32
  let v487 : BitVec 32 := Scalar.addi v483 c1_i32_214
  let c15_i32_215 : BitVec 32 := 15#32
  let v488 : BitVec 32 := Scalar.minsi v487 c15_i32_215
  let c512_i32_216 : BitVec 32 := 512#32
  let v489 : BitVec 32 := Scalar.muli v488 c512_i32_216
  let v490 : BitVec 32 := Scalar.addi c256_i32_217 v489
  v490
def k0_mult51 (i : grid0.Coords) (k0_t2 : Fin (k0_t2_loop i).trips) : BitVec 32 :=
  let c256_i32_234 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_232 : BitVec 32 := 16#32
  let v532 : BitVec 32 := Scalar.muli arg7 c16_i32_232
  let c9_i32 : BitVec 32 := 9#32
  let v533 : BitVec 32 := Scalar.addi v532 c9_i32
  let c512_i32_233 : BitVec 32 := 512#32
  let v534 : BitVec 32 := Scalar.muli v533 c512_i32_233
  let v535 : BitVec 32 := Scalar.addi c256_i32_234 v534
  v535
def k0_mult52 (i : grid0.Coords) (k0_t2 : Fin (k0_t2_loop i).trips) : BitVec 32 :=
  let c256_i32_238 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_232 : BitVec 32 := 16#32
  let v532 : BitVec 32 := Scalar.muli arg7 c16_i32_232
  let c9_i32 : BitVec 32 := 9#32
  let v533 : BitVec 32 := Scalar.addi v532 c9_i32
  let c1_i32_235 : BitVec 32 := 1#32
  let v537 : BitVec 32 := Scalar.addi v533 c1_i32_235
  let c15_i32_236 : BitVec 32 := 15#32
  let v538 : BitVec 32 := Scalar.minsi v537 c15_i32_236
  let c512_i32_237 : BitVec 32 := 512#32
  let v539 : BitVec 32 := Scalar.muli v538 c512_i32_237
  let v540 : BitVec 32 := Scalar.addi c256_i32_238 v539
  v540
def k0_mult53 (i : grid0.Coords) (k0_t2 : Fin (k0_t2_loop i).trips) : BitVec 32 :=
  let c256_i32_255 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_253 : BitVec 32 := 16#32
  let v582 : BitVec 32 := Scalar.muli arg7 c16_i32_253
  let c10_i32 : BitVec 32 := 10#32
  let v583 : BitVec 32 := Scalar.addi v582 c10_i32
  let c512_i32_254 : BitVec 32 := 512#32
  let v584 : BitVec 32 := Scalar.muli v583 c512_i32_254
  let v585 : BitVec 32 := Scalar.addi c256_i32_255 v584
  v585
def k0_mult54 (i : grid0.Coords) (k0_t2 : Fin (k0_t2_loop i).trips) : BitVec 32 :=
  let c256_i32_259 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_253 : BitVec 32 := 16#32
  let v582 : BitVec 32 := Scalar.muli arg7 c16_i32_253
  let c10_i32 : BitVec 32 := 10#32
  let v583 : BitVec 32 := Scalar.addi v582 c10_i32
  let c1_i32_256 : BitVec 32 := 1#32
  let v587 : BitVec 32 := Scalar.addi v583 c1_i32_256
  let c15_i32_257 : BitVec 32 := 15#32
  let v588 : BitVec 32 := Scalar.minsi v587 c15_i32_257
  let c512_i32_258 : BitVec 32 := 512#32
  let v589 : BitVec 32 := Scalar.muli v588 c512_i32_258
  let v590 : BitVec 32 := Scalar.addi c256_i32_259 v589
  v590
def k0_mult55 (i : grid0.Coords) (k0_t2 : Fin (k0_t2_loop i).trips) : BitVec 32 :=
  let c256_i32_276 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_274 : BitVec 32 := 16#32
  let v632 : BitVec 32 := Scalar.muli arg7 c16_i32_274
  let c11_i32 : BitVec 32 := 11#32
  let v633 : BitVec 32 := Scalar.addi v632 c11_i32
  let c512_i32_275 : BitVec 32 := 512#32
  let v634 : BitVec 32 := Scalar.muli v633 c512_i32_275
  let v635 : BitVec 32 := Scalar.addi c256_i32_276 v634
  v635
def k0_mult56 (i : grid0.Coords) (k0_t2 : Fin (k0_t2_loop i).trips) : BitVec 32 :=
  let c256_i32_280 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_274 : BitVec 32 := 16#32
  let v632 : BitVec 32 := Scalar.muli arg7 c16_i32_274
  let c11_i32 : BitVec 32 := 11#32
  let v633 : BitVec 32 := Scalar.addi v632 c11_i32
  let c1_i32_277 : BitVec 32 := 1#32
  let v637 : BitVec 32 := Scalar.addi v633 c1_i32_277
  let c15_i32_278 : BitVec 32 := 15#32
  let v638 : BitVec 32 := Scalar.minsi v637 c15_i32_278
  let c512_i32_279 : BitVec 32 := 512#32
  let v639 : BitVec 32 := Scalar.muli v638 c512_i32_279
  let v640 : BitVec 32 := Scalar.addi c256_i32_280 v639
  v640
def k0_mult57 (i : grid0.Coords) (k0_t2 : Fin (k0_t2_loop i).trips) : BitVec 32 :=
  let c256_i32_297 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_295 : BitVec 32 := 16#32
  let v682 : BitVec 32 := Scalar.muli arg7 c16_i32_295
  let c12_i32 : BitVec 32 := 12#32
  let v683 : BitVec 32 := Scalar.addi v682 c12_i32
  let c512_i32_296 : BitVec 32 := 512#32
  let v684 : BitVec 32 := Scalar.muli v683 c512_i32_296
  let v685 : BitVec 32 := Scalar.addi c256_i32_297 v684
  v685
def k0_mult58 (i : grid0.Coords) (k0_t2 : Fin (k0_t2_loop i).trips) : BitVec 32 :=
  let c256_i32_301 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_295 : BitVec 32 := 16#32
  let v682 : BitVec 32 := Scalar.muli arg7 c16_i32_295
  let c12_i32 : BitVec 32 := 12#32
  let v683 : BitVec 32 := Scalar.addi v682 c12_i32
  let c1_i32_298 : BitVec 32 := 1#32
  let v687 : BitVec 32 := Scalar.addi v683 c1_i32_298
  let c15_i32_299 : BitVec 32 := 15#32
  let v688 : BitVec 32 := Scalar.minsi v687 c15_i32_299
  let c512_i32_300 : BitVec 32 := 512#32
  let v689 : BitVec 32 := Scalar.muli v688 c512_i32_300
  let v690 : BitVec 32 := Scalar.addi c256_i32_301 v689
  v690
def k0_mult59 (i : grid0.Coords) (k0_t2 : Fin (k0_t2_loop i).trips) : BitVec 32 :=
  let c256_i32_318 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_316 : BitVec 32 := 16#32
  let v732 : BitVec 32 := Scalar.muli arg7 c16_i32_316
  let c13_i32 : BitVec 32 := 13#32
  let v733 : BitVec 32 := Scalar.addi v732 c13_i32
  let c512_i32_317 : BitVec 32 := 512#32
  let v734 : BitVec 32 := Scalar.muli v733 c512_i32_317
  let v735 : BitVec 32 := Scalar.addi c256_i32_318 v734
  v735
def k0_mult60 (i : grid0.Coords) (k0_t2 : Fin (k0_t2_loop i).trips) : BitVec 32 :=
  let c256_i32_322 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_316 : BitVec 32 := 16#32
  let v732 : BitVec 32 := Scalar.muli arg7 c16_i32_316
  let c13_i32 : BitVec 32 := 13#32
  let v733 : BitVec 32 := Scalar.addi v732 c13_i32
  let c1_i32_319 : BitVec 32 := 1#32
  let v737 : BitVec 32 := Scalar.addi v733 c1_i32_319
  let c15_i32_320 : BitVec 32 := 15#32
  let v738 : BitVec 32 := Scalar.minsi v737 c15_i32_320
  let c512_i32_321 : BitVec 32 := 512#32
  let v739 : BitVec 32 := Scalar.muli v738 c512_i32_321
  let v740 : BitVec 32 := Scalar.addi c256_i32_322 v739
  v740
def k0_mult61 (i : grid0.Coords) (k0_t2 : Fin (k0_t2_loop i).trips) : BitVec 32 :=
  let c256_i32_339 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_337 : BitVec 32 := 16#32
  let v782 : BitVec 32 := Scalar.muli arg7 c16_i32_337
  let c14_i32 : BitVec 32 := 14#32
  let v783 : BitVec 32 := Scalar.addi v782 c14_i32
  let c512_i32_338 : BitVec 32 := 512#32
  let v784 : BitVec 32 := Scalar.muli v783 c512_i32_338
  let v785 : BitVec 32 := Scalar.addi c256_i32_339 v784
  v785
def k0_mult62 (i : grid0.Coords) (k0_t2 : Fin (k0_t2_loop i).trips) : BitVec 32 :=
  let c256_i32_343 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_337 : BitVec 32 := 16#32
  let v782 : BitVec 32 := Scalar.muli arg7 c16_i32_337
  let c14_i32 : BitVec 32 := 14#32
  let v783 : BitVec 32 := Scalar.addi v782 c14_i32
  let c1_i32_340 : BitVec 32 := 1#32
  let v787 : BitVec 32 := Scalar.addi v783 c1_i32_340
  let c15_i32_341 : BitVec 32 := 15#32
  let v788 : BitVec 32 := Scalar.minsi v787 c15_i32_341
  let c512_i32_342 : BitVec 32 := 512#32
  let v789 : BitVec 32 := Scalar.muli v788 c512_i32_342
  let v790 : BitVec 32 := Scalar.addi c256_i32_343 v789
  v790
def k0_mult63 (i : grid0.Coords) (k0_t2 : Fin (k0_t2_loop i).trips) : BitVec 32 :=
  let c256_i32_361 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_358 : BitVec 32 := 16#32
  let v832 : BitVec 32 := Scalar.muli arg7 c16_i32_358
  let c15_i32_359 : BitVec 32 := 15#32
  let v833 : BitVec 32 := Scalar.addi v832 c15_i32_359
  let c512_i32_360 : BitVec 32 := 512#32
  let v834 : BitVec 32 := Scalar.muli v833 c512_i32_360
  let v835 : BitVec 32 := Scalar.addi c256_i32_361 v834
  v835
def k0_mult64 (i : grid0.Coords) (k0_t2 : Fin (k0_t2_loop i).trips) : BitVec 32 :=
  let c256_i32_365 : BitVec 32 := 256#32
  let c0_i32_35 : BitVec 32 := 0#32
  let arg2 : BitVec 32 := BitVec.ofNat 32 (i 2).val
  let c0_i32 : BitVec 32 := 0#32
  let v54 : BitVec 1 := Scalar.cmpi .eq arg2 c0_i32
  let c0_i32_34 : BitVec 32 := 0#32
  let c1_i32 : BitVec 32 := 1#32
  let v55 : BitVec 32 := Scalar.select v54 c0_i32_34 c1_i32
  let v56 : BitVec 32 := Scalar.subi v55 c0_i32_35
  let c1_i32_36 : BitVec 32 := 1#32
  let v58 : BitVec 32 := Scalar.divsi v56 c1_i32_36
  let v59 : BitVec 32 := Scalar.muli v58 c1_i32_36
  let v60 : BitVec 32 := Scalar.addi c0_i32_35 v59
  let c1_i32_38 : BitVec 32 := 1#32
  let arg7 : BitVec 32 := Scf.iv v60 c1_i32_38 k0_t2
  let c16_i32_358 : BitVec 32 := 16#32
  let v832 : BitVec 32 := Scalar.muli arg7 c16_i32_358
  let c15_i32_359 : BitVec 32 := 15#32
  let v833 : BitVec 32 := Scalar.addi v832 c15_i32_359
  let c1_i32_362 : BitVec 32 := 1#32
  let v837 : BitVec 32 := Scalar.addi v833 c1_i32_362
  let c15_i32_363 : BitVec 32 := 15#32
  let v838 : BitVec 32 := Scalar.minsi v837 c15_i32_363
  let c512_i32_364 : BitVec 32 := 512#32
  let v839 : BitVec 32 := Scalar.muli v838 c512_i32_364
  let v840 : BitVec 32 := Scalar.addi c256_i32_365 v839
  v840
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x8448x1024 : Shape := ⟨3, ![4, 8448, 1024]⟩
abbrev S4x8448x8x128 : Shape := ⟨4, ![4, 8448, 8, 128]⟩
abbrev S4x8448x8x64 : Shape := ⟨4, ![4, 8448, 8, 64]⟩
abbrev S4x256x8x128 : Shape := ⟨4, ![4, 256, 8, 128]⟩
abbrev S4x256x8x64 : Shape := ⟨4, ![4, 256, 8, 64]⟩
abbrev S_ : Shape := ⟨0, ![]⟩
abbrev S4x8x256x256 : Shape := ⟨4, ![4, 8, 256, 256]⟩
abbrev S4x8x256 : Shape := ⟨3, ![4, 8, 256]⟩
abbrev S4x8x256x1 : Shape := ⟨4, ![4, 8, 256, 1]⟩
abbrev S4x8x64x256 : Shape := ⟨4, ![4, 8, 64, 256]⟩
abbrev S4x256x512 : Shape := ⟨3, ![4, 256, 512]⟩
abbrev S4x8192x8x128 : Shape := ⟨4, ![4, 8192, 8, 128]⟩
abbrev S4x8x8192x8448 : Shape := ⟨4, ![4, 8, 8192, 8448]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩
abbrev S4x8192x8x64 : Shape := ⟨4, ![4, 8192, 8, 64]⟩
abbrev S4x8192x512 : Shape := ⟨3, ![4, 8192, 512]⟩
abbrev S4x8448x512 : Shape := ⟨3, ![4, 8448, 512]⟩

abbrev nBuf : Space → Nat
  | .hbm => 63
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S4x8448x1024, .bf16⟩
  | .hbm, ⟨2, _⟩ => ⟨S4x8448x1024, .bf16⟩
  | .hbm, ⟨3, _⟩ => ⟨S4x8448x8x128, .f32⟩
  | .hbm, ⟨4, _⟩ => ⟨S4x8448x1024, .f32⟩
  | .hbm, ⟨5, _⟩ => ⟨S4x8448x8x128, .f32⟩
  | .hbm, ⟨6, _⟩ => ⟨S4x8448x1024, .f32⟩
  | .hbm, ⟨7, _⟩ => ⟨S4x8448x8x128, .f32⟩
  | .hbm, ⟨8, _⟩ => ⟨S4x8448x8x64, .f32⟩
  | .hbm, ⟨9, _⟩ => ⟨S4x256x8x128, .f32⟩
  | .hbm, ⟨10, _⟩ => ⟨S4x256x8x128, .f32⟩
  | .hbm, ⟨11, _⟩ => ⟨S4x256x8x64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x8x256x256, .f32⟩
  | .hbm, ⟨17, _⟩ => ⟨S4x8x256x256, .f32⟩
  | .hbm, ⟨18, _⟩ => ⟨S4x8x256x256, .f32⟩
  | .hbm, ⟨19, _⟩ => ⟨S_, .f32⟩
  | .hbm, ⟨20, _⟩ => ⟨S4x8x256, .f32⟩
  | .hbm, ⟨21, _⟩ => ⟨S_, .f32⟩
  | .hbm, ⟨22, _⟩ => ⟨S4x8x256, .f32⟩
  | .hbm, ⟨23, _⟩ => ⟨S4x8x256, .f32⟩
  | .hbm, ⟨24, _⟩ => ⟨S4x8x256x1, .f32⟩
  | .hbm, ⟨25, _⟩ => ⟨S4x8x256x256, .f32⟩
  | .hbm, ⟨26, _⟩ => ⟨S4x8x256x256, .f32⟩
  | .hbm, ⟨27, _⟩ => ⟨S4x8x256x256, .f32⟩
  | .hbm, ⟨28, _⟩ => ⟨S_, .f32⟩
  | .hbm, ⟨29, _⟩ => ⟨S4x8x256, .f32⟩
  | .hbm, ⟨30, _⟩ => ⟨S4x8x256x1, .f32⟩
  | .hbm, ⟨31, _⟩ => ⟨S4x8x256x256, .f32⟩
  | .hbm, ⟨32, _⟩ => ⟨S4x8x256x256, .f32⟩
  | .hbm, ⟨33, _⟩ => ⟨S4x8x64x256, .f32⟩
  | .hbm, ⟨34, _⟩ => ⟨S4x256x8x64, .f32⟩
  | .hbm, ⟨35, _⟩ => ⟨S4x256x512, .f32⟩
  | .hbm, ⟨36, _⟩ => ⟨S4x8192x8x128, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4x8x8192x8448, .f32⟩
  | .hbm, ⟨42, _⟩ => ⟨S4x8x8192x8448, .f32⟩
  | .hbm, ⟨43, _⟩ => ⟨S4x8x8192x8448, .f32⟩
  | .hbm, ⟨44, _⟩ => ⟨S_, .f32⟩
  | .hbm, ⟨45, _⟩ => ⟨S4x8x8192, .f32⟩
  | .hbm, ⟨46, _⟩ => ⟨S_, .f32⟩
  | .hbm, ⟨47, _⟩ => ⟨S4x8x8192, .f32⟩
  | .hbm, ⟨48, _⟩ => ⟨S4x8x8192, .f32⟩
  | .hbm, ⟨49, _⟩ => ⟨S4x8x8192x1, .f32⟩
  | .hbm, ⟨50, _⟩ => ⟨S4x8x8192x8448, .f32⟩
  | .hbm, ⟨51, _⟩ => ⟨S4x8x8192x8448, .f32⟩
  | .hbm, ⟨52, _⟩ => ⟨S4x8x8192x8448, .f32⟩
  | .hbm, ⟨53, _⟩ => ⟨S_, .f32⟩
  | .hbm, ⟨54, _⟩ => ⟨S4x8x8192, .f32⟩
  | .hbm, ⟨55, _⟩ => ⟨S4x8x8192x1, .f32⟩
  | .hbm, ⟨56, _⟩ => ⟨S4x8x8192x8448, .f32⟩
  | .hbm, ⟨57, _⟩ => ⟨S4x8x8192x8448, .f32⟩
  | .hbm, ⟨58, _⟩ => ⟨S4x8x64x8192, .f32⟩
  | .hbm, ⟨59, _⟩ => ⟨S4x8192x8x64, .f32⟩
  | .hbm, ⟨60, _⟩ => ⟨S4x8192x512, .f32⟩
  | .hbm, ⟨61, _⟩ => ⟨S4x8448x512, .f32⟩
  | .hbm, ⟨62, _⟩ => ⟨S4x8448x512, .bf16⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]
-- ==== Kernel2.lean ====
abbrev S4x8448x1024 : Shape := ⟨3, ![4, 8448, 1024]⟩
abbrev S4x8x6144 : Shape := ⟨3, ![4, 8, 6144]⟩
abbrev S4x8448x512 : Shape := ⟨3, ![4, 8448, 512]⟩
abbrev S4x1024x5792 : Shape := ⟨3, ![4, 1024, 5792]⟩
abbrev S4x512x1024 : Shape := ⟨3, ![4, 512, 1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S4x1024x3072 : Shape := ⟨3, ![4, 1024, 3072]⟩
abbrev S4x8192x1024 : Shape := ⟨3, ![4, 8192, 1024]⟩
abbrev S1x256x1024 : Shape := ⟨3, ![1, 256, 1024]⟩
abbrev S1x8x6144 : Shape := ⟨3, ![1, 8, 6144]⟩
abbrev S1x256x512 : Shape := ⟨3, ![1, 256, 512]⟩
abbrev S1x1024x3072 : Shape := ⟨3, ![1, 1024, 3072]⟩
abbrev S1x512x1024 : Shape := ⟨3, ![1, 512, 1024]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x1x6144 : Shape := ⟨3, ![1, 1, 6144]⟩
abbrev S1x6144 : Shape := ⟨2, ![1, 6144]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024x3072 : Shape := ⟨2, ![1024, 3072]⟩
abbrev S256x3072 : Shape := ⟨2, ![256, 3072]⟩
abbrev S256x512 : Shape := ⟨2, ![256, 512]⟩
abbrev S512x1024 : Shape := ⟨2, ![512, 1024]⟩
abbrev S1024x1024 : Shape := ⟨2, ![1024, 1024]⟩
abbrev S1024x4096 : Shape := ⟨2, ![1024, 4096]⟩
abbrev S256x4096 : Shape := ⟨2, ![256, 4096]⟩
abbrev S4096x1024 : Shape := ⟨2, ![4096, 1024]⟩

abbrev nBuf : Space → Nat
  | .hbm => 21
  | .vmem => 18
  | .smem => 0
  | _ => 0

abbrev bufTy : (tb : Table) → Fin (tcTables nBuf tb) → BufTy
  | .hbm, ⟨0, _⟩ => ⟨S4x8448x1024, .f32⟩
  | .hbm, ⟨1, _⟩ => ⟨S4x8x6144, .f32⟩
  | .hbm, ⟨2, _⟩ => ⟨S4x8448x512, .bf16⟩
  | .hbm, ⟨3, _⟩ => ⟨S4x8448x512, .bf16⟩
  | .hbm, ⟨4, _⟩ => ⟨S4x8448x512, .bf16⟩
  | .hbm, ⟨5, _⟩ => ⟨S4x1024x5792, .f32⟩
  | .hbm, ⟨6, _⟩ => ⟨S4x512x1024, .f32⟩
  | .hbm, ⟨7, _⟩ => ⟨S4x512x1024, .f32⟩
  | .hbm, ⟨8, _⟩ => ⟨S4x512x1024, .f32⟩
  | .hbm, ⟨9, _⟩ => ⟨S4x1024x1024, .f32⟩
  | .hbm, ⟨10, _⟩ => ⟨S4x1024x4096, .f32⟩
  | .hbm, ⟨11, _⟩ => ⟨S4x4096x1024, .f32⟩
  | .hbm, ⟨12, _⟩ => ⟨S4x1024x3072, .f32⟩
  | .hbm, ⟨13, _⟩ => ⟨S4x1024x3072, .bf16⟩
  | .hbm, ⟨14, _⟩ => ⟨S4x512x1024, .bf16⟩
  | .hbm, ⟨15, _⟩ => ⟨S4x512x1024, .bf16⟩
  | .hbm, ⟨16, _⟩ => ⟨S4x512x1024, .bf16⟩
  | .hbm, ⟨17, _⟩ => ⟨S4x1024x1024, .bf16⟩
  | .hbm, ⟨18, _⟩ => ⟨S4x1024x4096, .bf16⟩
  | .hbm, ⟨19, _⟩ => ⟨S4x4096x1024, .bf16⟩
  | .hbm, ⟨20, _⟩ => ⟨S4x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x6144, .f32⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x1024x3072, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x1024x1024, .bf16⟩
  | .local _ .vmem, ⟨14, _⟩ => ⟨S1x1024x4096, .bf16⟩
  | .local _ .vmem, ⟨15, _⟩ => ⟨S1x4096x1024, .bf16⟩
  | .local _ .vmem, ⟨16, _⟩ => ⟨S1x256x1024, .f32⟩
  | .local _ .vmem, ⟨17, _⟩ => ⟨S1x256x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![4, 32], ![false, false]⟩

def k0_off1 (i : grid0.Coords) : Fin 3 → Nat :=
  let c0 : Index := 0#32
  let arg1 : BitVec 32 := BitVec.ofNat 32 (i 1).val
  let c1_i32 : BitVec 32 := 1#32
  let v0 : BitVec 32 := Scalar.addi arg1 c1_i32
  let c0_i32 : BitVec 32 := 0#32
  let v1 : BitVec 1 := Scalar.cmpi .eq v0 c0_i32
  let c4_i32 : BitVec 32 := 4#32
  let arg0 : BitVec 32 := BitVec.ofNat 32 (i 0).val
  let v2 : BitVec 32 := Scalar.select v1 c4_i32 arg0
  let v3 : Index := Scalar.indexCast v2
  let c0_0 : Index := 0#32
  ![0, v3.toNat, 0]
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S4x8448x1024 : Shape := ⟨3, ![4, 8448, 1024]⟩
abbrev S4x8x6144 : Shape := ⟨3, ![4, 8, 6144]⟩
abbrev S4x8448x512 : Shape := ⟨3, ![4, 8448, 512]⟩
abbrev S4x1024x5792 : Shape := ⟨3, ![4, 1024, 5792]⟩
abbrev S4x512x1024 : Shape := ⟨3, ![4, 512, 1024]⟩
abbrev S4x1024x1024 : Shape := ⟨3, ![4, 1024, 1024]⟩
abbrev S4x1024x4096 : Shape := ⟨3, ![4, 1024, 4096]⟩
abbrev S4x4096x1024 : Shape := ⟨3, ![4, 4096, 1024]⟩
abbrev S4x8192x1024 : Shape := ⟨3, ![4, 8192, 1024]⟩
abbrev S4x8192x512 : Shape := ⟨3, ![4, 8192, 512]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1024x5792 : Shape := ⟨3, ![1, 1024, 5792]⟩
abbrev S1024x5792 : Shape := ⟨2, ![1024, 5792]⟩
abbrev S1024x3072 : Shape := ⟨2, ![1024, 3072]⟩
abbrev S4x8192x3072 : Shape := ⟨3, ![4, 8192, 3072]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024x4096 : Shape := ⟨3, ![1, 1024, 4096]⟩
abbrev S1024x4096 : Shape := ⟨2, ![1024, 4096]⟩
abbrev S4x8192x4096 : Shape := ⟨3, ![4, 8192, 4096]⟩
abbrev S1x4096x1024 : Shape := ⟨3, ![1, 4096, 1024]⟩
abbrev S4096x1024 : Shape := ⟨2, ![4096, 1024]⟩

abbrev nBuf : Space → Nat
  | .hbm => 116
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S4x8x6144, .f32⟩
  | .hbm, ⟨2, _⟩ => ⟨S4x8448x512, .bf16⟩
  | .hbm, ⟨3, _⟩ => ⟨S4x8448x512, .bf16⟩
  | .hbm, ⟨4, _⟩ => ⟨S4x8448x512, .bf16⟩
  | .hbm, ⟨5, _⟩ => ⟨S4x1024x5792, .f32⟩
  | .hbm, ⟨6, _⟩ => ⟨S4x512x1024, .f32⟩
  | .hbm, ⟨7, _⟩ => ⟨S4x512x1024, .f32⟩
  | .hbm, ⟨8, _⟩ => ⟨S4x512x1024, .f32⟩
  | .hbm, ⟨9, _⟩ => ⟨S4x1024x1024, .f32⟩
  | .hbm, ⟨10, _⟩ => ⟨S4x1024x4096, .f32⟩
  | .hbm, ⟨11, _⟩ => ⟨S4x4096x1024, .f32⟩
  | .hbm, ⟨12, _⟩ => ⟨S4x8192x1024, .f32⟩
  | .hbm, ⟨13, _⟩ => ⟨S4x8192x512, .bf16⟩
  | .hbm, ⟨14, _⟩ => ⟨S4x8192x512, .f32⟩
  | .hbm, ⟨15, _⟩ => ⟨S4x8192x512, .bf16⟩
  | .hbm, ⟨16, _⟩ => ⟨S4x8192x512, .f32⟩
  | .hbm, ⟨17, _⟩ => ⟨S4x8192x512, .bf16⟩
  | .hbm, ⟨18, _⟩ => ⟨S4x8192x512, .f32⟩
  | .hbm, ⟨19, _⟩ => ⟨S1x4x6144, .f32⟩
  | .hbm, ⟨20, _⟩ => ⟨S4x6144, .f32⟩
  | .hbm, ⟨21, _⟩ => ⟨S4x1x6144, .f32⟩
  | .hbm, ⟨22, _⟩ => ⟨S4x1x1024, .f32⟩
  | .hbm, ⟨23, _⟩ => ⟨S4x1x1024, .f32⟩
  | .hbm, ⟨24, _⟩ => ⟨S4x1x1024, .f32⟩
  | .hbm, ⟨25, _⟩ => ⟨S4x1x1024, .f32⟩
  | .hbm, ⟨26, _⟩ => ⟨S4x1x1024, .f32⟩
  | .hbm, ⟨27, _⟩ => ⟨S4x1x1024, .f32⟩
  | .hbm, ⟨28, _⟩ => ⟨S4x8192x1024, .f32⟩
  | .hbm, ⟨29, _⟩ => ⟨S_, .f32⟩
  | .hbm, ⟨30, _⟩ => ⟨S4x8192, .f32⟩
  | .hbm, ⟨31, _⟩ => ⟨S4x8192x1, .f32⟩
  | .hbm, ⟨32, _⟩ => ⟨S_, .f32⟩
  | .hbm, ⟨33, _⟩ => ⟨S4x8192x1, .f32⟩
  | .hbm, ⟨34, _⟩ => ⟨S4x8192x1, .f32⟩
  | .hbm, ⟨35, _⟩ => ⟨S_, .f32⟩
  | .hbm, ⟨36, _⟩ => ⟨S4x8192x1, .f32⟩
  | .hbm, ⟨37, _⟩ => ⟨S4x8192x1, .f32⟩
  | .hbm, ⟨38, _⟩ => ⟨S4x8192x1, .f32⟩
  | .hbm, ⟨39, _⟩ => ⟨S4x8192x1024, .f32⟩
  | .hbm, ⟨40, _⟩ => ⟨S4x8192x1024, .f32⟩
  | .hbm, ⟨41, _⟩ => ⟨S_, .f32⟩
  | .hbm, ⟨42, _⟩ => ⟨S4x1x1024, .f32⟩
  | .hbm, ⟨43, _⟩ => ⟨S4x1x1024, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | .hbm, ⟨48, _⟩ => ⟨S1x1024x5792, .f32⟩
  | .hbm, ⟨49, _⟩ => ⟨S1024x5792, .f32⟩
  | .hbm, ⟨50, _⟩ => ⟨S1024x3072, .f32⟩
  | .hbm, ⟨51, _⟩ => ⟨S4x8192x3072, .f32⟩
  | .hbm, ⟨52, _⟩ => ⟨S1x512x1024, .f32⟩
  | .hbm, ⟨53, _⟩ => ⟨S512x1024, .f32⟩
  | .hbm, ⟨54, _⟩ => ⟨S4x8192x1024, .f32⟩
  | .hbm, ⟨55, _⟩ => ⟨S1x512x1024, .f32⟩
  | .hbm, ⟨56, _⟩ => ⟨S512x1024, .f32⟩
  | .hbm, ⟨57, _⟩ => ⟨S4x8192x1024, .f32⟩
  | .hbm, ⟨58, _⟩ => ⟨S1x512x1024, .f32⟩
  | .hbm, ⟨59, _⟩ => ⟨S512x1024, .f32⟩
  | .hbm, ⟨60, _⟩ => ⟨S4x8192x1024, .f32⟩
  | .hbm, ⟨61, _⟩ => ⟨S4x8192x3072, .f32⟩
  | .hbm, ⟨62, _⟩ => ⟨S4x8192x3072, .f32⟩
  | .hbm, ⟨63, _⟩ => ⟨S_, .f32⟩
  | .hbm, ⟨64, _⟩ => ⟨S4x8192x3072, .f32⟩
  | .hbm, ⟨65, _⟩ => ⟨S4x8192x3072, .f32⟩
  | .hbm, ⟨66, _⟩ => ⟨S_, .f32⟩
  | .hbm, ⟨67, _⟩ => ⟨S4x8192x3072, .f32⟩
  | .hbm, ⟨68, _⟩ => ⟨S4x8192x3072, .f32⟩
  | .hbm, ⟨69, _⟩ => ⟨S4x8192x1024, .f32⟩
  | .hbm, ⟨70, _⟩ => ⟨S4x8192x1024, .f32⟩
  | .hbm, ⟨71, _⟩ => ⟨S4x8192x1024, .f32⟩
  | .hbm, ⟨72, _⟩ => ⟨S4x8192x1024, .f32⟩
  | .hbm, ⟨73, _⟩ => ⟨S4x8192x1024, .f32⟩
  | .hbm, ⟨74, _⟩ => ⟨S4x8192x1024, .f32⟩
  | .hbm, ⟨75, _⟩ => ⟨S4x8192x1024, .f32⟩
  | .hbm, ⟨76, _⟩ => ⟨S4x8192x1024, .f32⟩
  | .hbm, ⟨77, _⟩ => ⟨S1x1024x1024, .f32⟩
  | .hbm, ⟨78, _⟩ => ⟨S1024x1024, .f32⟩
  | .hbm, ⟨79, _⟩ => ⟨S4x8192x1024, .f32⟩
  | .hbm, ⟨80, _⟩ => ⟨S4x8192x1024, .f32⟩
  | .hbm, ⟨81, _⟩ => ⟨S4x8192x1024, .f32⟩
  | .hbm, ⟨82, _⟩ => ⟨S4x8192x1024, .f32⟩
  | .hbm, ⟨83, _⟩ => ⟨S4x8192x1024, .f32⟩
  | .hbm, ⟨84, _⟩ => ⟨S_, .f32⟩
  | .hbm, ⟨85, _⟩ => ⟨S4x8192, .f32⟩
  | .hbm, ⟨86, _⟩ => ⟨S4x8192x1, .f32⟩
  | .hbm, ⟨87, _⟩ => ⟨S_, .f32⟩
  | .hbm, ⟨88, _⟩ => ⟨S4x8192x1, .f32⟩
  | .hbm, ⟨89, _⟩ => ⟨S4x8192x1, .f32⟩
  | .hbm, ⟨90, _⟩ => ⟨S_, .f32⟩
  | .hbm, ⟨91, _⟩ => ⟨S4x8192x1, .f32⟩
  | .hbm, ⟨92, _⟩ => ⟨S4x8192x1, .f32⟩
  | .hbm, ⟨93, _⟩ => ⟨S4x8192x1, .f32⟩
  | .hbm, ⟨94, _⟩ => ⟨S4x8192x1024, .f32⟩
  | .hbm, ⟨95, _⟩ => ⟨S4x8192x1024, .f32⟩
  | .hbm, ⟨96, _⟩ => ⟨S_, .f32⟩
  | .hbm, ⟨97, _⟩ => ⟨S4x1x1024, .f32⟩
  | .hbm, ⟨98, _⟩ => ⟨S4x1x1024, .f32⟩
  | .hbm, ⟨99, _⟩ => ⟨S4x8192x1024, .f32⟩
  | .hbm, ⟨100, _⟩ => ⟨S4x8192x1024, .f32⟩
  | .hbm, ⟨101, _⟩ => ⟨S4x8192x1024, .f32⟩
  | .hbm, ⟨102, _⟩ => ⟨S4x8192x1024, .f32⟩
  | .hbm, ⟨103, _⟩ => ⟨S1x1024x4096, .f32⟩
  | .hbm, ⟨104, _⟩ => ⟨S1024x4096, .f32⟩
  | .hbm, ⟨105, _⟩ => ⟨S4x8192x4096, .f32⟩
  | .hbm, ⟨106, _⟩ => ⟨S_, .f32⟩
  | .hbm, ⟨107, _⟩ => ⟨S4x8192x4096, .f32⟩
  | .hbm, ⟨108, _⟩ => ⟨S4x8192x4096, .f32⟩
  | .hbm, ⟨109, _⟩ => ⟨S4x8192x4096, .f32⟩
  | .hbm, ⟨110, _⟩ => ⟨S1x4096x1024, .f32⟩
  | .hbm, ⟨111, _⟩ => ⟨S4096x1024, .f32⟩
  | .hbm, ⟨112, _⟩ => ⟨S4x8192x1024, .f32⟩
  | .hbm, ⟨113, _⟩ => ⟨S4x8192x1024, .f32⟩
  | .hbm, ⟨114, _⟩ => ⟨S4x8192x1024, .f32⟩
  | .hbm, ⟨115, _⟩ => ⟨S4x8192x1024, .f32⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_3 : Ref sig .tc := ⟨.hbm, 63, rfl⟩
abbrev main_v47 : Ref sig .tc := ⟨.hbm, 64, rfl⟩
abbrev main_v48 : Ref sig .tc := ⟨.hbm, 65, rfl⟩
abbrev main_cst_4 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_5 : Ref sig .tc := ⟨.hbm, 84, rfl⟩
abbrev main_v66 : Ref sig .tc := ⟨.hbm, 85, rfl⟩
abbrev main_v67 : Ref sig .tc := ⟨.hbm, 86, rfl⟩
abbrev main_cst_6 : Ref sig .tc := ⟨.hbm, 87, rfl⟩
abbrev main_v68 : Ref sig .tc := ⟨.hbm, 88, rfl⟩
abbrev main_v69 : Ref sig .tc := ⟨.hbm, 89, rfl⟩
abbrev main_cst_7 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_8 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_call0_cst : Ref sig .tc := ⟨.hbm, 106, rfl⟩
abbrev main_call0_v0 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩

abbrev nD : Nat := 1
abbrev τ : Topo := Topo.v7x

variable {F : FTy → Type} [FloatOps F]
-- ==== Kernel3.lean ====
abbrev S4x8448x1024 : Shape := ⟨3, ![4, 8448, 1024]⟩
abbrev S4x8x6144 : Shape := ⟨3, ![4, 8, 6144]⟩
abbrev S4x1024x5792 : Shape := ⟨3, ![4, 1024, 5792]⟩
abbrev S4x384 : Shape := ⟨2, ![4, 384]⟩
abbrev S4x384x768 : Shape := ⟨3, ![4, 384, 768]⟩
abbrev S4x256 : Shape := ⟨2, ![4, 256]⟩
abbrev S4x256x1024 : Shape := ⟨3, ![4, 256, 1024]⟩
abbrev S4x96 : Shape := ⟨2, ![4, 96]⟩
abbrev S8192x16 : Shape := ⟨2, ![8192, 16]⟩
abbrev S_ : Shape := ⟨0, ![]⟩
abbrev S8448x128 : Shape := ⟨2, ![8448, 128]⟩
abbrev S1 : Shape := ⟨1, ![1]⟩
abbrev S2 : Shape := ⟨1, ![2]⟩
abbrev S8448x384 : Shape := ⟨2, ![8448, 384]⟩
abbrev S4x1024x32 : Shape := ⟨3, ![4, 1024, 32]⟩
abbrev S4x1024x128 : Shape := ⟨3, ![4, 1024, 128]⟩
abbrev S4x1024x640 : Shape := ⟨3, ![4, 1024, 640]⟩
abbrev S4x1024x1024 : Shape := ⟨3, ![4, 1024, 1024]⟩
abbrev S4x1024x2816 : Shape := ⟨3, ![4, 1024, 2816]⟩
abbrev S4x384x8x96 : Shape := ⟨4, ![4, 384, 8, 96]⟩
abbrev S4x384x8x128 : Shape := ⟨4, ![4, 384, 8, 128]⟩
abbrev S4x384x1024 : Shape := ⟨3, ![4, 384, 1024]⟩
abbrev S4x256x8x128 : Shape := ⟨4, ![4, 256, 8, 128]⟩
abbrev S4x256x8x64 : Shape := ⟨4, ![4, 256, 8, 64]⟩
abbrev S4x256x512 : Shape := ⟨3, ![4, 256, 512]⟩
abbrev S4x256x2048 : Shape := ⟨3, ![4, 256, 2048]⟩
abbrev S4x128 : Shape := ⟨2, ![4, 128]⟩
abbrev S4x1x128 : Shape := ⟨3, ![4, 1, 128]⟩
abbrev S4x1x384 : Shape := ⟨3, ![4, 1, 384]⟩
abbrev S4x1x256 : Shape := ⟨3, ![4, 1, 256]⟩
abbrev S4x8448x512 : Shape := ⟨3, ![4, 8448, 512]⟩
abbrev S1x256x1024 : Shape := ⟨3, ![1, 256, 1024]⟩
abbrev S1x8x6144 : Shape := ⟨3, ![1, 8, 6144]⟩
abbrev S1x1024x2816 : Shape := ⟨3, ![1, 1024, 2816]⟩
abbrev S1x1x384 : Shape := ⟨3, ![1, 1, 384]⟩
abbrev S1x384x1024 : Shape := ⟨3, ![1, 384, 1024]⟩
abbrev S1x1x256 : Shape := ⟨3, ![1, 1, 256]⟩
abbrev S1x256x2048 : Shape := ⟨3, ![1, 256, 2048]⟩
abbrev S1x1x128 : Shape := ⟨3, ![1, 1, 128]⟩
abbrev S256x384 : Shape := ⟨2, ![256, 384]⟩
abbrev S1x256x512 : Shape := ⟨3, ![1, 256, 512]⟩
abbrev S1x1x6144 : Shape := ⟨3, ![1, 1, 6144]⟩
abbrev S1x6144 : Shape := ⟨2, ![1, 6144]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1x1024x768 : Shape := ⟨3, ![1, 1024, 768]⟩
abbrev S1024x768 : Shape := ⟨2, ![1024, 768]⟩
abbrev S256x768 : Shape := ⟨2, ![256, 768]⟩
abbrev S256x256 : Shape := ⟨2, ![256, 256]⟩
abbrev S256x128 : Shape := ⟨2, ![256, 128]⟩
abbrev S1x384 : Shape := ⟨2, ![1, 384]⟩
abbrev S384x1024 : Shape := ⟨2, ![384, 1024]⟩
abbrev S1x256 : Shape := ⟨2, ![1, 256]⟩
abbrev S256x2048 : Shape := ⟨2, ![256, 2048]⟩
abbrev S1x1024x2048 : Shape := ⟨3, ![1, 1024, 2048]⟩
abbrev S1024x2048 : Shape := ⟨2, ![1024, 2048]⟩
abbrev S256x512 : Shape := ⟨2, ![256, 512]⟩
abbrev S1x128 : Shape := ⟨2, ![1, 128]⟩
abbrev S1x256x128 : Shape := ⟨3, ![1, 256, 128]⟩

abbrev nBuf : Space → Nat
  | .hbm => 91
  | .vmem => 24
  | .smem => 0
  | _ => 0

abbrev bufTy : (tb : Table) → Fin (tcTables nBuf tb) → BufTy
  | .hbm, ⟨0, _⟩ => ⟨S4x8448x1024, .f32⟩
  | .hbm, ⟨1, _⟩ => ⟨S4x8x6144, .f32⟩
  | .hbm, ⟨2, _⟩ => ⟨S4x1024x5792, .f32⟩
  | .hbm, ⟨3, _⟩ => ⟨S4x384, .f32⟩
  | .hbm, ⟨4, _⟩ => ⟨S4x384x768, .f32⟩
  | .hbm, ⟨5, _⟩ => ⟨S4x256, .f32⟩
  | .hbm, ⟨6, _⟩ => ⟨S4x256x1024, .f32⟩
  | .hbm, ⟨7, _⟩ => ⟨S4x96, .f32⟩
  | .hbm, ⟨8, _⟩ => ⟨S4x96, .f32⟩
  | .hbm, ⟨9, _⟩ => ⟨S8192x16, .f32⟩
  | .hbm, ⟨10, _⟩ => ⟨S8192x16, .f32⟩
  | .hbm, ⟨11, _⟩ => ⟨S_, .f32⟩
  | .hbm, ⟨12, _⟩ => ⟨S8448x128, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S8448x128, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S8448x128, .f32⟩
  | .hbm, ⟨25, _⟩ => ⟨S_, .f32⟩
  | .hbm, ⟨26, _⟩ => ⟨S8448x128, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S8448x128, .f32⟩
  | .hbm, ⟨33, _⟩ => ⟨S_, .f32⟩
  | .hbm, ⟨34, _⟩ => ⟨S8448x128, .f32⟩
  | .hbm, ⟨35, _⟩ => ⟨S8192x16, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S8448x128, .f32⟩
  | .hbm, ⟨42, _⟩ => ⟨S8448x384, .f32⟩
  | .hbm, ⟨43, _⟩ => ⟨S4x1024x32, .f32⟩
  | .hbm, ⟨44, _⟩ => ⟨S_, .i32⟩
  | .hbm, ⟨45, _⟩ => ⟨S_, .f32⟩
  | .hbm, ⟨46, _⟩ => ⟨S4x1024x128, .f32⟩
  | .hbm, ⟨47, _⟩ => ⟨S4x1024x640, .f32⟩
  | .hbm, ⟨48, _⟩ => ⟨S4x1024x1024, .f32⟩
  | .hbm, ⟨49, _⟩ => ⟨S4x1024x1024, .f32⟩
  | .hbm, ⟨50, _⟩ => ⟨S4x1024x2816, .f32⟩
  | .hbm, ⟨51, _⟩ => ⟨S4x1024x2816, .bf16⟩
  | .hbm, ⟨52, _⟩ => ⟨S4x384x8x96, .f32⟩
  | .hbm, ⟨53, _⟩ => ⟨S_, .i32⟩
  | .hbm, ⟨54, _⟩ => ⟨S_, .f32⟩
  | .hbm, ⟨55, _⟩ => ⟨S4x384x8x128, .f32⟩
  | .hbm, ⟨56, _⟩ => ⟨S4x384x1024, .f32⟩
  | .hbm, ⟨57, _⟩ => ⟨S4x384x1024, .bf16⟩
  | .hbm, ⟨58, _⟩ => ⟨S4x256x8x128, .f32⟩
  | .hbm, ⟨59, _⟩ => ⟨S4x256x8x64, .f32⟩
  | .hbm, ⟨60, _⟩ => ⟨S4x256x512, .f32⟩
  | .hbm, ⟨61, _⟩ => ⟨S4x256x8x64, .f32⟩
  | .hbm, ⟨62, _⟩ => ⟨S_, .i32⟩
  | .hbm, ⟨63, _⟩ => ⟨S_, .f32⟩
  | .hbm, ⟨64, _⟩ => ⟨S4x256x8x128, .f32⟩
  | .hbm, ⟨65, _⟩ => ⟨S4x256x1024, .f32⟩
  | .hbm, ⟨66, _⟩ => ⟨S4x256x8x64, .f32⟩
  | .hbm, ⟨67, _⟩ => ⟨S4x256x512, .f32⟩
  | .hbm, ⟨68, _⟩ => ⟨S4x256x8x64, .f32⟩
  | .hbm, ⟨69, _⟩ => ⟨S_, .i32⟩
  | .hbm, ⟨70, _⟩ => ⟨S_, .f32⟩
  | .hbm, ⟨71, _⟩ => ⟨S4x256x8x128, .f32⟩
  | .hbm, ⟨72, _⟩ => ⟨S4x256x1024, .f32⟩
  | .hbm, ⟨73, _⟩ => ⟨S4x256x2048, .f32⟩
  | .hbm, ⟨74, _⟩ => ⟨S4x256x2048, .bf16⟩
  | .hbm, ⟨75, _⟩ => ⟨S_, .i32⟩
  | .hbm, ⟨76, _⟩ => ⟨S_, .f32⟩
  | .hbm, ⟨77, _⟩ => ⟨S4x128, .f32⟩
  | .hbm, ⟨78, _⟩ => ⟨S4x1x128, .f32⟩
  | .hbm, ⟨79, _⟩ => ⟨S_, .i32⟩
  | .hbm, ⟨80, _⟩ => ⟨S_, .f32⟩
  | .hbm, ⟨81, _⟩ => ⟨S4x128, .f32⟩
  | .hbm, ⟨82, _⟩ => ⟨S4x1x128, .f32⟩
  | .hbm, ⟨83, _⟩ => ⟨S4x1x384, .f32⟩
  | .hbm, ⟨84, _⟩ => ⟨S4x1x256, .f32⟩
  | .hbm, ⟨85, _⟩ => ⟨S4x8448x512, .f32⟩
  | .hbm, ⟨86, _⟩ => ⟨S4x8448x512, .f32⟩
  | .hbm, ⟨87, _⟩ => ⟨S4x8448x512, .f32⟩
  | .hbm, ⟨88, _⟩ => ⟨S4x8448x1024, .bf16⟩
  | .hbm, ⟨89, _⟩ => ⟨S4x8448x1024, .bf16⟩
  | .hbm, ⟨90, _⟩ => ⟨S4x8448x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x8x6144, .f32⟩
  | .local _ .vmem, ⟨3, _⟩ => ⟨S1x1024x2816, .bf16⟩
  | .local _ .vmem, ⟨4, _⟩ => ⟨S1x1x384, .f32⟩
  | .local _ .vmem, ⟨5, _⟩ => ⟨S1x384x1024, .bf16⟩
  | .local _ .vmem, ⟨6, _⟩ => ⟨S1x1x256, .f32⟩
  | .local _ .vmem, ⟨7, _⟩ => ⟨S1x256x2048, .bf16⟩
  | .local _ .vmem, ⟨8, _⟩ => ⟨S1x1x128, .f32⟩
  | .local _ .vmem, ⟨9, _⟩ => ⟨S1x1x128, .f32⟩
  | .local _ .vmem, ⟨10, _⟩ => ⟨S256x384, .f32⟩
  | .local _ .vmem, ⟨11, _⟩ => ⟨S256x384, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x1024, .bf16⟩
  | .local _ .vmem, ⟨19, _⟩ => ⟨S1x256x1024, .bf16⟩
  | .local _ .vmem, ⟨20, _⟩ => ⟨S1x256x1024, .bf16⟩
  | .local _ .vmem, ⟨21, _⟩ => ⟨S1x256x1024, .bf16⟩
  | .local _ .vmem, ⟨22, _⟩ => ⟨S1x256x1024, .bf16⟩
  | .local _ .vmem, ⟨23, _⟩ => ⟨S1x256x1024, .bf16⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_1 : Ref sig .tc := ⟨.hbm, 19, rfl⟩
abbrev main_v5 : Ref sig .tc := ⟨.hbm, 20, rfl⟩
abbrev main_c_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_c_4 : Ref sig .tc := ⟨.hbm, 27, rfl⟩
abbrev main_v10 : Ref sig .tc := ⟨.hbm, 28, rfl⟩
abbrev main_c_5 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_6 : Ref sig .tc := ⟨.hbm, 33, rfl⟩
abbrev main_v14 : Ref sig .tc := ⟨.hbm, 34, rfl⟩
abbrev main_v15 : Ref sig .tc := ⟨.hbm, 35, rfl⟩
abbrev main_c_7 : Ref sig .tc := ⟨.hbm, 36, rfl⟩
abbrev main_v16 : Ref sig .tc := ⟨.hbm, 37, rfl⟩
abbrev main_c_8 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_9 : Ref sig .tc := ⟨.hbm, 44, rfl⟩
abbrev main_call0_v0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_10 : Ref sig .tc := ⟨.hbm, 53, rfl⟩
abbrev main_call1_v0 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_11 : Ref sig .tc := ⟨.hbm, 62, rfl⟩
abbrev main_call2_v0 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_12 : Ref sig .tc := ⟨.hbm, 69, rfl⟩
abbrev main_call3_v0 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_13 : Ref sig .tc := ⟨.hbm, 75, rfl⟩
abbrev main_call4_v0 : Ref sig .tc := ⟨.hbm, 76, rfl⟩
abbrev main_v45 : Ref sig .tc := ⟨.hbm, 77, rfl⟩
abbrev main_v46 : Ref sig .tc := ⟨.hbm, 78, rfl⟩
abbrev main_c_14 : Ref sig .tc := ⟨.hbm, 79, rfl⟩
abbrev main_call5_v0 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51_0 : Ref sig .tc := ⟨.hbm, 85, rfl⟩
abbrev main_v51_1 : Ref sig .tc := ⟨.hbm, 86, rfl⟩
abbrev main_v51_2 : Ref sig .tc := ⟨.hbm, 87, rfl⟩
abbrev main_v51_3 : Ref sig .tc := ⟨.hbm, 88, rfl⟩
abbrev main_v51_4 : Ref sig .tc := ⟨.hbm, 89, rfl⟩
abbrev main_v51_5 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![4, 33], ![false, false]⟩

def k0_off1 (i : grid0.Coords) : Fin 3 → Nat :=
  let c0 : Index := 0#32
  let arg1 : BitVec 32 := BitVec.ofNat 32 (i 1).val
  let c0_i32 : BitVec 32 := 0#32
  let v0 : BitVec 1 := Scalar.cmpi .eq arg1 c0_i32
  let c4_i32 : BitVec 32 := 4#32
  let arg0 : BitVec 32 := BitVec.ofNat 32 (i 0).val
  let v1 : BitVec 32 := Scalar.select v0 c4_i32 arg0
  let v2 : Index := Scalar.indexCast v1
  let c0_0 : Index := 0#32
  ![0, v2.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Kernel3Ideal.lean ====
variable {F : FTy → Type} [FloatOps F] [Named F]
def κ : String → Option EReal := fun
  | "inv_qk" => some ((1 / 96 : ℝ) : EReal)
  | "inv_qr" => some ((1 / 384 : ℝ) : EReal)
  | _ => none
-- ==== Reference3Ideal.lean ====
abbrev S4x8448x1024 : Shape := ⟨3, ![4, 8448, 1024]⟩
abbrev S4x8x6144 : Shape := ⟨3, ![4, 8, 6144]⟩
abbrev S4x1024x5792 : Shape := ⟨3, ![4, 1024, 5792]⟩
abbrev S4x384 : Shape := ⟨2, ![4, 384]⟩
abbrev S4x384x768 : Shape := ⟨3, ![4, 384, 768]⟩
abbrev S4x256 : Shape := ⟨2, ![4, 256]⟩
abbrev S4x256x1024 : Shape := ⟨3, ![4, 256, 1024]⟩
abbrev S4x96 : Shape := ⟨2, ![4, 96]⟩
abbrev S8192x16 : Shape := ⟨2, ![8192, 16]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S1x1x6144 : Shape := ⟨3, ![1, 1, 6144]⟩
abbrev S6144 : Shape := ⟨1, ![6144]⟩
abbrev S1024 : Shape := ⟨1, ![1024]⟩
abbrev S4x8192x1024 : Shape := ⟨3, ![4, 8192, 1024]⟩
abbrev S_ : Shape := ⟨0, ![]⟩
abbrev S4x8192 : Shape := ⟨2, ![4, 8192]⟩
abbrev S4x8192x1 : Shape := ⟨3, ![4, 8192, 1]⟩
abbrev S4x256x1 : Shape := ⟨3, ![4, 256, 1]⟩
abbrev S1x1x1024 : Shape := ⟨3, ![1, 1, 1024]⟩
abbrev S1x1024x5792 : Shape := ⟨3, ![1, 1024, 5792]⟩
abbrev S1024x5792 : Shape := ⟨2, ![1024, 5792]⟩
abbrev S4x8448x5792 : Shape := ⟨3, ![4, 8448, 5792]⟩
abbrev S4x8448x512 : Shape := ⟨3, ![4, 8448, 512]⟩
abbrev S4x8448x384 : Shape := ⟨3, ![4, 8448, 384]⟩
abbrev S4x8448x256 : Shape := ⟨3, ![4, 8448, 256]⟩
abbrev S4x8448x32 : Shape := ⟨3, ![4, 8448, 32]⟩
abbrev S4x8448x3072 : Shape := ⟨3, ![4, 8448, 3072]⟩
abbrev S4x8448 : Shape := ⟨2, ![4, 8448]⟩
abbrev S4x8448x1 : Shape := ⟨3, ![4, 8448, 1]⟩
abbrev S1x384 : Shape := ⟨2, ![1, 384]⟩
abbrev S384 : Shape := ⟨1, ![384]⟩
abbrev S1x1x384 : Shape := ⟨3, ![1, 1, 384]⟩
abbrev S1x384x768 : Shape := ⟨3, ![1, 384, 768]⟩
abbrev S384x768 : Shape := ⟨2, ![384, 768]⟩
abbrev S4x8448x768 : Shape := ⟨3, ![4, 8448, 768]⟩
abbrev S4x8448x8x96 : Shape := ⟨4, ![4, 8448, 8, 96]⟩
abbrev S1x256 : Shape := ⟨2, ![1, 256]⟩
abbrev S256 : Shape := ⟨1, ![256]⟩
abbrev S1x1x256 : Shape := ⟨3, ![1, 1, 256]⟩
abbrev S1x256x1024 : Shape := ⟨3, ![1, 256, 1024]⟩
abbrev S256x1024 : Shape := ⟨2, ![256, 1024]⟩
abbrev S4x8448x8x128 : Shape := ⟨4, ![4, 8448, 8, 128]⟩
abbrev S4x8448x8x64 : Shape := ⟨4, ![4, 8448, 8, 64]⟩
abbrev S4x8448x1x32 : Shape := ⟨4, ![4, 8448, 1, 32]⟩
abbrev S4x8448x8x32 : Shape := ⟨4, ![4, 8448, 8, 32]⟩
abbrev S4x8448x8 : Shape := ⟨3, ![4, 8448, 8]⟩
abbrev S4x8448x8x1 : Shape := ⟨4, ![4, 8448, 8, 1]⟩
abbrev S1x96 : Shape := ⟨2, ![1, 96]⟩
abbrev S96 : Shape := ⟨1, ![96]⟩
abbrev S1x1x1x96 : Shape := ⟨4, ![1, 1, 1, 96]⟩
abbrev S4x256x8x96 : Shape := ⟨4, ![4, 256, 8, 96]⟩
abbrev S4x8192x8x96 : Shape := ⟨4, ![4, 8192, 8, 96]⟩
abbrev S4x8192x8x64 : Shape := ⟨4, ![4, 8192, 8, 64]⟩
abbrev S4x8192x8x32 : Shape := ⟨4, ![4, 8192, 8, 32]⟩
abbrev S1x8192x1x16 : Shape := ⟨4, ![1, 8192, 1, 16]⟩
abbrev S4x8192x8x16 : Shape := ⟨4, ![4, 8192, 8, 16]⟩
abbrev S4x8448x8x65 : Shape := ⟨4, ![4, 8448, 8, 65]⟩

abbrev nBuf : Space → Nat
  | .hbm => 239
  | .vmem => 0
  | .smem => 0
  | _ => 0

abbrev hbmTy0_0 (i : Nat) : BufTy := match i % 128 with
  | 0 => ⟨S4x8448x1024, .f32⟩
  | 1 => ⟨S4x8x6144, .f32⟩
  | 2 => ⟨S4x1024x5792, .f32⟩
  | 3 => ⟨S4x384, .f32⟩
  | 4 => ⟨S4x384x768, .f32⟩
  | 5 => ⟨S4x256, .f32⟩
  | 6 => ⟨S4x256x1024, .f32⟩
  | 7 => ⟨S4x96, .f32⟩
  | 8 => ⟨S4x96, .f32⟩
  | 9 => ⟨S8192x16, .f32⟩
  | 10 => ⟨S8192x16, .f32⟩
  | 11 => ⟨S1x4x6144, .f32⟩
  | 12 => ⟨S4x6144, .f32⟩
  | 13 => ⟨S4x1x6144, .f32⟩
  | 14 => ⟨S4x1x1024, .f32⟩
  | 15 => ⟨S4x1x1024, .f32⟩
  | 16 => ⟨S4x1x1024, .f32⟩
  | 17 => ⟨S4x1x1024, .f32⟩
  | 18 => ⟨S4x1x1024, .f32⟩
  | 19 => ⟨S4x1x1024, .f32⟩
  | 20 => ⟨S1x1x6144, .f32⟩
  | 21 => ⟨S6144, .f32⟩
  | 22 => ⟨S1024, .f32⟩
  | 23 => ⟨S1024, .f32⟩
  | 24 => ⟨S1024, .f32⟩
  | 25 => ⟨S1024, .f32⟩
  | 26 => ⟨S1024, .f32⟩
  | 27 => ⟨S1024, .f32⟩
  | 28 => ⟨S4x8192x1024, .f32⟩
  | 29 => ⟨S4x8192x1024, .f32⟩
  | 30 => ⟨S_, .f32⟩
  | 31 => ⟨S4x8192, .f32⟩
  | 32 => ⟨S4x8192x1, .f32⟩
  | 33 => ⟨S_, .f32⟩
  | 34 => ⟨S4x8192x1, .f32⟩
  | 35 => ⟨S4x8192x1, .f32⟩
  | 36 => ⟨S_, .f32⟩
  | 37 => ⟨S4x8192x1, .f32⟩
  | 38 => ⟨S4x8192x1, .f32⟩
  | 39 => ⟨S4x8192x1, .f32⟩
  | 40 => ⟨S4x8192x1024, .f32⟩
  | 41 => ⟨S4x8192x1024, .f32⟩
  | 42 => ⟨S_, .f32⟩
  | 43 => ⟨S4x1x1024, .f32⟩
  | 44 => ⟨S4x1x1024, .f32⟩
  | 45 => ⟨S4x8192x1024, .f32⟩
  | 46 => ⟨S4x8192x1024, .f32⟩
  | 47 => ⟨S4x8192x1024, .f32⟩
  | 48 => ⟨S4x8192x1024, .f32⟩
  | 49 => ⟨S4x256x1024, .f32⟩
  | 50 => ⟨S4x256x1024, .f32⟩
  | 51 => ⟨S_, .f32⟩
  | 52 => ⟨S4x256, .f32⟩
  | 53 => ⟨S4x256x1, .f32⟩
  | 54 => ⟨S_, .f32⟩
  | 55 => ⟨S4x256x1, .f32⟩
  | 56 => ⟨S4x256x1, .f32⟩
  | 57 => ⟨S_, .f32⟩
  | 58 => ⟨S4x256x1, .f32⟩
  | 59 => ⟨S4x256x1, .f32⟩
  | 60 => ⟨S4x256x1, .f32⟩
  | 61 => ⟨S4x256x1024, .f32⟩
  | 62 => ⟨S4x256x1024, .f32⟩
  | 63 => ⟨S_, .f32⟩
  | 64 => ⟨S1024, .f32⟩
  | 65 => ⟨S1024, .f32⟩
  | 66 => ⟨S1x1x1024, .f32⟩
  | 67 => ⟨S4x256x1024, .f32⟩
  | 68 => ⟨S4x256x1024, .f32⟩
  | 69 => ⟨S1x1x1024, .f32⟩
  | 70 => ⟨S4x256x1024, .f32⟩
  | 71 => ⟨S4x256x1024, .f32⟩
  | 72 => ⟨S4x8448x1024, .f32⟩
  | 73 => ⟨S1x1024x5792, .f32⟩
  | 74 => ⟨S1024x5792, .f32⟩
  | 75 => ⟨S4x8448x5792, .f32⟩
  | 76 => ⟨S4x8448x512, .f32⟩
  | 77 => ⟨S4x8448x512, .f32⟩
  | 78 => ⟨S4x8448x384, .f32⟩
  | 79 => ⟨S4x8448x256, .f32⟩
  | 80 => ⟨S4x8448x32, .f32⟩
  | 81 => ⟨S4x8448x1024, .f32⟩
  | 82 => ⟨S4x8448x3072, .f32⟩
  | 83 => ⟨S4x8448x512, .f32⟩
  | 84 => ⟨S4x8448x512, .f32⟩
  | 85 => ⟨S4x8448x512, .f32⟩
  | 86 => ⟨S4x8448x512, .f32⟩
  | 87 => ⟨S_, .f32⟩
  | 88 => ⟨S4x8448x512, .f32⟩
  | 89 => ⟨S4x8448x512, .f32⟩
  | 90 => ⟨S_, .f32⟩
  | 91 => ⟨S4x8448x512, .f32⟩
  | 92 => ⟨S4x8448x512, .f32⟩
  | 93 => ⟨S4x8448x512, .f32⟩
  | 94 => ⟨S4x8448x384, .f32⟩
  | 95 => ⟨S_, .f32⟩
  | 96 => ⟨S4x8448, .f32⟩
  | 97 => ⟨S4x8448x1, .f32⟩
  | 98 => ⟨S_, .f32⟩
  | 99 => ⟨S4x8448x1, .f32⟩
  | 100 => ⟨S4x8448x1, .f32⟩
  | 101 => ⟨S_, .f32⟩
  | 102 => ⟨S4x8448x1, .f32⟩
  | 103 => ⟨S4x8448x1, .f32⟩
  | 104 => ⟨S4x8448x1, .f32⟩
  | 105 => ⟨S4x8448x384, .f32⟩
  | 106 => ⟨S4x8448x384, .f32⟩
  | 107 => ⟨S1x384, .f32⟩
  | 108 => ⟨S384, .f32⟩
  | 109 => ⟨S1x1x384, .f32⟩
  | 110 => ⟨S4x8448x384, .f32⟩
  | 111 => ⟨S4x8448x384, .f32⟩
  | 112 => ⟨S1x384x768, .f32⟩
  | 113 => ⟨S384x768, .f32⟩
  | 114 => ⟨S4x8448x768, .f32⟩
  | 115 => ⟨S4x8448x8x96, .f32⟩
  | 116 => ⟨S4x8448x256, .f32⟩
  | 117 => ⟨S_, .f32⟩
  | 118 => ⟨S4x8448, .f32⟩
  | 119 => ⟨S4x8448x1, .f32⟩
  | 120 => ⟨S_, .f32⟩
  | 121 => ⟨S4x8448x1, .f32⟩
  | 122 => ⟨S4x8448x1, .f32⟩
  | 123 => ⟨S_, .f32⟩
  | 124 => ⟨S4x8448x1, .f32⟩
  | 125 => ⟨S4x8448x1, .f32⟩
  | 126 => ⟨S4x8448x1, .f32⟩
  | 127 => ⟨S4x8448x256, .f32⟩
  | _ => ⟨S4x8448x1024, .f32⟩

abbrev hbmTy0_1 (i : Nat) : BufTy := match i % 128 with
  | 0 => ⟨S4x8448x256, .f32⟩
  | 1 => ⟨S1x256, .f32⟩
  | 2 => ⟨S256, .f32⟩
  | 3 => ⟨S1x1x256, .f32⟩
  | 4 => ⟨S4x8448x256, .f32⟩
  | 5 => ⟨S4x8448x256, .f32⟩
  | 6 => ⟨S1x256x1024, .f32⟩
  | 7 => ⟨S256x1024, .f32⟩
  | 8 => ⟨S4x8448x1024, .f32⟩
  | 9 => ⟨S4x8448x8x128, .f32⟩
  | 10 => ⟨S4x8448x8x64, .f32⟩
  | 11 => ⟨S4x8448x8x64, .f32⟩
  | 12 => ⟨S4x8448x1x32, .f32⟩
  | 13 => ⟨S4x8448x8x32, .f32⟩
  | 14 => ⟨S4x8448x8x96, .f32⟩
  | 15 => ⟨S4x8448x8x96, .f32⟩
  | 16 => ⟨S_, .f32⟩
  | 17 => ⟨S4x8448x8, .f32⟩
  | 18 => ⟨S4x8448x8x1, .f32⟩
  | 19 => ⟨S_, .f32⟩
  | 20 => ⟨S4x8448x8x1, .f32⟩
  | 21 => ⟨S4x8448x8x1, .f32⟩
  | 22 => ⟨S_, .f32⟩
  | 23 => ⟨S4x8448x8x1, .f32⟩
  | 24 => ⟨S4x8448x8x1, .f32⟩
  | 25 => ⟨S4x8448x8x1, .f32⟩
  | 26 => ⟨S4x8448x8x96, .f32⟩
  | 27 => ⟨S4x8448x8x96, .f32⟩
  | 28 => ⟨S1x96, .f32⟩
  | 29 => ⟨S96, .f32⟩
  | 30 => ⟨S1x1x1x96, .f32⟩
  | 31 => ⟨S4x8448x8x96, .f32⟩
  | 32 => ⟨S4x8448x8x96, .f32⟩
  | 33 => ⟨S4x256x8x96, .f32⟩
  | 34 => ⟨S4x8192x8x96, .f32⟩
  | 35 => ⟨S4x8192x8x64, .f32⟩
  | 36 => ⟨S4x8192x8x32, .f32⟩
  | 37 => ⟨S1x8192x1x16, .f32⟩
  | 38 => ⟨S1x8192x1x16, .f32⟩
  | 39 => ⟨S4x8192x8x16, .f32⟩
  | 40 => ⟨S4x8192x8x16, .f32⟩
  | 41 => ⟨S4x8192x8x16, .f32⟩
  | 42 => ⟨S4x8192x8x16, .f32⟩
  | 43 => ⟨S4x8192x8x16, .f32⟩
  | 44 => ⟨S4x8192x8x16, .f32⟩
  | 45 => ⟨S4x8192x8x16, .f32⟩
  | 46 => ⟨S4x8192x8x16, .f32⟩
  | 47 => ⟨S4x8192x8x16, .f32⟩
  | 48 => ⟨S4x8192x8x16, .f32⟩
  | 49 => ⟨S4x8192x8x16, .f32⟩
  | 50 => ⟨S4x8192x8x16, .f32⟩
  | 51 => ⟨S4x8192x8x32, .f32⟩
  | 52 => ⟨S4x8192x8x96, .f32⟩
  | 53 => ⟨S4x8448x8x96, .f32⟩
  | 54 => ⟨S4x8448x8x96, .f32⟩
  | 55 => ⟨S_, .f32⟩
  | 56 => ⟨S4x8448x8, .f32⟩
  | 57 => ⟨S4x8448x8x1, .f32⟩
  | 58 => ⟨S_, .f32⟩
  | 59 => ⟨S4x8448x8x1, .f32⟩
  | 60 => ⟨S4x8448x8x1, .f32⟩
  | 61 => ⟨S_, .f32⟩
  | 62 => ⟨S4x8448x8x1, .f32⟩
  | 63 => ⟨S4x8448x8x1, .f32⟩
  | 64 => ⟨S4x8448x8x1, .f32⟩
  | 65 => ⟨S4x8448x8x96, .f32⟩
  | 66 => ⟨S4x8448x8x96, .f32⟩
  | 67 => ⟨S1x96, .f32⟩
  | 68 => ⟨S96, .f32⟩
  | 69 => ⟨S1x1x1x96, .f32⟩
  | 70 => ⟨S4x8448x8x96, .f32⟩
  | 71 => ⟨S4x8448x8x96, .f32⟩
  | 72 => ⟨S4x256x8x96, .f32⟩
  | 73 => ⟨S4x8192x8x96, .f32⟩
  | 74 => ⟨S4x8192x8x64, .f32⟩
  | 75 => ⟨S4x8192x8x32, .f32⟩
  | 76 => ⟨S1x8192x1x16, .f32⟩
  | 77 => ⟨S1x8192x1x16, .f32⟩
  | 78 => ⟨S4x8192x8x16, .f32⟩
  | 79 => ⟨S4x8192x8x16, .f32⟩
  | 80 => ⟨S4x8192x8x16, .f32⟩
  | 81 => ⟨S4x8192x8x16, .f32⟩
  | 82 => ⟨S4x8192x8x16, .f32⟩
  | 83 => ⟨S4x8192x8x16, .f32⟩
  | 84 => ⟨S4x8192x8x16, .f32⟩
  | 85 => ⟨S4x8192x8x16, .f32⟩
  | 86 => ⟨S4x8192x8x16, .f32⟩
  | 87 => ⟨S4x8192x8x16, .f32⟩
  | 88 => ⟨S4x8192x8x16, .f32⟩
  | 89 => ⟨S4x8192x8x16, .f32⟩
  | 90 => ⟨S4x8192x8x32, .f32⟩
  | 91 => ⟨S4x8192x8x96, .f32⟩
  | 92 => ⟨S4x8448x8x96, .f32⟩
  | 93 => ⟨S_, .f32⟩
  | 94 => ⟨S4x8448x8x1, .f32⟩
  | 95 => ⟨S4x8448x8x65, .f32⟩
  | 96 => ⟨S_, .i32⟩
  | 97 => ⟨S_, .f32⟩
  | 98 => ⟨S4x8448x8x128, .f32⟩
  | 99 => ⟨S4x8448x1024, .f32⟩
  | 100 => ⟨S4x8448x1024, .bf16⟩
  | 101 => ⟨S_, .i32⟩
  | 102 => ⟨S_, .f32⟩
  | 103 => ⟨S4x8448x8x128, .f32⟩
  | 104 => ⟨S4x8448x1024, .f32⟩
  | 105 => ⟨S4x8448x1024, .bf16⟩
  | 106 => ⟨S_, .i32⟩
  | 107 => ⟨S_, .f32⟩
  | 108 => ⟨S4x8448x8x128, .f32⟩
  | 109 => ⟨S4x8448x1024, .f32⟩
  | 110 => ⟨S4x8448x1024, .bf16⟩
  | _ => ⟨S4x8448x1024, .f32⟩

abbrev hbmTy (i : Nat) : BufTy := match i / 128 with
  | 0 => hbmTy0_0 i
  | 1 => hbmTy0_1 i
  | _ => ⟨S4x8448x1024, .f32⟩

abbrev bufTy : (tb : Table) → Fin (tcTables nBuf tb) → BufTy
  | .hbm, ⟨i, _⟩ => hbmTy i
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_cst_4 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_7 : Ref sig .tc := ⟨.hbm, 87, rfl⟩
abbrev main_v68 : Ref sig .tc := ⟨.hbm, 88, rfl⟩
abbrev main_v69 : Ref sig .tc := ⟨.hbm, 89, rfl⟩
abbrev main_cst_8 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_9 : Ref sig .tc := ⟨.hbm, 95, rfl⟩
abbrev main_v74 : Ref sig .tc := ⟨.hbm, 96, rfl⟩
abbrev main_v75 : Ref sig .tc := ⟨.hbm, 97, rfl⟩
abbrev main_cst_10 : Ref sig .tc := ⟨.hbm, 98, rfl⟩
abbrev main_v76 : Ref sig .tc := ⟨.hbm, 99, rfl⟩
abbrev main_v77 : Ref sig .tc := ⟨.hbm, 100, rfl⟩
abbrev main_cst_11 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_12 : Ref sig .tc := ⟨.hbm, 117, rfl⟩
abbrev main_v93 : Ref sig .tc := ⟨.hbm, 118, rfl⟩
abbrev main_v94 : Ref sig .tc := ⟨.hbm, 119, rfl⟩
abbrev main_cst_13 : Ref sig .tc := ⟨.hbm, 120, rfl⟩
abbrev main_v95 : Ref sig .tc := ⟨.hbm, 121, rfl⟩
abbrev main_v96 : Ref sig .tc := ⟨.hbm, 122, rfl⟩
abbrev main_cst_14 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_cst_15 : Ref sig .tc := ⟨.hbm, 144, rfl⟩
abbrev main_v117 : Ref sig .tc := ⟨.hbm, 145, rfl⟩
abbrev main_v118 : Ref sig .tc := ⟨.hbm, 146, rfl⟩
abbrev main_cst_16 : Ref sig .tc := ⟨.hbm, 147, rfl⟩
abbrev main_v119 : Ref sig .tc := ⟨.hbm, 148, rfl⟩
abbrev main_v120 : Ref sig .tc := ⟨.hbm, 149, rfl⟩
abbrev main_cst_17 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_cst_18 : Ref sig .tc := ⟨.hbm, 183, rfl⟩
abbrev main_v153 : Ref sig .tc := ⟨.hbm, 184, rfl⟩
abbrev main_v154 : Ref sig .tc := ⟨.hbm, 185, rfl⟩
abbrev main_cst_19 : Ref sig .tc := ⟨.hbm, 186, rfl⟩
abbrev main_v155 : Ref sig .tc := ⟨.hbm, 187, rfl⟩
abbrev main_v156 : Ref sig .tc := ⟨.hbm, 188, rfl⟩
abbrev main_cst_20 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_cst_21 : Ref sig .tc := ⟨.hbm, 221, rfl⟩
abbrev main_v188 : Ref sig .tc := ⟨.hbm, 222, rfl⟩
abbrev main_v189 : Ref sig .tc := ⟨.hbm, 223, rfl⟩
abbrev main_c : Ref sig .tc := ⟨.hbm, 224, rfl⟩
abbrev main_call0_v0 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_c_22 : Ref sig .tc := ⟨.hbm, 229, rfl⟩
abbrev main_call1_v0 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_c_23 : Ref sig .tc := ⟨.hbm, 234, rfl⟩
abbrev main_call2_v0 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩

abbrev nD : Nat := 1
abbrev τ : Topo := Topo.v7x

variable {F : FTy → Type} [FloatOps F]
-- ==== Proof.Online.lean ====
/- The running softmax of the attention kernel, one block of keys at a time, over the extended reals: what the maximum and the
   weighted sums hold after a block, given what they held before it. Everything is stated at real scores and real values. -/
module

public import proofs.«01_k».proof.Proof.Gen.KernelIdeal.Skeleton
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe

/-- The base-two weighted sum, over the first `n` keys, of lane `l` of the values, the weights taken relative to `μ`. -/
def wsum (S V : ℕ → ℕ → ℝ) (n : ℕ) (r l : ℕ) (μ : ℝ) : ℝ :=
  ∑ j ∈ Finset.range n, (2 : ℝ) ^ (S r j - μ) * V j l

/-- What one head's running maximum and accumulator hold after the first `n` keys: a real number per row, and the weighted sums
    relative to it. -/
def Inv (S V : ℕ → ℕ → ℝ) (n : ℕ) (m : FVec Ideal S256x1 .f32) (acc : FVec Ideal S256x128 .f32) : Prop :=
  ∀ r : Fin 256, ∃ μ : ℝ, m (ix2 r 0) = ((μ : ℝ) : EReal) ∧
    ∀ l : Fin 128, acc (ix2 r l) = ((wsum S V n r l μ : ℝ) : EReal)

/-- A chunk of 512 scores starting at key `b`, with a real number per row beside it. -/
def IsChunk (S : ℕ → ℕ → ℝ) (b : ℕ) (s : FVec Ideal S256x512 .f32) (smax : FVec Ideal S256x1 .f32) : Prop :=
  (∀ (r : Fin 256) (k : Fin 512), s (ix2 r k) = ((S r (b + k) : ℝ) : EReal)) ∧
    ∀ r : Fin 256, ∃ σ : ℝ, smax (ix2 r 0) = ((σ : ℝ) : EReal)

/-- A chunk of 512 rows, starting at row `b`, of a real matrix. -/
def IsRows (V : ℕ → ℕ → ℝ) (b : ℕ) (v : Vec Ideal S1x512x128 .bf16) : Prop :=
  ∀ (k : Fin 512) (l : Fin 128), v (ix3 0 k l) = ((V (b + k) l : ℝ) : EReal)

/-- The weighted sums relative to another number are the old ones scaled. -/
theorem wsum_shift (S V : ℕ → ℕ → ℝ) (n r l : ℕ) (μ μ' : ℝ) :
    (2 : ℝ) ^ (μ - μ') * wsum S V n r l μ = wsum S V n r l μ' := by
  unfold wsum
  rw [Finset.mul_sum]
  refine Finset.sum_congr rfl fun j _ => ?_
  rw [← mul_assoc, ← Real.rpow_add (by norm_num)]
  congr 2; ring

/-- The weighted sums over `n + N` keys: those over `n`, and the `N` next. -/
theorem wsum_add (S V : ℕ → ℕ → ℝ) (n N r l : ℕ) (μ : ℝ) :
    wsum S V (n + N) r l μ = wsum S V n r l μ + ∑ k : Fin N, (2 : ℝ) ^ (S r (n + k) - μ) * V (n + k) l := by
  unfold wsum
  rw [Finset.sum_range_add]
  congr 1
  exact Finset.sum_range fun k => (2 : ℝ) ^ (S r (n + k) - μ) * V (n + k) l

/-- A finite sum of reals is the same sum in the extended reals. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The greatest of a nonempty family of reals, folded from minus infinity, is a real. -/
theorem fold_max_real {N : ℕ} (hN : 0 < N) (f : Fin N → EReal) (g : Fin N → ℝ) (h : ∀ k, f k = ((g k : ℝ) : EReal)) :
    ∃ σ : ℝ, (Finset.univ : Finset (Fin N)).fold max (⊥ : EReal) f = ((σ : ℝ) : EReal) := by
  have e : (Finset.univ : Finset (Fin N)).fold max (⊥ : EReal) f = Finset.univ.sup f := rfl
  rw [e]
  have hne : (Finset.univ : Finset (Fin N)).Nonempty := ⟨⟨0, hN⟩, Finset.mem_univ _⟩
  obtain ⟨k, -, hk⟩ := Finset.exists_mem_eq_sup Finset.univ hne f
  exact ⟨g k, hk.trans (h k)⟩

/-- The greater of two reals is the same in the extended reals. -/
theorem coe_max (a b : ℝ) : ((max a b : ℝ) : EReal) = max (a : EReal) (b : EReal) :=
  EReal.coe_strictMono.monotone.map_max

/-- The power of two of a difference of reals, in the extended reals. -/
theorem exp2_sub (a b : ℝ) :
    FloatOps.exp2 (F := Ideal) (φ := .f32) ((a : EReal) - (b : EReal)) = (((2 : ℝ) ^ (a - b) : ℝ) : EReal) := rfl

/-- The pattern of minus infinity is the least extended real. -/
theorem negInf : Ideal.ofBits .f32 0xFF800000#32 = (⊥ : EReal) := by
  simp [Ideal.ofBits, Ideal.ieee]

/-- One block of 512 keys through the update. -/
theorem Inv.step {S V : ℕ → ℕ → ℝ} {b : ℕ} {m : FVec Ideal S256x1 .f32} {acc : FVec Ideal S256x128 .f32}
    (h : Inv S V b m acc) {s : FVec Ideal S256x512 .f32} {smax : FVec Ideal S256x1 .f32} (hs : IsChunk S b s smax)
    {v : Vec Ideal S1x512x128 .bf16} (hv : IsRows V b v) :
    Inv S V (b + 512) (k0_pay6 m smax) (k0_pay7 m acc s smax v) := by
  intro r
  obtain ⟨μ, hm, hacc⟩ := h r
  obtain ⟨σ, hσ⟩ := hs.2 r
  have e6 : k0_pay6 m smax (ix2 r 0) = ((max μ σ : ℝ) : EReal) := by
    pointwise [k0_pay6]
    rw [hm, hσ, coe_max]
  refine ⟨max μ σ, e6, fun l => ?_⟩
  rw [wsum_add, ← wsum_shift S V b r l μ (max μ σ)]
  pointwise [k0_pay7]
  rw [e6, hm, hacc]
  simp only [hs.1, hv _ _]
  simp only [exp2_sub, ← EReal.coe_mul, ← coe_sum, ← EReal.coe_add]

/-- The pattern of the first maximum is a finite number. -/
theorem start_real : ∃ μ : ℝ, Ideal.ofBits .f32 0xF149F2CA#32 = ((μ : ℝ) : EReal) := by
  refine ⟨-(13234890 * 2 ^ 76), ?_⟩
  simp [Ideal.ofBits, Ideal.ieee, -EReal.coe_mul]

/-- Scores: the products of the rows of the queries with the rows of the keys. -/
def scoreOf (Q K : ℕ → ℕ → ℝ) (r j : ℕ) : ℝ := ∑ d : Fin 128, Q r d * K j d

/-- A chunk's scores and their row maxima, from real queries and keys. -/
theorem isChunk_scores {Q K : ℕ → ℕ → ℝ} {b : ℕ} {q : FVec Ideal S256x128 .bf16}
    (hq : ∀ (r : Fin 256) (l : Fin 128), q (ix2 r l) = ((Q r l : ℝ) : EReal))
    {kc : Vec Ideal S1x512x128 .bf16} (hk : IsRows K b kc) :
    IsChunk (scoreOf Q K) b (k0_pay2 q kc) (k0_pay3 q kc) := by
  have e : ∀ (r : Fin 256) (k : Fin 512), k0_pay2 q kc (ix2 r k) = ((scoreOf Q K r (b + k) : ℝ) : EReal) := by
    intro r k
    pointwise [k0_pay2]
    simp only [hq, hk _ _, ← EReal.coe_mul, ← coe_sum]
    rfl
  refine ⟨e, fun r => ?_⟩
  pointwise [k0_pay3]
  rw [negInf]
  exact fold_max_real (by norm_num) _ _ fun k => e r k

/-- The first 256 rows of a real matrix. -/
def IsHead (V : ℕ → ℕ → ℝ) (v : Vec Ideal S1x256x128 .bf16) : Prop :=
  ∀ (k : Fin 256) (l : Fin 128), v (ix3 0 k l) = ((V k l : ℝ) : EReal)

/-- The first 256 keys: the maximum and the sums start from them. -/
theorem Inv.start {Q K V : ℕ → ℕ → ℝ} {q : Vec Ideal S1x256x128 .bf16} (hq : IsHead Q q)
    {kc v : Vec Ideal S1x256x128 .bf16} (hk : IsHead K kc) (hv : IsHead V v) :
    Inv (scoreOf Q K) V 256 (k0_pay302 (k0_pay293 q kc) k0_pay300)
      (k0_pay303 (k0_pay292 q kc) (k0_pay293 q kc) k0_pay300 k0_pay301 v) := by
  have e : ∀ (r : Fin 256) (k : Fin 256), k0_pay292 q kc (ix2 r k) = ((scoreOf Q K r k : ℝ) : EReal) := by
    intro r k
    pointwise [k0_pay292, k0_pay290]
    simp only [hq _ _, hk _ _, ← EReal.coe_mul, ← coe_sum]
    rfl
  intro r
  obtain ⟨μ, hμ⟩ := start_real
  obtain ⟨σ, hσ⟩ : ∃ σ : ℝ, k0_pay293 q kc (ix2 r 0) = ((σ : ℝ) : EReal) := by
    pointwise [k0_pay293]
    rw [negInf]
    exact fold_max_real (by norm_num) _ _ fun k => e r k
  have e6 : k0_pay302 (k0_pay293 q kc) k0_pay300 (ix2 r 0) = ((max μ σ : ℝ) : EReal) := by
    pointwise [k0_pay302, k0_pay300]
    rw [hμ, hσ, coe_max]
  refine ⟨max μ σ, e6, fun l => ?_⟩
  have e0 : wsum (scoreOf Q K) V 256 r l (max μ σ)
      = (2 : ℝ) ^ (μ - max μ σ) * 0 + ∑ k : Fin 256, (2 : ℝ) ^ (scoreOf Q K r k - max μ σ) * V k l := by
    rw [mul_zero, zero_add]
    exact Finset.sum_range fun k => (2 : ℝ) ^ (scoreOf Q K r k - max μ σ) * V k l
  rw [e0]
  have e3 : k0_pay300 (F := Ideal) (ix2 r 0) = ((μ : ℝ) : EReal) := by
    pointwise [k0_pay300]
    exact hμ
  pointwise [k0_pay303, k0_pay301]
  rw [e6, e3]
  simp only [e, hv _ _]
  simp only [exp2_sub, ← EReal.coe_mul, ← coe_sum, ← EReal.coe_add, Ideal.ofBits_zero_f32, ← EReal.coe_zero]

/-- The first 256 keys, for the second head of the pair. -/
theorem Inv.start' {Q K V : ℕ → ℕ → ℝ} {q : Vec Ideal S1x256x128 .bf16} (hq : IsHead Q q)
    {kc v : Vec Ideal S1x256x128 .bf16} (hk : IsHead K kc) (hv : IsHead V v) :
    Inv (scoreOf Q K) V 256 (k0_pay305 (k0_pay295 q kc)) (k0_pay306 (k0_pay294 q kc) (k0_pay295 q kc) v) :=
  Inv.start hq hk hv

/-- A query block's rows. -/
theorem queries {Q : ℕ → ℕ → ℝ} {q : Vec Ideal S1x256x128 .bf16} (hq : IsHead Q q) (r : Fin 256) (l : Fin 128) :
    k0_pay290 q (ix2 r l) = ((Q r l : ℝ) : EReal) := by
  pointwise [k0_pay290]
  exact hq r l

end Cert.KernelIdeal.Attn

end
-- ==== Proof.Trip.lean ====
/- A trip of the key loop of the attention kernel: sixteen chunks of 512 keys, each read from the block and put through the
   running update. -/
module

public import proofs.«01_k».proof.Proof.Gen.KernelIdeal.Value
public import Idealize.ShloMosaic.Lib.Pipeline.ValueKit.Tiles
public import proofs.«01_k».proof.Proof.Online

@[expose] public section

set_option maxRecDepth 16384
set_option maxHeartbeats 400000

noncomputable section

namespace Cert.KernelIdeal.Attn

open Cert.KernelIdeal Cert.KernelIdeal.Gen Idealize.ShloMosaic Idealize.ShloMosaic.TcCoe

/-- What the key loop carries: both heads' maxima, accumulators, next scores and their maxima. -/
abbrev Carry : Type :=
  FVec Ideal S256x1 .f32 × FVec Ideal S256x1 .f32 × FVec Ideal S256x128 .f32 × FVec Ideal S256x128 .f32 ×
    FVec Ideal S256x512 .f32 × FVec Ideal S256x512 .f32 × FVec Ideal S256x1 .f32 × FVec Ideal S256x1 .f32

/-- A block of keys or values: from lane `o` on it holds the real matrix `K`. -/
def HasRows (x : Vec Ideal S1x8448x256 .bf16) (o : ℕ) (K : ℕ → ℕ → ℝ) : Prop :=
  ∀ (j : Fin 8448) (l : Fin 128) (l' : Fin 256), (l' : ℕ) = o + l → x (ix3 0 j l') = ((K j l : ℝ) : EReal)

/-- A read of 512 rows of a whole block. -/
theorem rows {arg : Memref sig Kind.tc Space.vmem S1x8448x256 EltTy.bf16} (h : arg.IsWhole)
    {x : Vec Ideal S1x8448x256 .bf16} {o : ℕ} {K : ℕ → ℕ → ℝ} (hK : HasRows x o K) (b : ℕ) (hb : b + 512 ≤ 8448)
    (ho : o + 128 ≤ 256) (off : Fin 3 → ℕ) (inb : ∀ a, off a + S1x512x128.size a ≤ S1x8448x256.size a)
    (e : off = ![0, b, o]) :
    IsRows K b (View.readAt (Elt Ideal) arg.view (Rect.unit off S1x512x128.size inb : Rect S1x8448x256).toLoadRect (h.unread x)) := by
  subst e
  intro k l
  rw [View.readAt_eq_ld, h.read_unread]
  refine (View.ld_unit_apply_of x ![0, b, o] S1x512x128.size inb (ix3 0 k l) (ix3 0 ⟨b + k, by omega⟩ ⟨o + l, by omega⟩)
    fun a => ?_).trans (hK ⟨b + k, by omega⟩ l ⟨o + l, by omega⟩ rfl)
  fin_cases a <;> rfl

/-- A read of the first 256 rows of a whole block. -/
theorem rows_head {arg : Memref sig Kind.tc Space.vmem S1x8448x256 EltTy.bf16} (h : arg.IsWhole)
    {x : Vec Ideal S1x8448x256 .bf16} {o : ℕ} {K : ℕ → ℕ → ℝ} (hK : HasRows x o K)
    (ho : o + 128 ≤ 256) (inb : ∀ a, (![0, 0, o] : Fin 3 → ℕ) a + S1x256x128.size a ≤ S1x8448x256.size a) :
    IsHead K (View.readAt (Elt Ideal) arg.view (Rect.unit ![0, 0, o] S1x256x128.size inb : Rect S1x8448x256).toLoadRect (h.unread x)) := by
  intro k l
  rw [View.readAt_eq_ld, h.read_unread]
  refine (View.ld_unit_apply_of x ![0, 0, o] S1x256x128.size inb (ix3 0 k l) (ix3 0 ⟨k, by omega⟩ ⟨o + l, by omega⟩)
    fun a => ?_).trans (hK ⟨k, by omega⟩ l ⟨o + l, by omega⟩ rfl)
  fin_cases a
  · rfl
  · exact (Nat.zero_add _).symm
  · rfl

/-- Where the trip's chunk `c` reads. -/
theorem off1 (i : grid0.Coords) (k : Fin (k0_t1_loop i).trips) (hk : (k : ℕ) = 0) (c : ℕ) (hc : c < 16)
    (b : ℕ) (hb : b = 256 + 512 * min (c + 1) 15) : k0_off1 i k (BitVec.ofNat 32 c) = ![0, b, 0] := by
  unfold k0_off1
  subst hb
  rw [hk]
  revert c
  decide +kernel

/-- Where the trip's chunk `c` reads. -/
theorem off2 (i : grid0.Coords) (k : Fin (k0_t1_loop i).trips) (hk : (k : ℕ) = 0) (c : ℕ) (hc : c < 16)
    (b : ℕ) (hb : b = 256 + 512 * min (c + 1) 15) : k0_off2 i k (BitVec.ofNat 32 c) = ![0, b, 128] := by
  unfold k0_off2
  subst hb
  rw [hk]
  revert c
  decide +kernel

/-- Where the trip's chunk `c` reads. -/
theorem off3 (i : grid0.Coords) (k : Fin (k0_t1_loop i).trips) (hk : (k : ℕ) = 0) (c : ℕ) (hc : c < 16)
    (b : ℕ) (hb : b = 256 + 512 * c) : k0_off3 i k (BitVec.ofNat 32 c) = ![0, b, 0] := by
  unfold k0_off3
  subst hb
  rw [hk]
  revert c
  decide +kernel

/-- Where the trip's chunk `c` reads. -/
theorem off4 (i : grid0.Coords) (k : Fin (k0_t1_loop i).trips) (hk : (k : ℕ) = 0) (c : ℕ) (hc : c < 16)
    (b : ℕ) (hb : b = 256 + 512 * c) : k0_off4 i k (BitVec.ofNat 32 c) = ![0, b, 128] := by
  unfold k0_off4
  subst hb
  rw [hk]
  revert c
  decide +kernel

/-- The sixteen chunks of a trip, for the first head of the pair: the first 8448 keys all told. -/
theorem trip_head0 (i : grid0.Coords) (k : Fin (k0_t1_loop i).trips) (hk : (k : ℕ) = 0)
    (arg4 arg5 : Memref sig Kind.tc Space.vmem S1x8448x256 EltTy.bf16) (h4 : arg4.IsWhole) (h5 : arg5.IsWhole)
    (x4 x5 : Vec Ideal S1x8448x256 .bf16) (v : FVec Ideal S256x128 .bf16) (acc : Carry)
    {Q K V : ℕ → ℕ → ℝ} (hq : ∀ (r : Fin 256) (l : Fin 128), v (ix2 r l) = ((Q r l : ℝ) : EReal))
    (hK : HasRows x4 0 K) (hV : HasRows x5 0 V)
    (hi : Inv (scoreOf Q K) V 256 acc.1 acc.2.2.1) (hs : IsChunk (scoreOf Q K) 256 acc.2.2.2.2.1 acc.2.2.2.2.2.2.1) :
    Inv (scoreOf Q K) V 8448 (trip_k0_t1.sl.r_145 i arg4 v (h4.unread x4) k acc) (trip_k0_t1.sl.r_146 i arg4 arg5 v (h4.unread x4) (h5.unread x5) k acc) := by
  have j0 := Inv.step hi hs
    (rows h5 hV 256 (by norm_num) (by norm_num) _ (k0_off3_inb i k 0) (off3 i k hk 0 (by norm_num) _ (by norm_num)))
  have i0 : Inv (scoreOf Q K) V 768 (trip_k0_t1.sl.r_4 acc) (trip_k0_t1.sl.r_5 i arg5 (h5.unread x5) k acc) :=
    j0
  have t0 := isChunk_scores hq
    (rows h4 hK 768 (by norm_num) (by norm_num) _ (k0_off1_inb i k 0) (off1 i k hk 0 (by norm_num) _ (by norm_num)))
  have s0 : IsChunk (scoreOf Q K) 768 (trip_k0_t1.sl.r i arg4 v (h4.unread x4) k) (trip_k0_t1.sl.r_1 i arg4 v (h4.unread x4) k) :=
    t0
  have j1 := Inv.step i0 s0
    (rows h5 hV 768 (by norm_num) (by norm_num) _ (k0_off3_inb i k 1) (off3 i k hk 1 (by norm_num) _ (by norm_num)))
  have i1 : Inv (scoreOf Q K) V 1280 (trip_k0_t1.sl.r_14 i arg4 v (h4.unread x4) k acc) (trip_k0_t1.sl.r_17 i arg4 arg5 v (h4.unread x4) (h5.unread x5) k acc) :=
    j1
  have t1 := isChunk_scores hq
    (rows h4 hK 1280 (by norm_num) (by norm_num) _ (k0_off1_inb i k 1) (off1 i k hk 1 (by norm_num) _ (by norm_num)))
  have s1 : IsChunk (scoreOf Q K) 1280 (trip_k0_t1.sl.r_9 i arg4 v (h4.unread x4) k) (trip_k0_t1.sl.r_10 i arg4 v (h4.unread x4) k) :=
    t1
  have j2 := Inv.step i1 s1
    (rows h5 hV 1280 (by norm_num) (by norm_num) _ (k0_off3_inb i k 2) (off3 i k hk 2 (by norm_num) _ (by norm_num)))
  have i2 : Inv (scoreOf Q K) V 1792 (trip_k0_t1.sl.r_24 i arg4 v (h4.unread x4) k acc) (trip_k0_t1.sl.r_25 i arg4 arg5 v (h4.unread x4) (h5.unread x5) k acc) :=
    j2
  have t2 := isChunk_scores hq
    (rows h4 hK 1792 (by norm_num) (by norm_num) _ (k0_off1_inb i k 2) (off1 i k hk 2 (by norm_num) _ (by norm_num)))
  have s2 : IsChunk (scoreOf Q K) 1792 (trip_k0_t1.sl.r_20 i arg4 v (h4.unread x4) k) (trip_k0_t1.sl.r_21 i arg4 v (h4.unread x4) k) :=
    t2
  have j3 := Inv.step i2 s2
    (rows h5 hV 1792 (by norm_num) (by norm_num) _ (k0_off3_inb i k 3) (off3 i k hk 3 (by norm_num) _ (by norm_num)))
  have i3 : Inv (scoreOf Q K) V 2304 (trip_k0_t1.sl.r_33 i arg4 v (h4.unread x4) k acc) (trip_k0_t1.sl.r_34 i arg4 arg5 v (h4.unread x4) (h5.unread x5) k acc) :=
    j3
  have t3 := isChunk_scores hq
    (rows h4 hK 2304 (by norm_num) (by norm_num) _ (k0_off1_inb i k 3) (off1 i k hk 3 (by norm_num) _ (by norm_num)))
  have s3 : IsChunk (scoreOf Q K) 2304 (trip_k0_t1.sl.r_29 i arg4 v (h4.unread x4) k) (trip_k0_t1.sl.r_30 i arg4 v (h4.unread x4) k) :=
    t3
  have j4 := Inv.step i3 s3
    (rows h5 hV 2304 (by norm_num) (by norm_num) _ (k0_off3_inb i k 4) (off3 i k hk 4 (by norm_num) _ (by norm_num)))
  have i4 : Inv (scoreOf Q K) V 2816 (trip_k0_t1.sl.r_41 i arg4 v (h4.unread x4) k acc) (trip_k0_t1.sl.r_42 i arg4 arg5 v (h4.unread x4) (h5.unread x5) k acc) :=
    j4
  have t4 := isChunk_scores hq
    (rows h4 hK 2816 (by norm_num) (by norm_num) _ (k0_off1_inb i k 4) (off1 i k hk 4 (by norm_num) _ (by norm_num)))
  have s4 : IsChunk (scoreOf Q K) 2816 (trip_k0_t1.sl.r_37 i arg4 v (h4.unread x4) k) (trip_k0_t1.sl.r_38 i arg4 v (h4.unread x4) k) :=
    t4
  have j5 := Inv.step i4 s4
    (rows h5 hV 2816 (by norm_num) (by norm_num) _ (k0_off3_inb i k 5) (off3 i k hk 5 (by norm_num) _ (by norm_num)))
  have i5 : Inv (scoreOf Q K) V 3328 (trip_k0_t1.sl.r_51 i arg4 v (h4.unread x4) k acc) (trip_k0_t1.sl.r_52 i arg4 arg5 v (h4.unread x4) (h5.unread x5) k acc) :=
    j5
  have t5 := isChunk_scores hq
    (rows h4 hK 3328 (by norm_num) (by norm_num) _ (k0_off1_inb i k 5) (off1 i k hk 5 (by norm_num) _ (by norm_num)))
  have s5 : IsChunk (scoreOf Q K) 3328 (trip_k0_t1.sl.r_47 i arg4 v (h4.unread x4) k) (trip_k0_t1.sl.r_48 i arg4 v (h4.unread x4) k) :=
    t5
  have j6 := Inv.step i5 s5
    (rows h5 hV 3328 (by norm_num) (by norm_num) _ (k0_off3_inb i k 6) (off3 i k hk 6 (by norm_num) _ (by norm_num)))
  have i6 : Inv (scoreOf Q K) V 3840 (trip_k0_t1.sl.r_61 i arg4 v (h4.unread x4) k acc) (trip_k0_t1.sl.r_64 i arg4 arg5 v (h4.unread x4) (h5.unread x5) k acc) :=
    j6
  have t6 := isChunk_scores hq
    (rows h4 hK 3840 (by norm_num) (by norm_num) _ (k0_off1_inb i k 6) (off1 i k hk 6 (by norm_num) _ (by norm_num)))
  have s6 : IsChunk (scoreOf Q K) 3840 (trip_k0_t1.sl.r_56 i arg4 v (h4.unread x4) k) (trip_k0_t1.sl.r_57 i arg4 v (h4.unread x4) k) :=
    t6
  have j7 := Inv.step i6 s6
    (rows h5 hV 3840 (by norm_num) (by norm_num) _ (k0_off3_inb i k 7) (off3 i k hk 7 (by norm_num) _ (by norm_num)))
  have i7 : Inv (scoreOf Q K) V 4352 (trip_k0_t1.sl.r_71 i arg4 v (h4.unread x4) k acc) (trip_k0_t1.sl.r_72 i arg4 arg5 v (h4.unread x4) (h5.unread x5) k acc) :=
    j7
  have t7 := isChunk_scores hq
    (rows h4 hK 4352 (by norm_num) (by norm_num) _ (k0_off1_inb i k 7) (off1 i k hk 7 (by norm_num) _ (by norm_num)))
  have s7 : IsChunk (scoreOf Q K) 4352 (trip_k0_t1.sl.r_67 i arg4 v (h4.unread x4) k) (trip_k0_t1.sl.r_68 i arg4 v (h4.unread x4) k) :=
    t7
  have j8 := Inv.step i7 s7
    (rows h5 hV 4352 (by norm_num) (by norm_num) _ (k0_off3_inb i k 8) (off3 i k hk 8 (by norm_num) _ (by norm_num)))
  have i8 : Inv (scoreOf Q K) V 4864 (trip_k0_t1.sl.r_80 i arg4 v (h4.unread x4) k acc) (trip_k0_t1.sl.r_81 i arg4 arg5 v (h4.unread x4) (h5.unread x5) k acc) :=
    j8
  have t8 := isChunk_scores hq
    (rows h4 hK 4864 (by norm_num) (by norm_num) _ (k0_off1_inb i k 8) (off1 i k hk 8 (by norm_num) _ (by norm_num)))
  have s8 : IsChunk (scoreOf Q K) 4864 (trip_k0_t1.sl.r_76 i arg4 v (h4.unread x4) k) (trip_k0_t1.sl.r_77 i arg4 v (h4.unread x4) k) :=
    t8
  have j9 := Inv.step i8 s8
    (rows h5 hV 4864 (by norm_num) (by norm_num) _ (k0_off3_inb i k 9) (off3 i k hk 9 (by norm_num) _ (by norm_num)))
  have i9 : Inv (scoreOf Q K) V 5376 (trip_k0_t1.sl.r_88 i arg4 v (h4.unread x4) k acc) (trip_k0_t1.sl.r_89 i arg4 arg5 v (h4.unread x4) (h5.unread x5) k acc) :=
    j9
  have t9 := isChunk_scores hq
    (rows h4 hK 5376 (by norm_num) (by norm_num) _ (k0_off1_inb i k 9) (off1 i k hk 9 (by norm_num) _ (by norm_num)))
  have s9 : IsChunk (scoreOf Q K) 5376 (trip_k0_t1.sl.r_84 i arg4 v (h4.unread x4) k) (trip_k0_t1.sl.r_85 i arg4 v (h4.unread x4) k) :=
    t9
  have j10 := Inv.step i9 s9
    (rows h5 hV 5376 (by norm_num) (by norm_num) _ (k0_off3_inb i k 10) (off3 i k hk 10 (by norm_num) _ (by norm_num)))
  have i10 : Inv (scoreOf Q K) V 5888 (trip_k0_t1.sl.r_98 i arg4 v (h4.unread x4) k acc) (trip_k0_t1.sl.r_99 i arg4 arg5 v (h4.unread x4) (h5.unread x5) k acc) :=
    j10
  have t10 := isChunk_scores hq
    (rows h4 hK 5888 (by norm_num) (by norm_num) _ (k0_off1_inb i k 10) (off1 i k hk 10 (by norm_num) _ (by norm_num)))
  have s10 : IsChunk (scoreOf Q K) 5888 (trip_k0_t1.sl.r_94 i arg4 v (h4.unread x4) k) (trip_k0_t1.sl.r_95 i arg4 v (h4.unread x4) k) :=
    t10
  have j11 := Inv.step i10 s10
    (rows h5 hV 5888 (by norm_num) (by norm_num) _ (k0_off3_inb i k 11) (off3 i k hk 11 (by norm_num) _ (by norm_num)))
  have i11 : Inv (scoreOf Q K) V 6400 (trip_k0_t1.sl.r_108 i arg4 v (h4.unread x4) k acc) (trip_k0_t1.sl.r_111 i arg4 arg5 v (h4.unread x4) (h5.unread x5) k acc) :=
    j11
  have t11 := isChunk_scores hq
    (rows h4 hK 6400 (by norm_num) (by norm_num) _ (k0_off1_inb i k 11) (off1 i k hk 11 (by norm_num) _ (by norm_num)))
  have s11 : IsChunk (scoreOf Q K) 6400 (trip_k0_t1.sl.r_103 i arg4 v (h4.unread x4) k) (trip_k0_t1.sl.r_104 i arg4 v (h4.unread x4) k) :=
    t11
  have j12 := Inv.step i11 s11
    (rows h5 hV 6400 (by norm_num) (by norm_num) _ (k0_off3_inb i k 12) (off3 i k hk 12 (by norm_num) _ (by norm_num)))
  have i12 : Inv (scoreOf Q K) V 6912 (trip_k0_t1.sl.r_118 i arg4 v (h4.unread x4) k acc) (trip_k0_t1.sl.r_119 i arg4 arg5 v (h4.unread x4) (h5.unread x5) k acc) :=
    j12
  have t12 := isChunk_scores hq
    (rows h4 hK 6912 (by norm_num) (by norm_num) _ (k0_off1_inb i k 12) (off1 i k hk 12 (by norm_num) _ (by norm_num)))
  have s12 : IsChunk (scoreOf Q K) 6912 (trip_k0_t1.sl.r_114 i arg4 v (h4.unread x4) k) (trip_k0_t1.sl.r_115 i arg4 v (h4.unread x4) k) :=
    t12
  have j13 := Inv.step i12 s12
    (rows h5 hV 6912 (by norm_num) (by norm_num) _ (k0_off3_inb i k 13) (off3 i k hk 13 (by norm_num) _ (by norm_num)))
  have i13 : Inv (scoreOf Q K) V 7424 (trip_k0_t1.sl.r_127 i arg4 v (h4.unread x4) k acc) (trip_k0_t1.sl.r_128 i arg4 arg5 v (h4.unread x4) (h5.unread x5) k acc) :=
    j13
  have t13 := isChunk_scores hq
    (rows h4 hK 7424 (by norm_num) (by norm_num) _ (k0_off1_inb i k 13) (off1 i k hk 13 (by norm_num) _ (by norm_num)))
  have s13 : IsChunk (scoreOf Q K) 7424 (trip_k0_t1.sl.r_123 i arg4 v (h4.unread x4) k) (trip_k0_t1.sl.r_124 i arg4 v (h4.unread x4) k) :=
    t13
  have j14 := Inv.step i13 s13
    (rows h5 hV 7424 (by norm_num) (by norm_num) _ (k0_off3_inb i k 14) (off3 i k hk 14 (by norm_num) _ (by norm_num)))
  have i14 : Inv (scoreOf Q K) V 7936 (trip_k0_t1.sl.r_135 i arg4 v (h4.unread x4) k acc) (trip_k0_t1.sl.r_136 i arg4 arg5 v (h4.unread x4) (h5.unread x5) k acc) :=
    j14
  have t14 := isChunk_scores hq
    (rows h4 hK 7936 (by norm_num) (by norm_num) _ (k0_off1_inb i k 14) (off1 i k hk 14 (by norm_num) _ (by norm_num)))
  have s14 : IsChunk (scoreOf Q K) 7936 (trip_k0_t1.sl.r_131 i arg4 v (h4.unread x4) k) (trip_k0_t1.sl.r_132 i arg4 v (h4.unread x4) k) :=
    t14
  have j15 := Inv.step i14 s14
    (rows h5 hV 7936 (by norm_num) (by norm_num) _ (k0_off3_inb i k 15) (off3 i k hk 15 (by norm_num) _ (by norm_num)))
  have i15 : Inv (scoreOf Q K) V 8448 (trip_k0_t1.sl.r_145 i arg4 v (h4.unread x4) k acc) (trip_k0_t1.sl.r_146 i arg4 arg5 v (h4.unread x4) (h5.unread x5) k acc) :=
    j15
  exact i15

/-- The sixteen chunks of a trip, for the second head of the pair: the first 8448 keys all told. -/
theorem trip_head1 (i : grid0.Coords) (k : Fin (k0_t1_loop i).trips) (hk : (k : ℕ) = 0)
    (arg4 arg5 : Memref sig Kind.tc Space.vmem S1x8448x256 EltTy.bf16) (h4 : arg4.IsWhole) (h5 : arg5.IsWhole)
    (x4 x5 : Vec Ideal S1x8448x256 .bf16) (v : FVec Ideal S256x128 .bf16) (acc : Carry)
    {Q K V : ℕ → ℕ → ℝ} (hq : ∀ (r : Fin 256) (l : Fin 128), v (ix2 r l) = ((Q r l : ℝ) : EReal))
    (hK : HasRows x4 128 K) (hV : HasRows x5 128 V)
    (hi : Inv (scoreOf Q K) V 256 acc.2.1 acc.2.2.2.1) (hs : IsChunk (scoreOf Q K) 256 acc.2.2.2.2.2.1 acc.2.2.2.2.2.2.2) :
    Inv (scoreOf Q K) V 8448 (k0_pay307 (trip_k0_t1.sl.r_134 i arg4 v (h4.unread x4) k) (trip_k0_t1.sl.r_137 i arg4 v (h4.unread x4) k acc)) (k0_pay308 (trip_k0_t1.sl.r_133 i arg4 v (h4.unread x4) k) (trip_k0_t1.sl.r_134 i arg4 v (h4.unread x4) k) (trip_k0_t1.sl.r_137 i arg4 v (h4.unread x4) k acc)
        (trip_k0_t1.sl.r_140 i arg4 arg5 v (h4.unread x4) (h5.unread x5) k acc) (trip_k0_t1.sl.r_147 i arg5 (h5.unread x5) k)) := by
  have j0 := Inv.step hi hs
    (rows h5 hV 256 (by norm_num) (by norm_num) _ (k0_off4_inb i k 0) (off4 i k hk 0 (by norm_num) _ (by norm_num)))
  have i0 : Inv (scoreOf Q K) V 768 (trip_k0_t1.sl.r_7 acc) (trip_k0_t1.sl.r_8 i arg5 (h5.unread x5) k acc) :=
    j0
  have t0 := isChunk_scores hq
    (rows h4 hK 768 (by norm_num) (by norm_num) _ (k0_off2_inb i k 0) (off2 i k hk 0 (by norm_num) _ (by norm_num)))
  have s0 : IsChunk (scoreOf Q K) 768 (trip_k0_t1.sl.r_2 i arg4 v (h4.unread x4) k) (trip_k0_t1.sl.r_3 i arg4 v (h4.unread x4) k) :=
    t0
  have j1 := Inv.step i0 s0
    (rows h5 hV 768 (by norm_num) (by norm_num) _ (k0_off4_inb i k 1) (off4 i k hk 1 (by norm_num) _ (by norm_num)))
  have i1 : Inv (scoreOf Q K) V 1280 (trip_k0_t1.sl.r_18 i arg4 v (h4.unread x4) k acc) (trip_k0_t1.sl.r_19 i arg4 arg5 v (h4.unread x4) (h5.unread x5) k acc) :=
    j1
  have t1 := isChunk_scores hq
    (rows h4 hK 1280 (by norm_num) (by norm_num) _ (k0_off2_inb i k 1) (off2 i k hk 1 (by norm_num) _ (by norm_num)))
  have s1 : IsChunk (scoreOf Q K) 1280 (trip_k0_t1.sl.r_11 i arg4 v (h4.unread x4) k) (trip_k0_t1.sl.r_12 i arg4 v (h4.unread x4) k) :=
    t1
  have j2 := Inv.step i1 s1
    (rows h5 hV 1280 (by norm_num) (by norm_num) _ (k0_off4_inb i k 2) (off4 i k hk 2 (by norm_num) _ (by norm_num)))
  have i2 : Inv (scoreOf Q K) V 1792 (trip_k0_t1.sl.r_26 i arg4 v (h4.unread x4) k acc) (trip_k0_t1.sl.r_27 i arg4 arg5 v (h4.unread x4) (h5.unread x5) k acc) :=
    j2
  have t2 := isChunk_scores hq
    (rows h4 hK 1792 (by norm_num) (by norm_num) _ (k0_off2_inb i k 2) (off2 i k hk 2 (by norm_num) _ (by norm_num)))
  have s2 : IsChunk (scoreOf Q K) 1792 (trip_k0_t1.sl.r_22 i arg4 v (h4.unread x4) k) (trip_k0_t1.sl.r_23 i arg4 v (h4.unread x4) k) :=
    t2
  have j3 := Inv.step i2 s2
    (rows h5 hV 1792 (by norm_num) (by norm_num) _ (k0_off4_inb i k 3) (off4 i k hk 3 (by norm_num) _ (by norm_num)))
  have i3 : Inv (scoreOf Q K) V 2304 (trip_k0_t1.sl.r_35 i arg4 v (h4.unread x4) k acc) (trip_k0_t1.sl.r_36 i arg4 arg5 v (h4.unread x4) (h5.unread x5) k acc) :=
    j3
  have t3 := isChunk_scores hq
    (rows h4 hK 2304 (by norm_num) (by norm_num) _ (k0_off2_inb i k 3) (off2 i k hk 3 (by norm_num) _ (by norm_num)))
  have s3 : IsChunk (scoreOf Q K) 2304 (trip_k0_t1.sl.r_31 i arg4 v (h4.unread x4) k) (trip_k0_t1.sl.r_32 i arg4 v (h4.unread x4) k) :=
    t3
  have j4 := Inv.step i3 s3
    (rows h5 hV 2304 (by norm_num) (by norm_num) _ (k0_off4_inb i k 4) (off4 i k hk 4 (by norm_num) _ (by norm_num)))
  have i4 : Inv (scoreOf Q K) V 2816 (trip_k0_t1.sl.r_43 i arg4 v (h4.unread x4) k acc) (trip_k0_t1.sl.r_46 i arg4 arg5 v (h4.unread x4) (h5.unread x5) k acc) :=
    j4
  have t4 := isChunk_scores hq
    (rows h4 hK 2816 (by norm_num) (by norm_num) _ (k0_off2_inb i k 4) (off2 i k hk 4 (by norm_num) _ (by norm_num)))
  have s4 : IsChunk (scoreOf Q K) 2816 (trip_k0_t1.sl.r_39 i arg4 v (h4.unread x4) k) (trip_k0_t1.sl.r_40 i arg4 v (h4.unread x4) k) :=
    t4
  have j5 := Inv.step i4 s4
    (rows h5 hV 2816 (by norm_num) (by norm_num) _ (k0_off4_inb i k 5) (off4 i k hk 5 (by norm_num) _ (by norm_num)))
  have i5 : Inv (scoreOf Q K) V 3328 (trip_k0_t1.sl.r_54 i arg4 v (h4.unread x4) k acc) (trip_k0_t1.sl.r_55 i arg4 arg5 v (h4.unread x4) (h5.unread x5) k acc) :=
    j5
  have t5 := isChunk_scores hq
    (rows h4 hK 3328 (by norm_num) (by norm_num) _ (k0_off2_inb i k 5) (off2 i k hk 5 (by norm_num) _ (by norm_num)))
  have s5 : IsChunk (scoreOf Q K) 3328 (trip_k0_t1.sl.r_49 i arg4 v (h4.unread x4) k) (trip_k0_t1.sl.r_50 i arg4 v (h4.unread x4) k) :=
    t5
  have j6 := Inv.step i5 s5
    (rows h5 hV 3328 (by norm_num) (by norm_num) _ (k0_off4_inb i k 6) (off4 i k hk 6 (by norm_num) _ (by norm_num)))
  have i6 : Inv (scoreOf Q K) V 3840 (trip_k0_t1.sl.r_65 i arg4 v (h4.unread x4) k acc) (trip_k0_t1.sl.r_66 i arg4 arg5 v (h4.unread x4) (h5.unread x5) k acc) :=
    j6
  have t6 := isChunk_scores hq
    (rows h4 hK 3840 (by norm_num) (by norm_num) _ (k0_off2_inb i k 6) (off2 i k hk 6 (by norm_num) _ (by norm_num)))
  have s6 : IsChunk (scoreOf Q K) 3840 (trip_k0_t1.sl.r_58 i arg4 v (h4.unread x4) k) (trip_k0_t1.sl.r_59 i arg4 v (h4.unread x4) k) :=
    t6
  have j7 := Inv.step i6 s6
    (rows h5 hV 3840 (by norm_num) (by norm_num) _ (k0_off4_inb i k 7) (off4 i k hk 7 (by norm_num) _ (by norm_num)))
  have i7 : Inv (scoreOf Q K) V 4352 (trip_k0_t1.sl.r_73 i arg4 v (h4.unread x4) k acc) (trip_k0_t1.sl.r_74 i arg4 arg5 v (h4.unread x4) (h5.unread x5) k acc) :=
    j7
  have t7 := isChunk_scores hq
    (rows h4 hK 4352 (by norm_num) (by norm_num) _ (k0_off2_inb i k 7) (off2 i k hk 7 (by norm_num) _ (by norm_num)))
  have s7 : IsChunk (scoreOf Q K) 4352 (trip_k0_t1.sl.r_69 i arg4 v (h4.unread x4) k) (trip_k0_t1.sl.r_70 i arg4 v (h4.unread x4) k) :=
    t7
  have j8 := Inv.step i7 s7
    (rows h5 hV 4352 (by norm_num) (by norm_num) _ (k0_off4_inb i k 8) (off4 i k hk 8 (by norm_num) _ (by norm_num)))
  have i8 : Inv (scoreOf Q K) V 4864 (trip_k0_t1.sl.r_82 i arg4 v (h4.unread x4) k acc) (trip_k0_t1.sl.r_83 i arg4 arg5 v (h4.unread x4) (h5.unread x5) k acc) :=
    j8
  have t8 := isChunk_scores hq
    (rows h4 hK 4864 (by norm_num) (by norm_num) _ (k0_off2_inb i k 8) (off2 i k hk 8 (by norm_num) _ (by norm_num)))
  have s8 : IsChunk (scoreOf Q K) 4864 (trip_k0_t1.sl.r_78 i arg4 v (h4.unread x4) k) (trip_k0_t1.sl.r_79 i arg4 v (h4.unread x4) k) :=
    t8
  have j9 := Inv.step i8 s8
    (rows h5 hV 4864 (by norm_num) (by norm_num) _ (k0_off4_inb i k 9) (off4 i k hk 9 (by norm_num) _ (by norm_num)))
  have i9 : Inv (scoreOf Q K) V 5376 (trip_k0_t1.sl.r_90 i arg4 v (h4.unread x4) k acc) (trip_k0_t1.sl.r_93 i arg4 arg5 v (h4.unread x4) (h5.unread x5) k acc) :=
    j9
  have t9 := isChunk_scores hq
    (rows h4 hK 5376 (by norm_num) (by norm_num) _ (k0_off2_inb i k 9) (off2 i k hk 9 (by norm_num) _ (by norm_num)))
  have s9 : IsChunk (scoreOf Q K) 5376 (trip_k0_t1.sl.r_86 i arg4 v (h4.unread x4) k) (trip_k0_t1.sl.r_87 i arg4 v (h4.unread x4) k) :=
    t9
  have j10 := Inv.step i9 s9
    (rows h5 hV 5376 (by norm_num) (by norm_num) _ (k0_off4_inb i k 10) (off4 i k hk 10 (by norm_num) _ (by norm_num)))
  have i10 : Inv (scoreOf Q K) V 5888 (trip_k0_t1.sl.r_101 i arg4 v (h4.unread x4) k acc) (trip_k0_t1.sl.r_102 i arg4 arg5 v (h4.unread x4) (h5.unread x5) k acc) :=
    j10
  have t10 := isChunk_scores hq
    (rows h4 hK 5888 (by norm_num) (by norm_num) _ (k0_off2_inb i k 10) (off2 i k hk 10 (by norm_num) _ (by norm_num)))
  have s10 : IsChunk (scoreOf Q K) 5888 (trip_k0_t1.sl.r_96 i arg4 v (h4.unread x4) k) (trip_k0_t1.sl.r_97 i arg4 v (h4.unread x4) k) :=
    t10
  have j11 := Inv.step i10 s10
    (rows h5 hV 5888 (by norm_num) (by norm_num) _ (k0_off4_inb i k 11) (off4 i k hk 11 (by norm_num) _ (by norm_num)))
  have i11 : Inv (scoreOf Q K) V 6400 (trip_k0_t1.sl.r_112 i arg4 v (h4.unread x4) k acc) (trip_k0_t1.sl.r_113 i arg4 arg5 v (h4.unread x4) (h5.unread x5) k acc) :=
    j11
  have t11 := isChunk_scores hq
    (rows h4 hK 6400 (by norm_num) (by norm_num) _ (k0_off2_inb i k 11) (off2 i k hk 11 (by norm_num) _ (by norm_num)))
  have s11 : IsChunk (scoreOf Q K) 6400 (trip_k0_t1.sl.r_105 i arg4 v (h4.unread x4) k) (trip_k0_t1.sl.r_106 i arg4 v (h4.unread x4) k) :=
    t11
  have j12 := Inv.step i11 s11
    (rows h5 hV 6400 (by norm_num) (by norm_num) _ (k0_off4_inb i k 12) (off4 i k hk 12 (by norm_num) _ (by norm_num)))
  have i12 : Inv (scoreOf Q K) V 6912 (trip_k0_t1.sl.r_120 i arg4 v (h4.unread x4) k acc) (trip_k0_t1.sl.r_121 i arg4 arg5 v (h4.unread x4) (h5.unread x5) k acc) :=
    j12
  have t12 := isChunk_scores hq
    (rows h4 hK 6912 (by norm_num) (by norm_num) _ (k0_off2_inb i k 12) (off2 i k hk 12 (by norm_num) _ (by norm_num)))
  have s12 : IsChunk (scoreOf Q K) 6912 (trip_k0_t1.sl.r_116 i arg4 v (h4.unread x4) k) (trip_k0_t1.sl.r_117 i arg4 v (h4.unread x4) k) :=
    t12
  have j13 := Inv.step i12 s12
    (rows h5 hV 6912 (by norm_num) (by norm_num) _ (k0_off4_inb i k 13) (off4 i k hk 13 (by norm_num) _ (by norm_num)))
  have i13 : Inv (scoreOf Q K) V 7424 (trip_k0_t1.sl.r_129 i arg4 v (h4.unread x4) k acc) (trip_k0_t1.sl.r_130 i arg4 arg5 v (h4.unread x4) (h5.unread x5) k acc) :=
    j13
  have t13 := isChunk_scores hq
    (rows h4 hK 7424 (by norm_num) (by norm_num) _ (k0_off2_inb i k 13) (off2 i k hk 13 (by norm_num) _ (by norm_num)))
  have s13 : IsChunk (scoreOf Q K) 7424 (trip_k0_t1.sl.r_125 i arg4 v (h4.unread x4) k) (trip_k0_t1.sl.r_126 i arg4 v (h4.unread x4) k) :=
    t13
  have j14 := Inv.step i13 s13
    (rows h5 hV 7424 (by norm_num) (by norm_num) _ (k0_off4_inb i k 14) (off4 i k hk 14 (by norm_num) _ (by norm_num)))
  have i14 : Inv (scoreOf Q K) V 7936 (trip_k0_t1.sl.r_137 i arg4 v (h4.unread x4) k acc) (trip_k0_t1.sl.r_140 i arg4 arg5 v (h4.unread x4) (h5.unread x5) k acc) :=
    j14
  have t14 := isChunk_scores hq
    (rows h4 hK 7936 (by norm_num) (by norm_num) _ (k0_off2_inb i k 14) (off2 i k hk 14 (by norm_num) _ (by norm_num)))
  have s14 : IsChunk (scoreOf Q K) 7936 (trip_k0_t1.sl.r_133 i arg4 v (h4.unread x4) k) (trip_k0_t1.sl.r_134 i arg4 v (h4.unread x4) k) :=
    t14
  have j15 := Inv.step i14 s14
    (rows h5 hV 7936 (by norm_num) (by norm_num) _ (k0_off4_inb i k 15) (off4 i k hk 15 (by norm_num) _ (by norm_num)))
  have i15 : Inv (scoreOf Q K) V 8448 (k0_pay307 (trip_k0_t1.sl.r_134 i arg4 v (h4.unread x4) k) (trip_k0_t1.sl.r_137 i arg4 v (h4.unread x4) k acc)) (k0_pay308 (trip_k0_t1.sl.r_133 i arg4 v (h4.unread x4) k) (trip_k0_t1.sl.r_134 i arg4 v (h4.unread x4) k) (trip_k0_t1.sl.r_137 i arg4 v (h4.unread x4) k acc)
        (trip_k0_t1.sl.r_140 i arg4 arg5 v (h4.unread x4) (h5.unread x5) k acc) (trip_k0_t1.sl.r_147 i arg5 (h5.unread x5) k)) :=
    j15
  exact i15

end Cert.KernelIdeal.Attn

end
-- ==== Proof.Block.lean ====
/- What one grid point of the attention kernel writes: the softmax-weighted means of the values, both heads of the pair side by
   side, as a quotient of weighted sums. -/
module

public import proofs.«01_k».proof.Proof.Trip

@[expose] public section

set_option maxRecDepth 16384

noncomputable section

namespace Cert.KernelIdeal.Attn

open Cert.KernelIdeal Cert.KernelIdeal.Gen Idealize.ShloMosaic Idealize.ShloMosaic.TcCoe

/-- How many keys the queries of a grid point see: the first tile of 256 sees the first 256, the others all. -/
def nkeys (i : grid0.Coords) : ℕ := if (i 2 : ℕ) = 0 then 256 else 8448

/-- The first tile makes no trip of the key loop. -/
theorem trips_first (i : grid0.Coords) (h : (i 2 : ℕ) = 0) : (k0_t1_loop i).trips = 0 := by
  unfold k0_t1_loop
  rw [h]
  decide +kernel

/-- The other tiles make one. -/
theorem trips_other (i : grid0.Coords) (h : (i 2 : ℕ) ≠ 0) : (k0_t1_loop i).trips = 1 := by
  have : (i 2 : ℕ) < 33 := (i 2).isLt
  unfold k0_t1_loop
  generalize (i 2 : ℕ) = n at *
  interval_cases n <;> first | (exact absurd rfl h) | decide +kernel

/-- The second loop makes none. -/
theorem trips_rest (i : grid0.Coords) : (k0_t2_loop i).trips = 0 := by
  have : (i 2 : ℕ) < 33 := (i 2).isLt
  unfold k0_t2_loop
  generalize (i 2 : ℕ) = n at *
  interval_cases n <;> decide +kernel

/-- What both heads' carried maxima and accumulators hold after `n` keys. -/
def Both (Q0 K0 V0 Q1 K1 V1 : ℕ → ℕ → ℝ) (n : ℕ) (a : Carry) : Prop :=
  Inv (scoreOf Q0 K0) V0 n a.1 a.2.2.1 ∧ Inv (scoreOf Q1 K1) V1 n a.2.1 a.2.2.2.1

/-- The key loop, from its start. -/
theorem loop_keys (c : Dev nD) (i : grid0.Coords) (arg3 : Memref sig .tc .vmem S1x256x256 .bf16) (h3 : arg3.IsWhole)
    (arg4 arg5 : Memref sig .tc .vmem S1x8448x256 .bf16) (h4 : arg4.IsWhole) (h5 : arg5.IsWhole)
    (arg6 : Memref sig .tc .vmem S1x256x128 .bf16) (h6 : arg6.IsWhole) (arg2 : BitVec 32)
    (v1 v3 : FVec Ideal S256x128 .bf16) (v6 : FVec Ideal S256x256 .f32) (v8 : FVec Ideal S256x1 .f32)
    (v11 : FVec Ideal S256x256 .f32) (v13 : FVec Ideal S256x1 .f32) (v16 : FVec Ideal S256x512 .f32)
    (v18 : FVec Ideal S256x1 .f32) (v21 : FVec Ideal S256x512 .f32) (v23 v24 : FVec Ideal S256x1 .f32)
    (v25 : FVec Ideal S256x128 .f32) (x4 x5 : Vec Ideal S1x8448x256 .bf16) (init : Carry)
    {Q0 K0 V0 Q1 K1 V1 : ℕ → ℕ → ℝ}
    (hq0 : ∀ (r : Fin 256) (l : Fin 128), v1 (ix2 r l) = ((Q0 r l : ℝ) : EReal))
    (hq1 : ∀ (r : Fin 256) (l : Fin 128), v3 (ix2 r l) = ((Q1 r l : ℝ) : EReal))
    (hK0 : HasRows x4 0 K0) (hV0 : HasRows x5 0 V0) (hK1 : HasRows x4 128 K1) (hV1 : HasRows x5 128 V1)
    (hi : Both Q0 K0 V0 Q1 K1 V1 256 init)
    (hs0 : IsChunk (scoreOf Q0 K0) 256 init.2.2.2.2.1 init.2.2.2.2.2.2.1)
    (hs1 : IsChunk (scoreOf Q1 K1) 256 init.2.2.2.2.2.1 init.2.2.2.2.2.2.2) :
    Both Q0 K0 V0 Q1 K1 V1 (nkeys i) (st_k0_t1 Variants.none c none i arg3 h3 arg4 h4 arg5 h5 arg6 h6 arg2 v1 v3 v6 v8 v11 v13
      v16 v18 v21 v23 v24 v25 (h4.unread x4) (h5.unread x5) init (k0_t1_loop i).trips) := by
  unfold nkeys
  by_cases h : (i 2 : ℕ) = 0
  · rw [if_pos h, trips_first i h]
    exact hi
  · rw [if_neg h, trips_other i h]
    have e := st_k0_t1_succ Variants.none c none i arg3 h3 arg4 h4 arg5 h5 arg6 h6 arg2 v1 v3 v6 v8 v11 v13
      v16 v18 v21 v23 v24 v25 (h4.unread x4) (h5.unread x5) init ⟨0, by rw [trips_other i h]; exact Nat.one_pos⟩
    rw [show ((⟨0, by rw [trips_other i h]; exact Nat.one_pos⟩ : Fin (k0_t1_loop i).trips) : ℕ) + 1 = 1 from rfl] at e
    rw [e, st_k0_t1_zero]
    unfold tripR_k0_t1 trip_k0_t1
    dsimp only
    exact ⟨trip_head0 i _ rfl arg4 arg5 h4 h5 x4 x5 v1 init hq0 hK0 hV0 hi.1 hs0,
      trip_head1 i _ rfl arg4 arg5 h4 h5 x4 x5 v3 init hq1 hK1 hV1 hi.2 hs1⟩

/-- A block of queries: from lane `o` on it holds the real matrix `Q`. -/
def HasQueries (x : Vec Ideal S1x256x256 .bf16) (o : ℕ) (Q : ℕ → ℕ → ℝ) : Prop :=
  ∀ (r : Fin 256) (l : Fin 128) (l' : Fin 256), (l' : ℕ) = o + l → x (ix3 0 r l') = ((Q r l : ℝ) : EReal)

/-- A read of one head's queries. -/
theorem queries_read {arg : Memref sig Kind.tc Space.vmem S1x256x256 EltTy.bf16} (h : arg.IsWhole)
    {x : Vec Ideal S1x256x256 .bf16} {o : ℕ} {Q : ℕ → ℕ → ℝ} (hQ : HasQueries x o Q)
    (ho : o + 128 ≤ 256) (inb : ∀ a, (![0, 0, o] : Fin 3 → ℕ) a + S1x256x128.size a ≤ S1x256x256.size a) :
    IsHead Q (View.readAt (Elt Ideal) arg.view (Rect.unit ![0, 0, o] S1x256x128.size inb : Rect S1x256x256).toLoadRect (h.unread x)) := by
  intro k l
  rw [View.readAt_eq_ld, h.read_unread]
  refine (View.ld_unit_apply_of x ![0, 0, o] S1x256x128.size inb (ix3 0 k l) (ix3 0 k ⟨o + l, by omega⟩)
    fun a => ?_).trans (hQ k l ⟨o + l, by omega⟩ rfl)
  fin_cases a
  · rfl
  · exact (Nat.zero_add _).symm
  · rfl

/-- A grid point's block, through both heads' accumulators. -/
theorem out_eq (c : Dev nD) (i : grid0.Coords) (arg3 : Memref sig .tc .vmem S1x256x256 .bf16) (h3 : arg3.IsWhole)
    (arg4 : Memref sig .tc .vmem S1x8448x256 .bf16) (h4 : arg4.IsWhole)
    (arg5 : Memref sig .tc .vmem S1x8448x256 .bf16) (h5 : arg5.IsWhole)
    (arg6 : Memref sig .tc .vmem S1x256x128 .bf16) (h6 : arg6.IsWhole)
    (x3 : Vec Ideal S1x256x256 .bf16) (x4 x5 : Vec Ideal S1x8448x256 .bf16)
    {Q0 K0 V0 Q1 K1 V1 : ℕ → ℕ → ℝ}
    (hQ0 : HasQueries x3 0 Q0) (hQ1 : HasQueries x3 128 Q1)
    (hK0 : HasRows x4 0 K0) (hV0 : HasRows x5 0 V0) (hK1 : HasRows x4 128 K1) (hV1 : HasRows x5 128 V1) :
    ∃ a : Carry, Both Q0 K0 V0 Q1 K1 V1 (nkeys i) a ∧
      out0_A_3 c i arg3 h3 arg4 h4 arg5 h5 arg6 h6 x3 x4 x5
        = k0_pay1 a.2.2.2.1 (k0_pay311 a.2.2.1) (k0_pay312 a.2.2.2.1) k0_pay313 := by
  have z : (![0, 0, 0] : Fin 3 → ℕ) = fun _ => 0 := by
    funext a
    fin_cases a <;> rfl
  unfold out0_A_3
  rw [View.read_writes_eq_canon _ _ _ (cover0_A_3 c i arg3 h3 arg4 h4 arg5 h5 arg6 h6 x3 x4 x5)]
  unfold kernelRun0_A
  dsimp only
  rw [View.canon_unit_zero (h := z)]
  unfold kernelRun0_A.sl.r_11 kernelRun0_A.sl.r_12 kernelRun0_A.sl.r_10
  simp only [show Scf.trips (k0_t2_loop i).lb (k0_t2_loop i).ub (k0_t2_loop i).st = 0 from trips_rest i, st_k0_t2_zero]
  refine ⟨st_k0_t1 Variants.none c none i arg3 h3 arg4 h4 arg5 h5 arg6 h6 (BitVec.ofNat 32 (i 2 : ℕ))
      (kernelRun0_A.sl.r c arg3 h3 x3) (kernelRun0_A.sl.r_1 c arg3 h3 x3)
      (kernelRun0_A.sl.r_2 c arg3 h3 arg4 h4 x3 x4)
      (kernelRun0_A.sl.r_3 c arg3 h3 arg4 h4 x3 x4)
      (kernelRun0_A.sl.r_4 c arg3 h3 arg4 h4 x3 x4)
      (kernelRun0_A.sl.r_5 c arg3 h3 arg4 h4 x3 x4)
      (kernelRun0_A.sl.r_6 c arg3 h3 arg4 h4 x3 x4)
      (kernelRun0_A.sl.r_7 c arg3 h3 arg4 h4 x3 x4)
      (kernelRun0_A.sl.r_8 c arg3 h3 arg4 h4 x3 x4)
      (kernelRun0_A.sl.r_9 c arg3 h3 arg4 h4 x3 x4)
      k0_pay300 k0_pay301 (h4.unread x4) (h5.unread x5)
      (k0_pay302 (kernelRun0_A.sl.r_3 c arg3 h3 arg4 h4 x3 x4) k0_pay300, k0_pay305 (kernelRun0_A.sl.r_5 c arg3 h3 arg4 h4 x3 x4),
        k0_pay303 (kernelRun0_A.sl.r_2 c arg3 h3 arg4 h4 x3 x4) (kernelRun0_A.sl.r_3 c arg3 h3 arg4 h4 x3 x4) k0_pay300 k0_pay301
          (View.readAt (Elt Ideal) arg5.view (Rect.unit ![0, 0, 0] S1x256x128.size inb_S1x8448x256_S1x256x128_0_0_0 : Rect S1x8448x256).toLoadRect (h5.unread x5)),
        k0_pay306 (kernelRun0_A.sl.r_4 c arg3 h3 arg4 h4 x3 x4) (kernelRun0_A.sl.r_5 c arg3 h3 arg4 h4 x3 x4)
          (View.readAt (Elt Ideal) arg5.view (Rect.unit ![0, 0, 128] S1x256x128.size inb_S1x8448x256_S1x256x128_0_0_128 : Rect S1x8448x256).toLoadRect (h5.unread x5)),
        (kernelRun0_A.sl.r_6 c arg3 h3 arg4 h4 x3 x4), (kernelRun0_A.sl.r_8 c arg3 h3 arg4 h4 x3 x4),
        (kernelRun0_A.sl.r_7 c arg3 h3 arg4 h4 x3 x4), (kernelRun0_A.sl.r_9 c arg3 h3 arg4 h4 x3 x4))
      (k0_t1_loop i).trips, ?_, ?_⟩
  rotate_left
  · rfl
  have q0 := queries_read h3 hQ0 (by norm_num) (by decide)
  have q1 := queries_read h3 hQ1 (by norm_num) (by decide)
  have s0 : IsChunk (scoreOf Q0 K0) 256 (kernelRun0_A.sl.r_6 c arg3 h3 arg4 h4 x3 x4) (kernelRun0_A.sl.r_7 c arg3 h3 arg4 h4 x3 x4) := by
    have t0 := isChunk_scores (queries q0) (rows h4 hK0 256 (by norm_num) (by norm_num) ![0, 256, 0] inb_S1x8448x256_S1x512x128_0_256_0 rfl)
    exact t0
  have s1 : IsChunk (scoreOf Q1 K1) 256 (kernelRun0_A.sl.r_8 c arg3 h3 arg4 h4 x3 x4) (kernelRun0_A.sl.r_9 c arg3 h3 arg4 h4 x3 x4) := by
    have t1 := isChunk_scores (queries q1) (rows h4 hK1 256 (by norm_num) (by norm_num) ![0, 256, 128] inb_S1x8448x256_S1x512x128_0_256_128 rfl)
    exact t1
  have i0 : Inv (scoreOf Q0 K0) V0 256 (k0_pay302 (kernelRun0_A.sl.r_3 c arg3 h3 arg4 h4 x3 x4) k0_pay300)
      (k0_pay303 (kernelRun0_A.sl.r_2 c arg3 h3 arg4 h4 x3 x4) (kernelRun0_A.sl.r_3 c arg3 h3 arg4 h4 x3 x4) k0_pay300 k0_pay301
        (View.readAt (Elt Ideal) arg5.view (Rect.unit ![0, 0, 0] S1x256x128.size inb_S1x8448x256_S1x256x128_0_0_0 : Rect S1x8448x256).toLoadRect (h5.unread x5))) := by
    have e0 := Inv.start q0 (rows_head h4 hK0 (by norm_num) inb_S1x8448x256_S1x256x128_0_0_0)
      (rows_head h5 hV0 (by norm_num) inb_S1x8448x256_S1x256x128_0_0_0)
    exact e0
  have i1 : Inv (scoreOf Q1 K1) V1 256 (k0_pay305 (kernelRun0_A.sl.r_5 c arg3 h3 arg4 h4 x3 x4))
      (k0_pay306 (kernelRun0_A.sl.r_4 c arg3 h3 arg4 h4 x3 x4) (kernelRun0_A.sl.r_5 c arg3 h3 arg4 h4 x3 x4)
        (View.readAt (Elt Ideal) arg5.view (Rect.unit ![0, 0, 128] S1x256x128.size inb_S1x8448x256_S1x256x128_0_0_128 : Rect S1x8448x256).toLoadRect (h5.unread x5))) := by
    have e1 := Inv.start' q1 (rows_head h4 hK1 (by norm_num) inb_S1x8448x256_S1x256x128_0_0_128)
      (rows_head h5 hV1 (by norm_num) inb_S1x8448x256_S1x256x128_0_0_128)
    exact e1
  refine loop_keys c i arg3 h3 arg4 arg5 h4 h5 arg6 h6 _ _ _ _ _ _ _ _ _ _ _ _ _ x4 x5 _ (queries q0) (queries q1) hK0 hV0 hK1 hV1
    ⟨?_, ?_⟩ ?_ ?_
  · exact i0
  · exact i1
  · dsimp only
    exact s0
  · dsimp only
    exact s1

/-- The inverse of a nonzero real, times a real. -/
theorem mul_one_div (a b : ℝ) (hb : b ≠ 0) :
    (a : EReal) * Ideal.div 1 (b : EReal) = ((a / b : ℝ) : EReal) := by
  have hb' : (b : EReal) ≠ 0 := by exact_mod_cast hb
  rw [Ideal.div, if_neg hb', one_mul, ← EReal.coe_inv, ← EReal.coe_mul, div_eq_mul_inv]

/-- The weighted sum of ones is positive. -/
theorem wsum_pos (S V : ℕ → ℕ → ℝ) (n r l : ℕ) (μ : ℝ) (hn : 0 < n) (h1 : ∀ j < n, V j l = 1) : 0 < wsum S V n r l μ := by
  refine Finset.sum_pos (fun j hj => ?_) ⟨0, Finset.mem_range.mpr hn⟩
  rw [h1 j (Finset.mem_range.mp hj), mul_one]
  exact Real.rpow_pos_of_pos (by norm_num) _

/-- The mean: the weighted sum of lane `l` over the sum of the weights. -/
def mean (S V : ℕ → ℕ → ℝ) (n r l : ℕ) : ℝ := wsum S V n r l 0 / wsum S V n r 64 0

/-- The quotient of two weighted sums does not depend on what the weights are relative to. -/
theorem mean_eq (S V : ℕ → ℕ → ℝ) (n r l : ℕ) (μ : ℝ) : wsum S V n r l μ / wsum S V n r 64 μ = mean S V n r l := by
  unfold mean
  rw [← wsum_shift S V n r l μ 0, ← wsum_shift S V n r 64 μ 0]
  exact (mul_div_mul_left _ _ (Real.rpow_pos_of_pos (by norm_num) _).ne').symm

/-- One head's accumulator over its lane 64. -/
theorem Inv.quot {S V : ℕ → ℕ → ℝ} {n : ℕ} {m : FVec Ideal S256x1 .f32} {acc : FVec Ideal S256x128 .f32} (h : Inv S V n m acc)
    (hn : 0 < n) (h1 : ∀ j < n, V j 64 = 1) (r : Fin 256) (l : Fin 128) :
    acc (ix2 r l) * Ideal.div 1 (acc (ix2 r 64)) = ((mean S V n r l : ℝ) : EReal) := by
  obtain ⟨μ, -, hacc⟩ := h r
  rw [hacc l, hacc 64]
  exact (mul_one_div _ _ (wsum_pos S V n r 64 μ hn h1).ne').trans (congrArg _ (mean_eq S V n r l μ))

/-- A grid point's block at an index: the first head's means in the first 64 lanes, the second's in the others. -/
theorem out_apply (c : Dev nD) (i : grid0.Coords) (arg3 : Memref sig .tc .vmem S1x256x256 .bf16) (h3 : arg3.IsWhole)
    (arg4 : Memref sig .tc .vmem S1x8448x256 .bf16) (h4 : arg4.IsWhole)
    (arg5 : Memref sig .tc .vmem S1x8448x256 .bf16) (h5 : arg5.IsWhole)
    (arg6 : Memref sig .tc .vmem S1x256x128 .bf16) (h6 : arg6.IsWhole)
    (x3 : Vec Ideal S1x256x256 .bf16) (x4 x5 : Vec Ideal S1x8448x256 .bf16)
    {Q0 K0 V0 Q1 K1 V1 : ℕ → ℕ → ℝ}
    (hQ0 : HasQueries x3 0 Q0) (hQ1 : HasQueries x3 128 Q1)
    (hK0 : HasRows x4 0 K0) (hV0 : HasRows x5 0 V0) (hK1 : HasRows x4 128 K1) (hV1 : HasRows x5 128 V1)
    (h10 : ∀ j < nkeys i, V0 j 64 = 1) (h11 : ∀ j < nkeys i, V1 j 64 = 1) (r : Fin 256) (l : Fin 128) :
    out0_A_3 c i arg3 h3 arg4 h4 arg5 h5 arg6 h6 x3 x4 x5 (ix3 0 r l)
      = (((if (l : ℕ) < 64 then mean (scoreOf Q0 K0) V0 (nkeys i) r l
          else mean (scoreOf Q1 K1) V1 (nkeys i) r (l - 64 : ℕ)) : ℝ) : EReal) := by
  have hn : 0 < nkeys i := by
    unfold nkeys
    split <;> norm_num
  obtain ⟨a, ha, e⟩ := out_eq c i arg3 h3 arg4 h4 arg5 h5 arg6 h6 x3 x4 x5 hQ0 hQ1 hK0 hV0 hK1 hV1
  rw [e]
  pointwise [k0_pay1, k0_pay311, k0_pay312, k0_pay313]
  by_cases hl : (l : ℕ) < 64
  · have hc : IntOp.cmpi CmpIPredicate.slt (BitVec.ofNat 32 (l : ℕ)) 64#32 = 1#1 := by
      revert l
      decide +kernel
    rw [hc, if_pos hl]
    exact ha.1.quot hn h10 r l
  · have hc : IntOp.cmpi CmpIPredicate.slt (BitVec.ofNat 32 (l : ℕ)) 64#32 = 0#1 := by
      revert l
      decide +kernel
    rw [hc, if_neg hl]
    have hl' : ((l : ℕ) + 128 - 64) % 128 = l - 64 := by omega
    have e2 := ha.2.quot hn h11 r ⟨((l : ℕ) + 128 - 64) % 128, by omega⟩
    rw [← hl']
    exact e2

end Cert.KernelIdeal.Attn

end
-- ==== Proof.Spec.lean ====
/- Attention as a function of the real entries of the queries, keys and values. -/
module

public import proofs.«01_k».proof.Proof.Block

@[expose] public section

noncomputable section

namespace Cert.Attn

open Idealize.ShloMosaic Cert.KernelIdeal.Attn

/-- The arrays the call takes: 4 sequences of 8448 positions of 1024 features. -/
abbrev Arr : Type := (⟨3, ![4, 8448, 1024]⟩ : Shape).Idx → EReal

/-- What the queries are scaled by: the inverse root of the head's 96 features, over the logarithm of two. -/
def kap : ℝ := 1 / (Real.sqrt 96 * Real.log 2)

/-- An array's entry as a real number. -/
def ent (x : Arr) (b t f : ℕ) : ℝ :=
  if h : b < 4 ∧ t < 8448 ∧ f < 1024 then (x (ix3 ⟨b, h.1⟩ ⟨t, h.2.1⟩ ⟨f, h.2.2⟩)).toReal else 0

/-- Every entry of an array is a real number. -/
def Finite (x : Arr) : Prop := ∀ i, ∃ r : ℝ, x i = ((r : ℝ) : EReal)

/-- A finite array's entry is its real number. -/
theorem Finite.eq {x : Arr} (hx : Finite x) (i : (⟨3, ![4, 8448, 1024]⟩ : Shape).Idx) (b t f : ℕ)
    (hb : (i 0 : ℕ) = b) (ht : (i 1 : ℕ) = t) (hf : (i 2 : ℕ) = f) : x i = ((ent x b t f : ℝ) : EReal) := by
  obtain ⟨r, hr⟩ := hx i
  have h : b < 4 ∧ t < 8448 ∧ f < 1024 := ⟨hb ▸ (i 0).isLt, ht ▸ (i 1).isLt, hf ▸ (i 2).isLt⟩
  have e : i = ix3 ⟨b, h.1⟩ ⟨t, h.2.1⟩ ⟨f, h.2.2⟩ := by
    subst hb ht hf
    exact eq_ix3 i
  rw [ent, dif_pos h, ← e, hr, EReal.toReal_coe]

/-- How many keys the query at a position sees: the context's 256 from the context, all 8448 from the latents. -/
def seen (t : ℕ) : ℕ := if t < 256 then 256 else 8448

/-- One head's queries, scaled; its keys; its values. -/
def qOf (q : Arr) (b h : ℕ) (t d : ℕ) : ℝ := ent q b t (128 * h + d) * kap
/-- One head's keys, or its values. -/
def kOf (k : Arr) (b h : ℕ) (j d : ℕ) : ℝ := ent k b j (128 * h + d)

/-- One head's result at a position: the weighted mean of the values it sees, the weights powers of two of the scores. -/
def headOut (q k v : Arr) (b t h l : ℕ) : ℝ := mean (scoreOf (qOf q b h) (kOf k b h)) (kOf v b h) (seen t) t l

/-- The result array: the heads' 64 features side by side. -/
def result (q k v : Arr) : (⟨3, ![4, 8448, 512]⟩ : Shape).Idx → EReal :=
  fun i => ((headOut q k v (i 0) (i 1) ((i 2 : ℕ) / 64) ((i 2 : ℕ) % 64) : ℝ) : EReal)

/-- Lane 64 of every head of the values holds one. -/
def Ones (v : Arr) : Prop := ∀ b < 4, ∀ j < 8448, ∀ h < 8, ent v b j (128 * h + 64) = 1

end Cert.Attn

end
-- ==== Proof.Final.lean ====
/- The attention kernel's result array, block by block. -/
module

public import proofs.«01_k».proof.Proof.Spec
public import proofs.«01_k».proof.Proof.Gen.KernelIdeal.Value
public import Idealize.ShloMosaic.Lib.Pipeline.ValueKit.Geometry
public import Idealize.ShloMosaic.Lib.IdealHost

@[expose] public section

set_option maxRecDepth 16384

noncomputable section

namespace Cert.KernelIdeal.Attn

open Cert.KernelIdeal Cert.KernelIdeal.Gen Cert.Attn Idealize.ShloMosaic Idealize.ShloMosaic.TcCoe Idealize.SL.Sem
  Idealize.ShloMosaic.StableHlo

variable (m : (ℓ : Loc nD τ sig) → Buf (Elt Ideal) ℓ)

/-- The pattern of ninety-six. -/
theorem ofBits_96 : Ideal.ofBits .f32 0x42C00000#32 = ((96 : ℝ) : EReal) := by
  simp [Ideal.ofBits, Ideal.ieee, -EReal.coe_mul]; norm_num

/-- The pattern of two. -/
theorem ofBits_2 : Ideal.ofBits .f32 0x40000000#32 = ((2 : ℝ) : EReal) := by
  simp [Ideal.ofBits, Ideal.ieee, -EReal.coe_mul]; norm_num

/-- The scale the host computes. -/
theorem scale_eq : Ideal.div (Ideal.ofBits .f32 0x3F800000#32)
    (Ideal.sqrt (Ideal.ofBits .f32 0x42C00000#32) * Ideal.log (Ideal.ofBits .f32 0x40000000#32)) = ((kap : ℝ) : EReal) := by
  have h2 : (0 : ℝ) < Real.log 2 := Real.log_pos (by norm_num)
  have h96 : (0 : ℝ) < Real.sqrt 96 := Real.sqrt_pos.2 (by norm_num)
  rw [ofBits_96, ofBits_2, Ideal.ofBits_one_f32, Ideal.sqrt_coe, Ideal.log_coe, if_neg (by norm_num), if_neg (by norm_num),
    ← EReal.coe_mul, Ideal.div_coe (mul_pos h96 h2).ne', one_mul]
  rfl

/-- The queries the region finds: the argument's, each times the scale. -/
theorem V_queries (c : Dev nD) (i : S4x8448x1024.Idx) :
    V m c main_v6 i = HMul.hMul (α := EReal) (β := EReal) (m ((c : Thread nD τ).loc main_arg0) i) ((kap : ℝ) : EReal) := by
  rw [← scale_eq]
  have e : V m c main_v6 = truncf (F := Ideal) .bf16 (mulf (m ((c : Thread nD τ).loc main_arg0))
      (broadcastInDim S4x8448x1024 ![] bcast_S_S4x8448x1024 (Host.divf (constant S_ .f32 0x3F800000#32)
        (mulf (Host.sqrt (constant S_ .f32 0x42C00000#32)) (Host.log (constant S_ .f32 0x40000000#32)))))) bitsLt_bf16_f32 := by
    unfold_abbrev_sides
    after_results
  rw [e]
  rfl

/-- The index of the first window's block. -/
theorem index0 : ∀ t : Fin cfg0.N, win0_0.index t = ![(grid0.coords t 0).val, (grid0.coords t 2).val, (grid0.coords t 1).val] :=
  (by decide +kernel : ∀ t : Fin grid0.N, _)
/-- The index of the second window's block. -/
theorem index1 : ∀ t : Fin cfg0.N, win0_1.index t = ![(grid0.coords t 0).val, 0, (grid0.coords t 1).val] :=
  (by decide +kernel : ∀ t : Fin grid0.N, _)
/-- The index of the third window's block. -/
theorem index2 : ∀ t : Fin cfg0.N, win0_2.index t = ![(grid0.coords t 0).val, 0, (grid0.coords t 1).val] :=
  (by decide +kernel : ∀ t : Fin grid0.N, _)
/-- The index of the result window's block. -/
theorem index3 : ∀ t : Fin cfg0.N, win0_3.index t = ![(grid0.coords t 0).val, (grid0.coords t 2).val, (grid0.coords t 1).val] :=
  (by decide +kernel : ∀ t : Fin grid0.N, _)

/-- The block of queries one point reads, one head of its pair. -/
theorem block_queries (c : Dev nD) (t : Fin cfg0.N) (o : ℕ) (e : ℕ) (ho : o = 128 * e) (he : e < 2)
    (hq : Finite (m ((c : Thread nD τ).loc main_arg0))) :
    HasQueries (iblk m c 0 t) o (fun r => qOf (m ((c : Thread nD τ).loc main_arg0)) (grid0.coords t 0).val
      (2 * (grid0.coords t 1).val + e) (256 * (grid0.coords t 2).val + r)) := by
  intro r l l' hl
  blk_simp [iblk]
  refine (V_queries m c _).trans ?_
  rw [hq.eq _ (grid0.coords t 0).val (256 * (grid0.coords t 2).val + r)
    (128 * (2 * (grid0.coords t 1).val + e) + l), ← EReal.coe_mul]
  · rfl
  all_goals blk_simp [index0] <;> simp <;> omega

/-- The block of keys one point reads, one head of its pair. -/
theorem block_keys (c : Dev nD) (t : Fin cfg0.N) (o : ℕ) (e : ℕ) (ho : o = 128 * e) (he : e < 2)
    (hk : Finite (m ((c : Thread nD τ).loc main_arg1))) :
    HasRows (iblk m c 1 t) o (kOf (m ((c : Thread nD τ).loc main_arg1)) (grid0.coords t 0).val
      (2 * (grid0.coords t 1).val + e)) := by
  intro r l l' hl
  blk_simp [iblk]
  rw [V_main_arg1]
  refine hk.eq _ (grid0.coords t 0).val r (128 * (2 * (grid0.coords t 1).val + e) + l) ?_ ?_ ?_
  all_goals blk_simp [index1] <;> simp <;> omega

/-- The block of values one point reads, one head of its pair. -/
theorem block_values (c : Dev nD) (t : Fin cfg0.N) (o : ℕ) (e : ℕ) (ho : o = 128 * e) (he : e < 2)
    (hv : Finite (m ((c : Thread nD τ).loc main_arg2))) :
    HasRows (iblk m c 2 t) o (kOf (m ((c : Thread nD τ).loc main_arg2)) (grid0.coords t 0).val
      (2 * (grid0.coords t 1).val + e)) := by
  intro r l l' hl
  blk_simp [iblk]
  rw [V_main_arg2]
  refine hv.eq _ (grid0.coords t 0).val r (128 * (2 * (grid0.coords t 1).val + e) + l) ?_ ?_ ?_
  all_goals blk_simp [index2] <;> simp <;> omega

/-- An index of a result block, from its row and lane. -/
theorem block_idx (y : S1x256x128.Idx) : y = ix3 0 (y 1) (y 2) := by
  exact (eq_ix3 y).trans (congrArg (fun z : Fin 1 => ix3 z (y 1) (y 2)) (Subsingleton.elim (α := Fin 1) _ _))

/-- The kernel's result array. -/
theorem final_o (c : Dev nD) (hq : Finite (m ((c : Thread nD τ).loc main_arg0))) (hk : Finite (m ((c : Thread nD τ).loc main_arg1)))
    (hv : Finite (m ((c : Thread nD τ).loc main_arg2))) (h1 : Ones (m ((c : Thread nD τ).loc main_arg2))) :
    (dats m 0 c).arrAt 3 cfg0.N = result (m ((c : Thread nD τ).loc main_arg0)) (m ((c : Thread nD τ).loc main_arg1))
      (m ((c : Thread nD τ).loc main_arg2)) := by
  refine (dats m 0 c).arrAt_eq_of_covers 3 _ (by decide +kernel) fun t hf y => ?_
  blk_simp
  rw [after0_3]
  have hb : ((grid0.coords t) 0 : ℕ) < 4 := (grid0.coords t 0).isLt
  have hp : ((grid0.coords t) 1 : ℕ) < 4 := (grid0.coords t 1).isLt
  have ht : ((grid0.coords t) 2 : ℕ) < 33 := (grid0.coords t 2).isLt
  have hle : nkeys (grid0.coords t) ≤ 8448 := by unfold nkeys; split <;> omega
  have key := out_apply c (grid0.coords t) (ms0_0 t) (hs0_0 t) (ms0_1 t) (hs0_1 t) (ms0_2 t) (hs0_2 t) (ms0_3 t) (hs0_3 t)
    (iblk m c 0 t) (iblk m c 1 t) (iblk m c 2 t) (block_queries m c t 0 0 rfl (by omega) hq)
    (block_queries m c t 128 1 rfl (by omega) hq) (block_keys m c t 0 0 rfl (by omega) hk)
    (block_values m c t 0 0 rfl (by omega) hv) (block_keys m c t 128 1 rfl (by omega) hk)
    (block_values m c t 128 1 rfl (by omega) hv) (fun j hj => h1 _ hb j (by omega) _ (by omega))
    (fun j hj => h1 _ hb j (by omega) _ (by omega)) (y 1) (y 2)
  have hy := block_idx y
  have hs : seen (256 * (grid0.coords t 2).val + (y 1 : ℕ)) = nkeys (grid0.coords t) := by
    have : (y 1 : ℕ) < 256 := (y 1).isLt
    unfold seen nkeys
    by_cases h : ((grid0.coords t) 2 : ℕ) = 0
    · rw [if_pos h, if_pos (by rw [h]; omega)]
    · rw [if_neg h, if_neg (by omega)]
  have e0 : (((win0_3.blk t).view.emb y 0 : Fin _) : ℕ) = (grid0.coords t 0).val := by
    have : (y 0 : ℕ) = 0 := congrArg Fin.val (Subsingleton.elim (α := Fin 1) (y 0) 0)
    blk_simp [index3] <;> simp <;> omega
  have e1 : (((win0_3.blk t).view.emb y 1 : Fin _) : ℕ) = 256 * (grid0.coords t 2).val + (y 1 : ℕ) := by
    blk_simp [index3] <;> simp <;> omega
  have e2 : (((win0_3.blk t).view.emb y 2 : Fin _) : ℕ) = 128 * (grid0.coords t 1).val + (y 2 : ℕ) := by
    blk_simp [index3] <;> simp <;> omega
  have hl : (y 2 : ℕ) < 128 := (y 2).isLt
  refine (congrArg (outsAt0 m c t) hy).trans (key.trans ?_)
  unfold result
  rw [e0, e1, e2]
  refine congrArg Real.toEReal ?_
  unfold headOut
  rw [hs]
  by_cases h : (y 2 : ℕ) < 64
  · rw [if_pos h, show (128 * (grid0.coords t 1).val + (y 2 : ℕ)) / 64 = 2 * (grid0.coords t 1).val + 0 by omega,
      show (128 * (grid0.coords t 1).val + (y 2 : ℕ)) % 64 = (y 2 : ℕ) by omega]
    rfl
  · rw [if_neg h, show (128 * (grid0.coords t 1).val + (y 2 : ℕ)) / 64 = 2 * (grid0.coords t 1).val + 1 by omega,
      show (128 * (grid0.coords t 1).val + (y 2 : ℕ)) % 64 = (y 2 : ℕ) - 64 by omega]
    rfl

end Cert.KernelIdeal.Attn

end
-- ==== Proof.Ref.lean ====
/- The reference's attention at an index: the softmax of the scores, averaged over the values, is the same weighted mean. -/
module

public import proofs.«01_k».proof.Proof.Final
public import proofs.«01_k».proof.Proof.Gen.ReferenceIdeal.Read

@[expose] public section

set_option maxRecDepth 16384

noncomputable section

namespace Cert.ReferenceIdeal.Attn

open Cert.ReferenceIdeal Cert.ReferenceIdeal.Gen Cert.ReferenceIdeal.Read Cert.Attn Idealize.ShloMosaic
open Cert.KernelIdeal.Attn (wsum mean scoreOf coe_sum fold_max_real negInf ofBits_96 mean_eq)

/-- The softmax of real scores, weighted over real values: a quotient of sums of powers of two. -/
theorem softmax_real {N : ℕ} (hN : 0 < N) (s S v : Fin N → ℝ) (μ : ℝ) (h : ∀ k, s k = S k * Real.log 2) :
    ∑ k, ((v k : ℝ) : EReal) * Ideal.div (Ideal.exp (((s k : ℝ) : EReal) - ((μ : ℝ) : EReal)))
        (0 + ∑ j, Ideal.exp (((s j : ℝ) : EReal) - ((μ : ℝ) : EReal)))
      = (((∑ k, (2 : ℝ) ^ (S k - 0) * v k) / (∑ k, (2 : ℝ) ^ (S k - 0)) : ℝ) : EReal) := by
  have he : ∀ k, Ideal.exp (((s k : ℝ) : EReal) - ((μ : ℝ) : EReal)) = ((Real.exp (s k - μ) : ℝ) : EReal) := fun _ => rfl
  have hne : (Finset.univ : Finset (Fin N)).Nonempty := ⟨⟨0, hN⟩, Finset.mem_univ _⟩
  have hZ : (0 : ℝ) < ∑ j, Real.exp (s j - μ) := Finset.sum_pos (fun j _ => Real.exp_pos _) hne
  have h2 : ∀ k, Real.exp (s k - μ) = Real.exp (-μ) * (2 : ℝ) ^ (S k - 0) := fun k => by
    rw [Real.rpow_def_of_pos (by norm_num), ← Real.exp_add, h k]
    congr 1
    ring
  simp only [he]
  rw [zero_add, ← coe_sum]
  simp only [Ideal.div_coe hZ.ne', ← EReal.coe_mul]
  rw [← coe_sum]
  refine congrArg Real.toEReal ?_
  simp only [h2]
  rw [← Finset.mul_sum, Finset.sum_div]
  refine Finset.sum_congr rfl fun k _ => ?_
  have hμ : Real.exp (-μ) ≠ 0 := (Real.exp_pos _).ne'
  have hs : (∑ k, (2 : ℝ) ^ (S k - 0)) ≠ 0 :=
    (Finset.sum_pos (fun j _ => Real.rpow_pos_of_pos (by norm_num) _) hne).ne'
  field_simp

/-- The same, as the weighted mean whose lane 64 holds one. -/
theorem mean_real (S V : ℕ → ℕ → ℝ) (n r l : ℕ) (h1 : ∀ j < n, V j 64 = 1) :
    mean S V n r l = (∑ k : Fin n, (2 : ℝ) ^ (S r k - 0) * V k l) / (∑ k : Fin n, (2 : ℝ) ^ (S r k - 0)) := by
  unfold mean wsum
  rw [Finset.sum_range (fun j => (2 : ℝ) ^ (S r j - 0) * V j l), Finset.sum_range (fun j => (2 : ℝ) ^ (S r j - 0) * V j 64)]
  congr 1
  refine Finset.sum_congr rfl fun k _ => ?_
  rw [h1 k k.isLt, mul_one]

/-- The reference's scale. -/
theorem scale_ref : Ideal.div (Ideal.ofBits .f32 0x3F800000#32) (Ideal.sqrt (Ideal.ofBits .f32 0x42C00000#32))
    = ((1 / Real.sqrt 96 : ℝ) : EReal) := by
  have h96 : (0 : ℝ) < Real.sqrt 96 := Real.sqrt_pos.2 (by norm_num)
  rw [ofBits_96, Ideal.ofBits_one_f32, Ideal.sqrt_coe, if_neg (by norm_num), Ideal.div_coe h96.ne', one_mul]

variable (q : (⟨S4x8448x1024, .f32⟩ : BufTy).Contents (Elt Ideal)) (k v : (⟨S4x8448x1024, .bf16⟩ : BufTy).Contents (Elt Ideal))

/-- A score: the product of a query with a key, times the inverse root. -/
def sc (b h t j : ℕ) : ℝ := (∑ d : Fin 128, ent q b t (128 * h + d) * ent k b j (128 * h + d)) * (1 / Real.sqrt 96)

/-- A score against the kernel's: the latter is to base two. -/
theorem sc_eq (b h t j : ℕ) : sc q k b h t j = scoreOf (qOf q b h) (kOf k b h) t j * Real.log 2 := by
  have h2 : (0 : ℝ) < Real.log 2 := Real.log_pos (by norm_num)
  have h96 : (0 : ℝ) < Real.sqrt 96 := Real.sqrt_pos.2 (by norm_num)
  unfold sc scoreOf qOf kOf kap
  rw [Finset.sum_mul, Finset.sum_mul]
  refine Finset.sum_congr rfl fun d _ => ?_
  field_simp

variable {q k v}

/-- The queries by head. -/
theorem heads_q (hq : Finite q) (i : S4x8448x8x128.Idx) (b t h d : ℕ) (hb : (i 0 : ℕ) = b) (ht : (i 1 : ℕ) = t)
    (hh : (i 2 : ℕ) = h) (hd : (i 3 : ℕ) = d) : val_main_v0 (F := Ideal) q i = ((ent q b t (128 * h + d) : ℝ) : EReal) := by
  have h0 : (i 0 : ℕ) < 4 := (i 0).isLt
  have h1 : (i 1 : ℕ) < 8448 := (i 1).isLt
  have h2 : (i 2 : ℕ) < 8 := (i 2).isLt
  have h3 : (i 3 : ℕ) < 128 := (i 3).isLt
  rw [val_main_v0_apply]
  refine hq.eq _ _ _ _ ?_ ?_ ?_ <;> dsimp only [idx_main_v0] <;> omega

/-- The keys by head. -/
theorem heads_k (hk : Finite k) (i : S4x8448x8x128.Idx) (b t h d : ℕ) (hb : (i 0 : ℕ) = b) (ht : (i 1 : ℕ) = t)
    (hh : (i 2 : ℕ) = h) (hd : (i 3 : ℕ) = d) : val_main_v2 (F := Ideal) k i = ((ent k b t (128 * h + d) : ℝ) : EReal) := by
  have h0 : (i 0 : ℕ) < 4 := (i 0).isLt
  have h1 : (i 1 : ℕ) < 8448 := (i 1).isLt
  have h2 : (i 2 : ℕ) < 8 := (i 2).isLt
  have h3 : (i 3 : ℕ) < 128 := (i 3).isLt
  rw [val_main_v2_apply, val_main_v1_apply]
  refine hk.eq _ _ _ _ ?_ ?_ ?_ <;> dsimp only [idx_main_v2] <;> omega

/-- The values by head, their first 64 lanes. -/
theorem heads_v (hv : Finite v) (i : S4x8448x8x64.Idx) (b t h d : ℕ) (hb : (i 0 : ℕ) = b) (ht : (i 1 : ℕ) = t)
    (hh : (i 2 : ℕ) = h) (hd : (i 3 : ℕ) = d) : val_main_v5 (F := Ideal) v i = ((ent v b t (128 * h + d) : ℝ) : EReal) := by
  have h0 : (i 0 : ℕ) < 4 := (i 0).isLt
  have h1 : (i 1 : ℕ) < 8448 := (i 1).isLt
  have h2 : (i 2 : ℕ) < 8 := (i 2).isLt
  have h3 : (i 3 : ℕ) < 64 := (i 3).isLt
  rw [val_main_v5_apply, val_main_v4_apply, val_main_v3_apply]
  refine hv.eq _ _ _ _ ?_ ?_ ?_ <;> dsimp only [idx_main_v4, idx_main_v5] <;> omega

/-! ### The queries of the context -/

/-- The context's scores. -/
theorem ctx_score (hq : Finite q) (hk : Finite k) (i : S4x8x256x256.Idx) :
    val_main_v13 (F := Ideal) q k i = ((sc q k (i 0) (i 1) (i 2) (i 3) : ℝ) : EReal) := by
  rw [val_main_v13_apply, val_main_v11_apply, val_main_v12_apply]
  have e : ∀ d : Fin 128, val_main_v6 (F := Ideal) q (lidx_main_v11 i d) * val_main_v7 (F := Ideal) k (ridx_main_v11 i d)
      = ((ent q (i 0) (i 2) (128 * (i 1) + d) * ent k (i 0) (i 3) (128 * (i 1) + d) : ℝ) : EReal) := fun d => by
    rw [val_main_v6_apply, val_main_v7_apply, heads_q hq _ (i 0) (i 2) (i 1) d rfl rfl rfl rfl,
      heads_k hk _ (i 0) (i 3) (i 1) d rfl rfl rfl rfl, EReal.coe_mul]
  rw [Finset.sum_congr rfl fun d _ => e d, ← coe_sum]
  refine (congrArg (fun z : EReal => _ * z) scale_ref).trans ?_
  exact (EReal.coe_mul _ _).symm

/-- The greatest of a row's scores is a real number. -/
theorem ctx_max (hq : Finite q) (hk : Finite k) (i : S4x8x256.Idx) :
    ∃ μ : ℝ, val_main_v16 (F := Ideal) q k i = ((μ : ℝ) : EReal) := by
  have e : val_main_v14 (F := Ideal) q k i = _ := Host.reduce_eq_fold_single (FloatOps.maximumf (F := Ideal) (φ := .f32))
    (val_main_v13 (F := Ideal) q k) (val_main_cst_1 (F := Ideal)) reducesTo_S4x8x256x256_S4x8x256_d3 (by decide) h_S_ i
  obtain ⟨μ, hμ⟩ := fold_max_real (N := 256) (by norm_num) _ _ (fun j => ctx_score hq hk
    (Shape.Reduces.lift (s := S4x8x256x256) (t := S4x8x256) (a := 3) (by decide) i j))
  refine ⟨μ, ?_⟩
  rw [val_main_v16_apply, e]
  refine Eq.trans ?_ hμ
  show max (Ideal.ofBits .f32 0xFF800000#32) (Finset.univ.fold max (Ideal.ofBits .f32 0xFF800000#32) _) = _
  rw [negInf, max_eq_right bot_le]
  rfl

/-- The weights of a row, before they are divided by their sum. -/
theorem ctx_weight (hq : Finite q) (hk : Finite k) (j : S4x8x256.Idx) (μ : ℝ)
    (hμ : val_main_v16 (F := Ideal) q k j = ((μ : ℝ) : EReal)) (i : S4x8x256x256.Idx)
    (h0 : (i 0 : ℕ) = j 0) (h1 : (i 1 : ℕ) = j 1) (h2 : (i 2 : ℕ) = j 2) :
    val_main_v20 (F := Ideal) q k i = Ideal.exp (((sc q k (j 0) (j 1) (j 2) (i 3) : ℝ) : EReal) - ((μ : ℝ) : EReal)) := by
  have e : idx_main_v17 (idx_main_v18 i) = j := by
    funext a
    match a with
    | ⟨0, _⟩ => exact Fin.ext h0
    | ⟨1, _⟩ => exact Fin.ext h1
    | ⟨2, _⟩ => exact Fin.ext h2
  rw [val_main_v20_apply, val_main_v19_apply, val_main_v18_apply, val_main_v17_apply, e, hμ, ctx_score hq hk, h0, h1, h2]
  rfl

/-- The context's result at a position, a head and a lane. -/
theorem ctx_out (hq : Finite q) (hk : Finite k) (hv : Finite v) (h1 : Ones v) (i : S4x8x64x256.Idx) :
    val_main_v25 (F := Ideal) q k v i = ((headOut q k v (i 0) (i 3) (i 1) (i 2) : ℝ) : EReal) := by
  have h3 : (i 3 : ℕ) < 256 := (i 3).isLt
  obtain ⟨μ, hμ⟩ := ctx_max hq hk (ix3 (i 0) (i 1) (i 3))
  rw [val_main_v25_apply]
  have e : ∀ j : Fin 256, val_main_v8 (F := Ideal) v (lidx_main_v25 i j) * val_main_v24 (F := Ideal) q k (ridx_main_v25 i j)
      = ((kOf v (i 0) (i 1) j (i 2) : ℝ) : EReal)
        * Ideal.div (Ideal.exp (((sc q k (i 0) (i 1) (i 3) j : ℝ) : EReal) - ((μ : ℝ) : EReal)))
        (0 + ∑ j : Fin 256, Ideal.exp (((sc q k (i 0) (i 1) (i 3) j : ℝ) : EReal) - ((μ : ℝ) : EReal))) := fun j => by
    rw [val_main_v24_apply, val_main_v23_apply, val_main_v22_apply, val_main_v21_apply,
      ctx_weight hq hk _ μ hμ (ridx_main_v25 i j) rfl rfl rfl]
    rw [Finset.sum_congr rfl fun d _ => ctx_weight hq hk _ μ hμ
      (idx_main_v21 (idx_main_v22 (idx_main_v23 (ridx_main_v25 i j))) d) rfl rfl rfl]
    rw [val_main_v8_apply, heads_v hv _ (i 0) j (i 1) (i 2) rfl rfl rfl rfl, val_main_cst_3_apply]
    rw [show FloatOps.ofBits (F := Ideal) .f32 0x00000000#32 = (0 : EReal) from Ideal.ofBits_zero_f32]
    rfl
  rw [Finset.sum_congr rfl fun j _ => e j]
  rw [softmax_real (by norm_num) (fun j : Fin 256 => sc q k (i 0) (i 1) (i 3) j)
    (fun j : Fin 256 => scoreOf (qOf q (i 0) (i 1)) (kOf k (i 0) (i 1)) (i 3) j) (fun j : Fin 256 => kOf v (i 0) (i 1) j (i 2)) μ
    (fun j => sc_eq q k _ _ _ _)]
  unfold headOut
  rw [show seen (i 3 : ℕ) = 256 from if_pos h3, mean_real _ _ _ _ _ fun j hj => h1 _ (i 0).isLt j (by omega) _ (i 1).isLt]

/-! ### The queries of the latents -/

/-- The latents' scores. -/
theorem lat_score (hq : Finite q) (hk : Finite k) (i : S4x8x8192x8448.Idx) :
    val_main_v33 (F := Ideal) q k i = ((sc q k (i 0) (i 1) (256 + i 2) (i 3) : ℝ) : EReal) := by
  rw [val_main_v33_apply, val_main_v31_apply, val_main_v32_apply]
  have e : ∀ d : Fin 128, val_main_v28 (F := Ideal) q (lidx_main_v31 i d) * val_main_v2 (F := Ideal) k (ridx_main_v31 i d)
      = ((ent q (i 0) (256 + i 2) (128 * (i 1) + d) * ent k (i 0) (i 3) (128 * (i 1) + d) : ℝ) : EReal) := fun d => by
    rw [val_main_v28_apply, heads_q hq _ (i 0) (256 + i 2) (i 1) d rfl rfl rfl rfl,
      heads_k hk _ (i 0) (i 3) (i 1) d rfl rfl rfl rfl, EReal.coe_mul]
  rw [Finset.sum_congr rfl fun d _ => e d, ← coe_sum]
  refine (congrArg (fun z : EReal => _ * z) scale_ref).trans ?_
  exact (EReal.coe_mul _ _).symm

/-- The greatest of a row's scores is a real number. -/
theorem lat_max (hq : Finite q) (hk : Finite k) (i : S4x8x8192.Idx) :
    ∃ μ : ℝ, val_main_v36 (F := Ideal) q k i = ((μ : ℝ) : EReal) := by
  have e : val_main_v34 (F := Ideal) q k i = _ := Host.reduce_eq_fold_single (FloatOps.maximumf (F := Ideal) (φ := .f32))
    (val_main_v33 (F := Ideal) q k) (val_main_cst_6 (F := Ideal)) reducesTo_S4x8x8192x8448_S4x8x8192_d3 (by decide) h_S_ i
  obtain ⟨μ, hμ⟩ := fold_max_real (N := 8448) (by norm_num) _ _ (fun j => lat_score hq hk
    (Shape.Reduces.lift (s := S4x8x8192x8448) (t := S4x8x8192) (a := 3) (by decide) i j))
  refine ⟨μ, ?_⟩
  rw [val_main_v36_apply, e]
  refine Eq.trans ?_ hμ
  show max (Ideal.ofBits .f32 0xFF800000#32) (Finset.univ.fold max (Ideal.ofBits .f32 0xFF800000#32) _) = _
  rw [negInf, max_eq_right bot_le]
  rfl

/-- The weights of a row, before they are divided by their sum. -/
theorem lat_weight (hq : Finite q) (hk : Finite k) (j : S4x8x8192.Idx) (μ : ℝ)
    (hμ : val_main_v36 (F := Ideal) q k j = ((μ : ℝ) : EReal)) (i : S4x8x8192x8448.Idx)
    (h0 : (i 0 : ℕ) = j 0) (h1 : (i 1 : ℕ) = j 1) (h2 : (i 2 : ℕ) = j 2) :
    val_main_v40 (F := Ideal) q k i = Ideal.exp (((sc q k (j 0) (j 1) (256 + j 2) (i 3) : ℝ) : EReal) - ((μ : ℝ) : EReal)) := by
  have e : idx_main_v37 (idx_main_v38 i) = j := by
    funext a
    match a with
    | ⟨0, _⟩ => exact Fin.ext h0
    | ⟨1, _⟩ => exact Fin.ext h1
    | ⟨2, _⟩ => exact Fin.ext h2
  rw [val_main_v40_apply, val_main_v39_apply, val_main_v38_apply, val_main_v37_apply, e, hμ, lat_score hq hk, h0, h1, h2]
  rfl

/-- The latents' result at a position, a head and a lane. -/
theorem lat_out (hq : Finite q) (hk : Finite k) (hv : Finite v) (h1 : Ones v) (i : S4x8x64x8192.Idx) :
    val_main_v45 (F := Ideal) q k v i = ((headOut q k v (i 0) (256 + i 3) (i 1) (i 2) : ℝ) : EReal) := by
  obtain ⟨μ, hμ⟩ := lat_max hq hk (ix3 (i 0) (i 1) (i 3))
  rw [val_main_v45_apply]
  have e : ∀ j : Fin 8448, val_main_v5 (F := Ideal) v (lidx_main_v45 i j) * val_main_v44 (F := Ideal) q k (ridx_main_v45 i j)
      = ((kOf v (i 0) (i 1) j (i 2) : ℝ) : EReal)
        * Ideal.div (Ideal.exp (((sc q k (i 0) (i 1) (256 + i 3) j : ℝ) : EReal) - ((μ : ℝ) : EReal)))
        (0 + ∑ j : Fin 8448, Ideal.exp (((sc q k (i 0) (i 1) (256 + i 3) j : ℝ) : EReal) - ((μ : ℝ) : EReal))) := fun j => by
    rw [val_main_v44_apply, val_main_v43_apply, val_main_v42_apply, val_main_v41_apply,
      lat_weight hq hk _ μ hμ (ridx_main_v45 i j) rfl rfl rfl]
    rw [Finset.sum_congr rfl fun d _ => lat_weight hq hk _ μ hμ
      (idx_main_v41 (idx_main_v42 (idx_main_v43 (ridx_main_v45 i j))) d) rfl rfl rfl]
    rw [heads_v hv _ (i 0) j (i 1) (i 2) rfl rfl rfl rfl, val_main_cst_8_apply]
    rw [show FloatOps.ofBits (F := Ideal) .f32 0x00000000#32 = (0 : EReal) from Ideal.ofBits_zero_f32]
    rfl
  rw [Finset.sum_congr rfl fun j _ => e j]
  rw [softmax_real (by norm_num) (fun j : Fin 8448 => sc q k (i 0) (i 1) (256 + i 3) j)
    (fun j : Fin 8448 => scoreOf (qOf q (i 0) (i 1)) (kOf k (i 0) (i 1)) (256 + i 3) j) (fun j : Fin 8448 => kOf v (i 0) (i 1) j (i 2)) μ
    (fun j => sc_eq q k _ _ _ _)]
  unfold headOut
  rw [show seen (256 + (i 3 : ℕ)) = 8448 from if_neg (by omega), mean_real _ _ _ _ _ fun j hj => h1 _ (i 0).isLt j (by omega) _ (i 1).isLt]

/-! ### The whole result -/

/-- The reference's result. -/
theorem result_eq (hq : Finite q) (hk : Finite k) (hv : Finite v) (h1 : Ones v) :
    val_main_v49 (F := Ideal) q k v = result q k v := by
  funext i
  have h0 : (i 0 : ℕ) < 4 := (i 0).isLt
  have hi : (i 1 : ℕ) < 8448 := (i 1).isLt
  have h2 : (i 2 : ℕ) < 512 := (i 2).isLt
  rw [val_main_v49_apply]
  show val_main_v48 (F := Ideal) q k v i = _
  unfold val_main_v48 result
  by_cases h : (i 1 : ℕ) < 256
  · refine (concatenate_pair_apply_left 1 (val_main_v27 (F := Ideal) q k v) (val_main_v47 (F := Ideal) q k v)
      concatenates_S4x256x512_S4x8192x512_S4x8448x512_d1 i rfl (ix3 ⟨i 0, h0⟩ ⟨i 1, h⟩ ⟨i 2, h2⟩) fun b => ?_).trans ?_
    · match b with
      | ⟨0, _⟩ => rfl
      | ⟨1, _⟩ => rfl
      | ⟨2, _⟩ => rfl
    · rw [val_main_v27_apply, val_main_v26_apply, ctx_out hq hk hv h1]
      refine congrArg Real.toEReal ?_
      congr 1 <;> dsimp only [idx_main_v26, idx_main_v27, ix3_0, ix3_1, ix3_2] <;> omega
  · refine (concatenate_pair_apply_right 1 (val_main_v27 (F := Ideal) q k v) (val_main_v47 (F := Ideal) q k v)
      concatenates_S4x256x512_S4x8192x512_S4x8448x512_d1 i rfl rfl (ix3 ⟨i 0, h0⟩ ⟨(i 1 : ℕ) - 256, by omega⟩ ⟨i 2, h2⟩)
      (fun b hb => ?_) ?_).trans ?_
    · match b, hb with
      | ⟨0, _⟩, _ => rfl
      | ⟨1, _⟩, hb => exact absurd rfl hb
      | ⟨2, _⟩, _ => rfl
    · show (i 1 : ℕ) - 256 + 256 = (i 1 : ℕ)
      omega
    · rw [val_main_v47_apply, val_main_v46_apply, lat_out hq hk hv h1]
      refine congrArg Real.toEReal ?_
      congr 1 <;> dsimp only [idx_main_v46, idx_main_v47, ix3_0, ix3_1, ix3_2] <;> omega

end Cert.ReferenceIdeal.Attn

end
-- ==== Proof.Pre.lean ====
/- What the precondition says: every operand entry is a real number, and lane 64 of every head of the values holds one. -/
module

public import proofs.«01_k».proof.Proof.Ref
public import proofs.«01_k».proof.Proof.Gen.Pre_attn_pre
public import Idealize.ShloMosaic.Lib.ReduceAll

@[expose] public section

set_option maxRecDepth 16384

noncomputable section

namespace Cert.Pre_attn_pre.Attn

open Cert.Pre_attn_pre Cert.Pre_attn_pre.Gen Cert.Attn Idealize.ShloMosaic

/-- The pattern of plus infinity is the greatest extended real. -/
theorem posInf : Ideal.ofBits .f32 0x7F800000#32 = (⊤ : EReal) := by
  simp [Ideal.ofBits, Ideal.ieee]

/-- An extended real whose absolute value is below infinity is a real number. -/
theorem real_of_abs (x : EReal) (h : Ideal.cmp .olt (max x (-x)) (Ideal.ofBits .f32 0x7F800000#32) = 1#1) :
    ∃ r : ℝ, x = ((r : ℝ) : EReal) := by
  rw [posInf] at h
  induction x using EReal.rec with
  | bot => exact absurd h (by simp [Ideal.cmp])
  | coe r => exact ⟨r, rfl⟩
  | top => exact absurd h (by simp [Ideal.cmp])

/-- An extended real that compares equal to one is one. -/
theorem one_of_cmp (x : EReal) (h : Ideal.cmp .oeq x (Ideal.ofBits .f32 0x3F800000#32) = 1#1) : x = 1 := by
  rw [Ideal.ofBits_one_f32] at h
  by_contra hx
  exact absurd h (by simp [Ideal.cmp, hx])

/-- The result of a reduction over all axes has one index. -/
instance : Subsingleton S_.Idx := ⟨fun a b => funext fun i => i.elim0⟩

/-- An array that is finite by the test is finite. -/
theorem finite_of_test (x : FVec Ideal S4x8448x1024 .f32) (j : S_.Idx)
    (h : Host.reduce IntOp.andi (cmpf .olt (Host.absf x) (broadcastInDim S4x8448x1024 ![] bcast_S_S4x8448x1024
      (constant (F := Ideal) S_ .f32 0x7F800000#32))) (constantI S_ 1 1#1) reducesTo_S4x8448x1024_S_d0_1_2 h_S_ j = 1#1) :
    Finite x := fun i =>
  real_of_abs (x i) (Host.reduce_andi_all _ _ _ _ j h i)

/-- The precondition, read. -/
theorem of_pre (q : FVec Ideal S4x8448x1024 .f32) (k v : FVec Ideal S4x8448x1024 .bf16)
    (h : Cert.Pre_attn_pre.fn (F := Ideal) q k v = fun _ => 1#1) : Finite q ∧ Finite k ∧ Finite v ∧ Ones v := by
  have h0 := congrFun h (fun a => a.elim0)
  unfold Cert.Pre_attn_pre.fn Cert.Pre_attn_pre.fn_part1 at h0
  obtain ⟨h1, hone⟩ := IntOp.andi_eq_one.1 h0
  obtain ⟨h2, hv⟩ := IntOp.andi_eq_one.1 h1
  obtain ⟨hq, hk⟩ := IntOp.andi_eq_one.1 h2
  have fv : Finite v := finite_of_test _ _ hv
  refine ⟨finite_of_test _ _ hq, finite_of_test _ _ hk, fv, fun b hb j hj e he => ?_⟩
  have h64 := one_of_cmp _ (Host.reduce_andi_all _ _ _ _ _ hone (ix3 ⟨b, hb⟩ ⟨j, hj⟩ ⟨e, he⟩))
  rw [shapeCast_apply _ shapeCasts_S4x8448x8x1_S4x8448x8 (ix3 ⟨b, hb⟩ ⟨j, hj⟩ ⟨e, he⟩)
    (ix4 ⟨b, hb⟩ ⟨j, hj⟩ ⟨e, he⟩ (0 : Fin 1)) (by
      rw [Shape.rowMajor_val_three, Shape.rowMajor_val_four]
      show ((b * 8448 + j) * 8 + e) * 1 + 0 = (b * 8448 + j) * 8 + e
      omega)] at h64
  beta_reduce at h64
  rw [extractStridedSlice_apply ![0, 0, 0, 64] _ slices_S4x8448x8x128_S4x8448x8x1_0_0_0_64 _
      (ix4 ⟨b, hb⟩ ⟨j, hj⟩ ⟨e, he⟩ (⟨64, by omega⟩ : Fin 128)) (fun a => match a with
        | ⟨0, _⟩ => by show b = 0 + b; omega
        | ⟨1, _⟩ => by show j = 0 + j; omega
        | ⟨2, _⟩ => by show e = 0 + e; omega
        | ⟨3, _⟩ => by show 64 = 64 + 0; omega),
    shapeCast_apply _ shapeCasts_S4x8448x1024_S4x8448x8x128 _ (ix3 ⟨b, hb⟩ ⟨j, hj⟩ (⟨128 * e + 64, by omega⟩ : Fin 1024)) (by
      rw [Shape.rowMajor_val_three, Shape.rowMajor_val_four]
      show (b * 8448 + j) * 1024 + (128 * e + 64) = ((b * 8448 + j) * 8 + e) * 128 + 64
      omega)] at h64
  have h65 : ((ent v b j (128 * e + 64) : ℝ) : EReal) = 1 :=
    (fv.eq (ix3 ⟨b, hb⟩ ⟨j, hj⟩ (⟨128 * e + 64, by omega⟩ : Fin 1024)) _ _ _ rfl rfl rfl).symm.trans h64
  exact_mod_cast h65

end Cert.Pre_attn_pre.Attn

end
-- ==== Proof.MergeSpec.lean ====
/- What the merge call computes of one token, row by row: gates, the three branches' products, the output projection, and the
   feed-forward part, each with its residual. -/
module

public import Idealize.ShloMosaic.PureOps.Ideal
public import Idealize.ShloMosaic.Lib.Pointwise

@[expose] public section

noncomputable section

namespace Cert.Merge

open Idealize.ShloMosaic

/-- The small number under the root. -/
def eps : EReal := Ideal.ofBits .f32 0x358637BD#32

/-- A row times a matrix. -/
def product {n p : ℕ} (x : Fin n → EReal) (w : Fin n → Fin p → EReal) (l : Fin p) : EReal := ∑ k, x k * w k l

/-- A row over its root mean square, scaled and shifted. -/
def modulated (x sh sc : Fin 1024 → EReal) (l : Fin 1024) : EReal :=
  x l * Ideal.rsqrt ((∑ k, x k * x k) * ((1 / 1024 : ℝ) : EReal) + eps) * (1 + sc l) + sh l

/-- The three branches' gates, from the row's projection. -/
def gates (h : Fin 1024 → EReal) (w : Fin 1024 → Fin 3072 → EReal) (c : Fin 3072) : EReal :=
  Ideal.div 1 (1 + Ideal.exp (-product h w c))

/-- The gated sum of the branches. -/
def mixed (g : Fin 3072 → EReal) (a b c : Fin 1024 → EReal) (l : Fin 1024) : EReal :=
  g ⟨l, by omega⟩ * a l + g ⟨1024 + l, by omega⟩ * b l + g ⟨2048 + l, by omega⟩ * c l

/-- A residual: the row plus a gated row times a matrix. -/
def residual {n : ℕ} (x g : Fin 1024 → EReal) (y : Fin n → EReal) (w : Fin n → Fin 1024 → EReal) (l : Fin 1024) : EReal :=
  x l + g l * product y w l

/-- The hidden row of the feed-forward part: the square of what is positive of a row's projection. -/
def hidden (h : Fin 1024 → EReal) (w : Fin 1024 → Fin 4096 → EReal) (j : Fin 4096) : EReal :=
  max (product h w j) 0 * max (product h w j) 0

/-- A sixth of the modulations: 1024 of the 6144 lanes, from lane `1024 n` on. -/
def part (md : Fin 6144 → EReal) (n : Fin 6) (l : Fin 1024) : EReal := md ⟨1024 * n + l, by omega⟩

/-- The token after the mixers. -/
def mixer (x : Fin 1024 → EReal) (md : Fin 6144 → EReal) (ya yb yc : Fin 512 → EReal) (wg : Fin 1024 → Fin 3072 → EReal)
    (wa wb wc : Fin 512 → Fin 1024 → EReal) (wo : Fin 1024 → Fin 1024 → EReal) : Fin 1024 → EReal :=
  residual x (part md 2)
    (mixed (gates (modulated x (part md 0) (part md 1)) wg) (product ya wa) (product yb wb) (product yc wc)) wo

/-- The token after the feed-forward part. -/
def ffn (x : Fin 1024 → EReal) (md : Fin 6144 → EReal) (w1 : Fin 1024 → Fin 4096 → EReal)
    (w2 : Fin 4096 → Fin 1024 → EReal) : Fin 1024 → EReal :=
  residual x (part md 5) (hidden (modulated x (part md 3) (part md 4)) w1) w2

/-- A token of the result: of batch row `b`, the `t`-th latent, which is row `256 + t` of the stream. -/
def token (x : Vec Ideal ⟨3, ![4, 8448, 1024]⟩ .f32) (md : Vec Ideal ⟨3, ![4, 8, 6144]⟩ .f32)
    (ya yb yc : Vec Ideal ⟨3, ![4, 8448, 512]⟩ .bf16) (win : Vec Ideal ⟨3, ![4, 1024, 5792]⟩ .f32)
    (wa wb wc : Vec Ideal ⟨3, ![4, 512, 1024]⟩ .f32) (wo : Vec Ideal ⟨3, ![4, 1024, 1024]⟩ .f32)
    (w1 : Vec Ideal ⟨3, ![4, 1024, 4096]⟩ .f32) (w2 : Vec Ideal ⟨3, ![4, 4096, 1024]⟩ .f32)
    (b : Fin 4) (t : Fin 8192) : Fin 1024 → EReal :=
  ffn (mixer (fun k => x (ix3 b ⟨256 + t, by omega⟩ k)) (fun k => md (ix3 3 ⟨b, by omega⟩ k))
      (fun k => ya (ix3 b ⟨256 + t, by omega⟩ k)) (fun k => yb (ix3 b ⟨256 + t, by omega⟩ k))
      (fun k => yc (ix3 b ⟨256 + t, by omega⟩ k)) (fun k j => win (ix3 3 k ⟨2720 + j, by omega⟩))
      (fun k j => wa (ix3 3 k j)) (fun k j => wb (ix3 3 k j)) (fun k j => wc (ix3 3 k j)) fun k j => wo (ix3 3 k j))
    (fun k => md (ix3 3 ⟨b, by omega⟩ k)) (fun k j => w1 (ix3 3 k j)) fun k j => w2 (ix3 3 k j)

/-- The result array: its tokens. -/
def result (x : Vec Ideal ⟨3, ![4, 8448, 1024]⟩ .f32) (md : Vec Ideal ⟨3, ![4, 8, 6144]⟩ .f32)
    (ya yb yc : Vec Ideal ⟨3, ![4, 8448, 512]⟩ .bf16) (win : Vec Ideal ⟨3, ![4, 1024, 5792]⟩ .f32)
    (wa wb wc : Vec Ideal ⟨3, ![4, 512, 1024]⟩ .f32) (wo : Vec Ideal ⟨3, ![4, 1024, 1024]⟩ .f32)
    (w1 : Vec Ideal ⟨3, ![4, 1024, 4096]⟩ .f32) (w2 : Vec Ideal ⟨3, ![4, 4096, 1024]⟩ .f32) :
    Vec Ideal ⟨3, ![4, 8192, 1024]⟩ .f32 := fun i => token x md ya yb yc win wa wb wc wo w1 w2 (i 0) (i 1) (i 2)

/-- The pattern of one over 1024. -/
theorem ofBits_inv : Ideal.ofBits .f32 0x3A800000#32 = ((1 / 1024 : ℝ) : EReal) := by
  simp [Ideal.ofBits, Ideal.ieee, -EReal.coe_mul]; norm_num

/-- The pattern of 1024. -/
theorem ofBits_1024 : Ideal.ofBits .f32 0x44800000#32 = ((1024 : ℝ) : EReal) := by
  simp [Ideal.ofBits, Ideal.ieee, -EReal.coe_mul]; norm_num

end Cert.Merge

end
-- ==== Proof.MergeBlock.lean ====
/- What one grid point of the merge kernel writes: each row of the tile, through the mixers' merge and the feed-forward part. -/
module

public import proofs.«01_k».proof.Proof.MergeSpec
public import proofs.«01_k».proof.Proof.Gen.Kernel2Ideal.Value
public import Idealize.ShloMosaic.Lib.Pointwise
public import Idealize.ShloMosaic.Lib.VecWindow

@[expose] public section

set_option maxRecDepth 16384

noncomputable section

namespace Cert.Kernel2Ideal.Merge

open Cert.Kernel2Ideal Cert.Kernel2Ideal.Gen Cert.Merge Idealize.ShloMosaic Idealize.ShloMosaic.TcCoe

/-- The gates' denominators, at an index. -/
theorem gates_apply (v4 : Vec Ideal S1x1x6144 .f32) (v12 : Vec Ideal S1x256x1024 .f32) (v31 : Vec Ideal S1x1024x3072 .bf16)
    (r : Fin 256) (l : Fin 3072) :
    k0_pay8 v4 v12 v31 (ix2 r l) = 1 + Ideal.exp (-product (modulated (fun k => v12 (ix3 0 r k))
      (part (fun k => v4 (ix3 0 0 k)) 0) (part (fun k => v4 (ix3 0 0 k)) 1)) (fun k j => v31 (ix3 0 k j)) l) := by
  pointwise [k0_pay8, k0_pay7, k0_pay2]
  rw [ofBits_inv, zero_sub]
  simp only [product, modulated, part, eps, Fin.val_zero, Fin.val_one, mul_zero, mul_one, zero_add]

/-- The row after the mixers, at an index. -/
theorem mixer_apply (v8 : FVec Ideal S1x1024 .f32) (v13 : FVec Ideal S256x1024 .f32) (v38 : FVec Ideal S256x3072 .f32)
    (a b c : Vec Ideal S1x256x512 .bf16) (wa wb wc : Vec Ideal S1x512x1024 .bf16) (wo : Vec Ideal S1x1024x1024 .bf16)
    (r : Fin 256) (l : Fin 1024) :
    k0_pay9 v8 v13 v38 (Scalar.ofBits .f32 0x3F800000#32) a wa b wb c wc wo (ix2 r l)
      = residual (fun k => v13 (ix2 r k)) (fun k => v8 (ix2 0 k)) (mixed (fun k => Ideal.div 1 (v38 (ix2 r k)))
        (product (fun k => a (ix3 0 r k)) fun k j => wa (ix3 0 k j)) (product (fun k => b (ix3 0 r k)) fun k j => wb (ix3 0 k j))
        (product (fun k => c (ix3 0 r k)) fun k j => wc (ix3 0 k j))) (fun k j => wo (ix3 0 k j)) l := by
  pointwise [k0_pay9]
  rfl

/-- The row after the feed-forward part, at an index. -/
theorem ffn_apply (v9 v10 v11 : FVec Ideal S1x1024 .f32) (v70 : FVec Ideal S256x1024 .f32) (v72 : FVec Ideal S256 .f32)
    (w1 : Vec Ideal S1x1024x4096 .bf16) (w2 : Vec Ideal S1x4096x1024 .bf16) (r : Fin 256) (l : Fin 1024)
    (h : v72 (ix1 r) = ∑ k : Fin 1024, v70 (ix2 r k) * v70 (ix2 r k)) :
    k0_pay1 v9 v10 v11 v70 v72 w1 w2 (ix3 0 r l) = residual (fun k => v70 (ix2 r k)) (fun k => v11 (ix2 0 k))
      (hidden (modulated (fun k => v70 (ix2 r k)) (fun k => v9 (ix2 0 k)) (fun k => v10 (ix2 0 k))) fun k j => w1 (ix3 0 k j))
      (fun k j => w2 (ix3 0 k j)) l := by
  pointwise [k0_pay1]
  rw [ofBits_inv, h]
  rfl

/-- The row of modulations a grid point loads: its batch row's. -/
theorem off_eq (i : grid0.Coords) : k0_off1 i = ![0, (i 0).val, 0] := by
  have h0 : (i 0 : ℕ) < 4 := (i 0).isLt
  have h1 : (i 1 : ℕ) < 32 := (i 1).isLt
  unfold k0_off1
  generalize (i 0 : ℕ) = p at *
  generalize (i 1 : ℕ) = q at *
  interval_cases p <;> interval_cases q <;> decide +kernel

/-- The modulations a grid point loads, lane by lane. -/
theorem load_mods (i : grid0.Coords) (M : Memref sig .tc .vmem S1x8x6144 .f32) (hM : M.IsWhole) (x : Vec Ideal S1x8x6144 .f32)
    (inb : ∀ a, k0_off1 i a + S1x1x6144.size a ≤ S1x8x6144.size a) (k : Fin 6144) :
    M.view.readAt (Elt Ideal) (Rect.unit (s := S1x8x6144) (k0_off1 i) S1x1x6144.size inb).toLoadRect (hM.unread x) (ix3 0 0 k)
      = x (ix3 0 ⟨(i 0).val, lt_of_lt_of_le (i 0).isLt (by decide)⟩ k) := by
  rw [View.readAt_apply, hM.read_unread]
  refine congrArg x (funext fun a => Fin.ext ?_)
  fin_cases a
  · show k0_off1 i 0 + 1 * 0 = 0
    rw [off_eq]; rfl
  · show k0_off1 i 1 + 1 * 0 = (i 0).val
    rw [off_eq]; rfl
  · show k0_off1 i 2 + 1 * k.val = k.val
    rw [off_eq]; show 0 + 1 * k.val = k.val; omega

/-- The sum of squares the kernel carries to the feed-forward part. -/
theorem squares_apply (v8 : FVec Ideal S1x1024 .f32) (v13 : FVec Ideal S256x1024 .f32) (v38 : FVec Ideal S256x3072 .f32) (o : Ideal .f32)
    (a b c : Vec Ideal S1x256x512 .bf16) (wa wb wc : Vec Ideal S1x512x1024 .bf16) (wo : Vec Ideal S1x1024x1024 .bf16) (r : Fin 256) :
    k0_pay10 v8 v13 v38 o a wa b wb c wc wo (ix1 r) = ∑ k : Fin 1024,
      HMul.hMul (α := EReal) (β := EReal) (k0_pay9 v8 v13 v38 o a wa b wb c wc wo (ix2 r k)) (k0_pay9 v8 v13 v38 o a wa b wb c wc wo (ix2 r k)) := by
  unfold k0_pay10
  generalize k0_pay9 v8 v13 v38 o a wa b wb c wc wo = y
  pointwise []

/-- The gate of the mixers' residual. -/
theorem part2_apply (v4 : Vec Ideal S1x1x6144 .f32) (l : Fin 1024) : k0_pay3 v4 (ix2 0 l) = part (fun k => v4 (ix3 0 0 k)) 2 l := by
  pointwise [k0_pay3, k0_pay2]
  rfl
/-- The shift of the feed-forward part. -/
theorem part3_apply (v4 : Vec Ideal S1x1x6144 .f32) (l : Fin 1024) : k0_pay4 v4 (ix2 0 l) = part (fun k => v4 (ix3 0 0 k)) 3 l := by
  pointwise [k0_pay4, k0_pay2]
  rfl
/-- The scale of the feed-forward part. -/
theorem part4_apply (v4 : Vec Ideal S1x1x6144 .f32) (l : Fin 1024) : k0_pay5 v4 (ix2 0 l) = part (fun k => v4 (ix3 0 0 k)) 4 l := by
  pointwise [k0_pay5, k0_pay2]
  rfl
/-- The gate of the feed-forward residual. -/
theorem part5_apply (v4 : Vec Ideal S1x1x6144 .f32) (l : Fin 1024) : k0_pay6 v4 (ix2 0 l) = part (fun k => v4 (ix3 0 0 k)) 5 l := by
  pointwise [k0_pay6, k0_pay2]
  rfl
/-- The tile's rows. -/
theorem rows_apply (v : Vec Ideal S1x256x1024 .f32) (r : Fin 256) (l : Fin 1024) : k0_pay7 v (ix2 r l) = v (ix3 0 r l) := by
  pointwise [k0_pay7]

/-- The row after the mixers, from the loaded blocks. -/
theorem mixers_apply (v4 : Vec Ideal S1x1x6144 .f32) (x : Vec Ideal S1x256x1024 .f32) (wg : Vec Ideal S1x1024x3072 .bf16)
    (a b c : Vec Ideal S1x256x512 .bf16) (wa wb wc : Vec Ideal S1x512x1024 .bf16) (wo : Vec Ideal S1x1024x1024 .bf16)
    (r : Fin 256) (l : Fin 1024) :
    k0_pay9 (k0_pay3 v4) (k0_pay7 x) (k0_pay8 v4 x wg) (Scalar.ofBits .f32 0x3F800000#32) a wa b wb c wc wo (ix2 r l)
      = mixer (fun k => x (ix3 0 r k)) (fun k => v4 (ix3 0 0 k)) (fun k => a (ix3 0 r k)) (fun k => b (ix3 0 r k))
        (fun k => c (ix3 0 r k)) (fun k j => wg (ix3 0 k j)) (fun k j => wa (ix3 0 k j)) (fun k j => wb (ix3 0 k j))
        (fun k j => wc (ix3 0 k j)) (fun k j => wo (ix3 0 k j)) l := by
  rw [mixer_apply]
  simp only [part2_apply, rows_apply, gates_apply]
  rfl

/-- What one grid point writes, at row `r` and lane `l`. -/
theorem out_apply (c : Dev nD) (i : grid0.Coords)
    (a0 : Memref sig .tc .vmem S1x256x1024 .f32) (h0 : a0.IsWhole) (a1 : Memref sig .tc .vmem S1x8x6144 .f32) (h1 : a1.IsWhole)
    (a2 : Memref sig .tc .vmem S1x256x512 .bf16) (h2 : a2.IsWhole) (a3 : Memref sig .tc .vmem S1x256x512 .bf16) (h3 : a3.IsWhole)
    (a4 : Memref sig .tc .vmem S1x256x512 .bf16) (h4 : a4.IsWhole) (a5 : Memref sig .tc .vmem S1x1024x3072 .bf16) (h5 : a5.IsWhole)
    (a6 : Memref sig .tc .vmem S1x512x1024 .bf16) (h6 : a6.IsWhole) (a7 : Memref sig .tc .vmem S1x512x1024 .bf16) (h7 : a7.IsWhole)
    (a8 : Memref sig .tc .vmem S1x512x1024 .bf16) (h8 : a8.IsWhole) (a9 : Memref sig .tc .vmem S1x1024x1024 .bf16) (h9 : a9.IsWhole)
    (a10 : Memref sig .tc .vmem S1x1024x4096 .bf16) (h10 : a10.IsWhole) (a11 : Memref sig .tc .vmem S1x4096x1024 .bf16) (h11 : a11.IsWhole)
    (a12 : Memref sig .tc .vmem S1x256x1024 .f32) (h12 : a12.IsWhole)
    (x0 : Vec Ideal S1x256x1024 .f32) (x1 : Vec Ideal S1x8x6144 .f32) (x2 : Vec Ideal S1x256x512 .bf16)
    (x3 : Vec Ideal S1x256x512 .bf16) (x4 : Vec Ideal S1x256x512 .bf16) (x5 : Vec Ideal S1x1024x3072 .bf16)
    (x6 : Vec Ideal S1x512x1024 .bf16) (x7 : Vec Ideal S1x512x1024 .bf16) (x8 : Vec Ideal S1x512x1024 .bf16)
    (x9 : Vec Ideal S1x1024x1024 .bf16) (x10 : Vec Ideal S1x1024x4096 .bf16) (x11 : Vec Ideal S1x4096x1024 .bf16)

    (r : Fin 256) (l : Fin 1024) :
    out0_A_12 c i a0 h0 a1 h1 a2 h2 a3 h3 a4 h4 a5 h5 a6 h6 a7 h7 a8 h8 a9 h9 a10 h10 a11 h11 a12 h12
      x0 x1 x2 x3 x4 x5 x6 x7 x8 x9 x10 x11 (ix3 0 r l)
      = ffn (mixer (fun k => x0 (ix3 0 r k)) (fun k => x1 (ix3 0 ⟨(i 0).val, lt_of_lt_of_le (i 0).isLt (by decide)⟩ k))
          (fun k => x2 (ix3 0 r k)) (fun k => x3 (ix3 0 r k)) (fun k => x4 (ix3 0 r k)) (fun k j => x5 (ix3 0 k j))
          (fun k j => x6 (ix3 0 k j)) (fun k j => x7 (ix3 0 k j)) (fun k j => x8 (ix3 0 k j)) fun k j => x9 (ix3 0 k j))
        (fun k => x1 (ix3 0 ⟨(i 0).val, lt_of_lt_of_le (i 0).isLt (by decide)⟩ k))
        (fun k j => x10 (ix3 0 k j)) (fun k j => x11 (ix3 0 k j)) l := by
  have z : (![0, 0, 0] : Fin 3 → ℕ) = fun _ => 0 := by
    funext a
    fin_cases a <;> rfl
  unfold out0_A_12
  rw [View.read_writes_eq_canon _ _ _ (cover0_A_12 c i a0 h0 a1 h1 a2 h2 a3 h3 a4 h4 a5 h5 a6 h6 a7 h7 a8 h8 a9 h9 a10 h10 a11 h11 a12 h12 x0 x1 x2 x3 x4 x5 x6 x7 x8 x9 x10 x11)]
  unfold kernelRun0_A
  dsimp only
  rw [View.canon_unit_zero (h := z)]
  unfold kernelRun0_A.sl.r_1 kernelRun0_A.sl.r_2 kernelRun0_A.sl.r_3 kernelRun0_A.sl.r_6 kernelRun0_A.sl.r_7
  unfold kernelRun0_A.sl.r kernelRun0_A.sl.r_4 kernelRun0_A.sl.r_5 kernelRun0_A.sl.cst_13
  have hm := load_mods i a1 h1 x1 (k0_off1_inb i)
  generalize a1.view.readAt (Elt Ideal) (Rect.unit (s := S1x8x6144) (k0_off1 i) S1x1x6144.size (k0_off1_inb i)).toLoadRect (h1.unread x1)
    = v4 at hm ⊢
  rw [View.readAt_full a0.view, View.readAt_full a2.view, View.readAt_full a3.view, View.readAt_full a4.view, View.readAt_full a5.view,
    View.readAt_full a6.view, View.readAt_full a7.view, View.readAt_full a8.view, View.readAt_full a9.view, View.readAt_full a10.view,
    View.readAt_full a11.view]
  simp only [Memref.IsWhole.read_unread]
  rw [ffn_apply _ _ _ _ _ _ _ _ _ (squares_apply _ _ _ _ _ _ _ _ _ _ _ _)]
  simp only [mixers_apply, part3_apply, part4_apply, part5_apply, hm]
  rfl

end Cert.Kernel2Ideal.Merge

end
-- ==== Proof.MergeFinal.lean ====
/- The merge kernel's result array, tile by tile. -/
module

public import proofs.«01_k».proof.Proof.MergeBlock
public import Idealize.ShloMosaic.Lib.Pipeline.ValueKit.Geometry
public import Idealize.ShloMosaic.Lib.IdealHost

@[expose] public section

set_option maxRecDepth 16384

noncomputable section

namespace Cert.Kernel2Ideal.Merge

open Cert.Kernel2Ideal Cert.Kernel2Ideal.Gen Cert.Merge Idealize.ShloMosaic Idealize.ShloMosaic.TcCoe Idealize.SL.Sem
  Idealize.ShloMosaic.StableHlo

variable (m : (ℓ : Loc nD τ sig) → Buf (Elt Ideal) ℓ)

/-- The gates' weights the region finds: the input projection's, from column 2720 on. -/
theorem V_gates (c : Dev nD) (i : S4x1024x3072.Idx) (j : S4x1024x5792.Idx) (h0 : (j 0).val = (i 0).val) (h1 : (j 1).val = (i 1).val)
    (h2 : (j 2).val = 2720 + (i 2).val) : V m c main_v1 i = m ((c : Thread nD τ).loc main_arg5) j := by
  have e : V m c main_v1 = truncf (F := Ideal) .bf16 (extractStridedSlice S4x1024x3072 ![0, 0, 2720] (m ((c : Thread nD τ).loc main_arg5))
      slices_S4x1024x5792_S4x1024x3072_0_0_2720) bitsLt_bf16_f32 := by
    unfold_abbrev_sides
    after_results
  rw [e]
  refine congrArg (m ((c : Thread nD τ).loc main_arg5)) (funext fun a => Fin.ext ?_)
  fin_cases a
  · refine Eq.trans ?_ h0.symm; show 0 + (i 0).val = (i 0).val; omega
  · refine Eq.trans ?_ h1.symm; show 0 + (i 1).val = (i 1).val; omega
  · exact h2.symm
/-- The weights of the recurrent branch the region finds: the argument's. -/
theorem V_weights2 (c : Dev nD) : V m c main_v2 = m ((c : Thread nD τ).loc main_arg6) := by
  have e : V m c main_v2 = truncf (F := Ideal) .bf16 (m ((c : Thread nD τ).loc main_arg6)) bitsLt_bf16_f32 := by
    unfold_abbrev_sides
    after_results
  rw [e]
  rfl
/-- The weights of the attention branch the region finds: the argument's. -/
theorem V_weights3 (c : Dev nD) : V m c main_v3 = m ((c : Thread nD τ).loc main_arg7) := by
  have e : V m c main_v3 = truncf (F := Ideal) .bf16 (m ((c : Thread nD τ).loc main_arg7)) bitsLt_bf16_f32 := by
    unfold_abbrev_sides
    after_results
  rw [e]
  rfl
/-- The weights of the convolution branch the region finds: the argument's. -/
theorem V_weights4 (c : Dev nD) : V m c main_v4 = m ((c : Thread nD τ).loc main_arg8) := by
  have e : V m c main_v4 = truncf (F := Ideal) .bf16 (m ((c : Thread nD τ).loc main_arg8)) bitsLt_bf16_f32 := by
    unfold_abbrev_sides
    after_results
  rw [e]
  rfl
/-- The weights of the output projection the region finds: the argument's. -/
theorem V_weights5 (c : Dev nD) : V m c main_v5 = m ((c : Thread nD τ).loc main_arg9) := by
  have e : V m c main_v5 = truncf (F := Ideal) .bf16 (m ((c : Thread nD τ).loc main_arg9)) bitsLt_bf16_f32 := by
    unfold_abbrev_sides
    after_results
  rw [e]
  rfl
/-- The weights of the first feed-forward product the region finds: the argument's. -/
theorem V_weights6 (c : Dev nD) : V m c main_v6 = m ((c : Thread nD τ).loc main_arg10) := by
  have e : V m c main_v6 = truncf (F := Ideal) .bf16 (m ((c : Thread nD τ).loc main_arg10)) bitsLt_bf16_f32 := by
    unfold_abbrev_sides
    after_results
  rw [e]
  rfl
/-- The weights of the second feed-forward product the region finds: the argument's. -/
theorem V_weights7 (c : Dev nD) : V m c main_v7 = m ((c : Thread nD τ).loc main_arg11) := by
  have e : V m c main_v7 = truncf (F := Ideal) .bf16 (m ((c : Thread nD τ).loc main_arg11)) bitsLt_bf16_f32 := by
    unfold_abbrev_sides
    after_results
  rw [e]
  rfl

/-- The index of window 0's block. -/
theorem index0 : ∀ t : Fin cfg0.N, win0_0.index t = ![(grid0.coords t 0).val, (grid0.coords t 1).val + 1, 0] := (by decide +kernel : ∀ t : Fin grid0.N, _)
/-- The index of window 1's block. -/
theorem index1 : ∀ t : Fin cfg0.N, win0_1.index t = ![3, 0, 0] := (by decide +kernel : ∀ t : Fin grid0.N, _)
/-- The index of window 2's block. -/
theorem index2 : ∀ t : Fin cfg0.N, win0_2.index t = ![(grid0.coords t 0).val, (grid0.coords t 1).val + 1, 0] := (by decide +kernel : ∀ t : Fin grid0.N, _)
/-- The index of window 3's block. -/
theorem index3 : ∀ t : Fin cfg0.N, win0_3.index t = ![(grid0.coords t 0).val, (grid0.coords t 1).val + 1, 0] := (by decide +kernel : ∀ t : Fin grid0.N, _)
/-- The index of window 4's block. -/
theorem index4 : ∀ t : Fin cfg0.N, win0_4.index t = ![(grid0.coords t 0).val, (grid0.coords t 1).val + 1, 0] := (by decide +kernel : ∀ t : Fin grid0.N, _)
/-- The index of window 5's block. -/
theorem index5 : ∀ t : Fin cfg0.N, win0_5.index t = ![3, 0, 0] := (by decide +kernel : ∀ t : Fin grid0.N, _)
/-- The index of window 6's block. -/
theorem index6 : ∀ t : Fin cfg0.N, win0_6.index t = ![3, 0, 0] := (by decide +kernel : ∀ t : Fin grid0.N, _)
/-- The index of window 7's block. -/
theorem index7 : ∀ t : Fin cfg0.N, win0_7.index t = ![3, 0, 0] := (by decide +kernel : ∀ t : Fin grid0.N, _)
/-- The index of window 8's block. -/
theorem index8 : ∀ t : Fin cfg0.N, win0_8.index t = ![3, 0, 0] := (by decide +kernel : ∀ t : Fin grid0.N, _)
/-- The index of window 9's block. -/
theorem index9 : ∀ t : Fin cfg0.N, win0_9.index t = ![3, 0, 0] := (by decide +kernel : ∀ t : Fin grid0.N, _)
/-- The index of window 10's block. -/
theorem index10 : ∀ t : Fin cfg0.N, win0_10.index t = ![3, 0, 0] := (by decide +kernel : ∀ t : Fin grid0.N, _)
/-- The index of window 11's block. -/
theorem index11 : ∀ t : Fin cfg0.N, win0_11.index t = ![3, 0, 0] := (by decide +kernel : ∀ t : Fin grid0.N, _)
/-- The index of window 12's block. -/
theorem index12 : ∀ t : Fin cfg0.N, win0_12.index t = ![(grid0.coords t 0).val, (grid0.coords t 1).val, 0] := (by decide +kernel : ∀ t : Fin grid0.N, _)

/-- The batch row of a grid point. -/
def batch (t : Fin cfg0.N) : Fin 4 := ⟨(grid0.coords t 0).val, (grid0.coords t 0).isLt⟩

/-- The latent a grid point's row `r` is. -/
def latent (t : Fin cfg0.N) (r : Fin 256) : Fin 8192 :=
  ⟨256 * (grid0.coords t 1).val + r, by have : ((grid0.coords t 1 : Fin _) : ℕ) < 32 := (grid0.coords t 1).isLt; omega⟩

/-- Window 0's block: a tile of rows of its array. -/
theorem block0 (c : Dev nD) (t : Fin cfg0.N) (r : Fin 256) (k : Fin 1024) : iblk m c 0 t (ix3 0 r k)
    = m ((c : Thread nD τ).loc main_arg0) (ix3 (batch t) ⟨256 + latent t r, by omega⟩ k) := by
  blk_simp [iblk]
  rw [V_main_arg0]
  refine congrArg (m ((c : Thread nD τ).loc main_arg0)) (funext fun a => Fin.ext ?_)
  fin_cases a
  all_goals blk_simp [index0] <;> simp [batch, latent] <;> omega
/-- Window 2's block: a tile of rows of its array. -/
theorem block2 (c : Dev nD) (t : Fin cfg0.N) (r : Fin 256) (k : Fin 512) : iblk m c 2 t (ix3 0 r k)
    = m ((c : Thread nD τ).loc main_arg2) (ix3 (batch t) ⟨256 + latent t r, by omega⟩ k) := by
  blk_simp [iblk]
  rw [V_main_arg2]
  refine congrArg (m ((c : Thread nD τ).loc main_arg2)) (funext fun a => Fin.ext ?_)
  fin_cases a
  all_goals blk_simp [index2] <;> simp [batch, latent] <;> omega
/-- Window 3's block: a tile of rows of its array. -/
theorem block3 (c : Dev nD) (t : Fin cfg0.N) (r : Fin 256) (k : Fin 512) : iblk m c 3 t (ix3 0 r k)
    = m ((c : Thread nD τ).loc main_arg3) (ix3 (batch t) ⟨256 + latent t r, by omega⟩ k) := by
  blk_simp [iblk]
  rw [V_main_arg3]
  refine congrArg (m ((c : Thread nD τ).loc main_arg3)) (funext fun a => Fin.ext ?_)
  fin_cases a
  all_goals blk_simp [index3] <;> simp [batch, latent] <;> omega
/-- Window 4's block: a tile of rows of its array. -/
theorem block4 (c : Dev nD) (t : Fin cfg0.N) (r : Fin 256) (k : Fin 512) : iblk m c 4 t (ix3 0 r k)
    = m ((c : Thread nD τ).loc main_arg4) (ix3 (batch t) ⟨256 + latent t r, by omega⟩ k) := by
  blk_simp [iblk]
  rw [V_main_arg4]
  refine congrArg (m ((c : Thread nD τ).loc main_arg4)) (funext fun a => Fin.ext ?_)
  fin_cases a
  all_goals blk_simp [index4] <;> simp [batch, latent] <;> omega
/-- Window 1's block: the layer's modulations. -/
theorem block1 (c : Dev nD) (t : Fin cfg0.N) (r : Fin 8) (k : Fin 6144) : iblk m c 1 t (ix3 0 r k)
    = m ((c : Thread nD τ).loc main_arg1) (ix3 3 r k) := by
  blk_simp [iblk]
  rw [V_main_arg1]
  refine congrArg (m ((c : Thread nD τ).loc main_arg1)) (funext fun a => Fin.ext ?_)
  fin_cases a
  all_goals blk_simp [index1] <;> simp <;> omega
/-- Window 5's block: the layer's gate weights. -/
theorem block5 (c : Dev nD) (t : Fin cfg0.N) (r : Fin 1024) (k : Fin 3072) : iblk m c 5 t (ix3 0 r k)
    = m ((c : Thread nD τ).loc main_arg5) (ix3 3 r ⟨2720 + k, by omega⟩) := by
  blk_simp [iblk]
  refine V_gates m c _ _ ?_ ?_ ?_
  all_goals blk_simp [index5] <;> simp <;> omega
/-- Window 6's block: the layer's matrix. -/
theorem block6 (c : Dev nD) (t : Fin cfg0.N) (r : Fin 512) (k : Fin 1024) : iblk m c 6 t (ix3 0 r k)
    = m ((c : Thread nD τ).loc main_arg6) (ix3 3 r k) := by
  blk_simp [iblk]
  rw [V_weights2]
  refine congrArg (m ((c : Thread nD τ).loc main_arg6)) (funext fun a => Fin.ext ?_)
  fin_cases a
  all_goals blk_simp [index6] <;> simp <;> omega
/-- Window 7's block: the layer's matrix. -/
theorem block7 (c : Dev nD) (t : Fin cfg0.N) (r : Fin 512) (k : Fin 1024) : iblk m c 7 t (ix3 0 r k)
    = m ((c : Thread nD τ).loc main_arg7) (ix3 3 r k) := by
  blk_simp [iblk]
  rw [V_weights3]
  refine congrArg (m ((c : Thread nD τ).loc main_arg7)) (funext fun a => Fin.ext ?_)
  fin_cases a
  all_goals blk_simp [index7] <;> simp <;> omega
/-- Window 8's block: the layer's matrix. -/
theorem block8 (c : Dev nD) (t : Fin cfg0.N) (r : Fin 512) (k : Fin 1024) : iblk m c 8 t (ix3 0 r k)
    = m ((c : Thread nD τ).loc main_arg8) (ix3 3 r k) := by
  blk_simp [iblk]
  rw [V_weights4]
  refine congrArg (m ((c : Thread nD τ).loc main_arg8)) (funext fun a => Fin.ext ?_)
  fin_cases a
  all_goals blk_simp [index8] <;> simp <;> omega
/-- Window 9's block: the layer's matrix. -/
theorem block9 (c : Dev nD) (t : Fin cfg0.N) (r : Fin 1024) (k : Fin 1024) : iblk m c 9 t (ix3 0 r k)
    = m ((c : Thread nD τ).loc main_arg9) (ix3 3 r k) := by
  blk_simp [iblk]
  rw [V_weights5]
  refine congrArg (m ((c : Thread nD τ).loc main_arg9)) (funext fun a => Fin.ext ?_)
  fin_cases a
  all_goals blk_simp [index9] <;> simp <;> omega
/-- Window 10's block: the layer's matrix. -/
theorem block10 (c : Dev nD) (t : Fin cfg0.N) (r : Fin 1024) (k : Fin 4096) : iblk m c 10 t (ix3 0 r k)
    = m ((c : Thread nD τ).loc main_arg10) (ix3 3 r k) := by
  blk_simp [iblk]
  rw [V_weights6]
  refine congrArg (m ((c : Thread nD τ).loc main_arg10)) (funext fun a => Fin.ext ?_)
  fin_cases a
  all_goals blk_simp [index10] <;> simp <;> omega
/-- Window 11's block: the layer's matrix. -/
theorem block11 (c : Dev nD) (t : Fin cfg0.N) (r : Fin 4096) (k : Fin 1024) : iblk m c 11 t (ix3 0 r k)
    = m ((c : Thread nD τ).loc main_arg11) (ix3 3 r k) := by
  blk_simp [iblk]
  rw [V_weights7]
  refine congrArg (m ((c : Thread nD τ).loc main_arg11)) (funext fun a => Fin.ext ?_)
  fin_cases a
  all_goals blk_simp [index11] <;> simp <;> omega

/-- An index of a result block, from its row and lane. -/
theorem block_idx (y : S1x256x1024.Idx) : y = ix3 0 (y 1) (y 2) :=
  (eq_ix3 y).trans (congrArg (fun z : Fin 1 => ix3 z (y 1) (y 2)) (Subsingleton.elim (α := Fin 1) _ _))

/-- The kernel's result array. -/
theorem final_o (c : Dev nD) : (dats m 0 c).arrAt 12 cfg0.N
    = result (m ((c : Thread nD τ).loc main_arg0)) (m ((c : Thread nD τ).loc main_arg1)) (m ((c : Thread nD τ).loc main_arg2))
       (m ((c : Thread nD τ).loc main_arg3)) (m ((c : Thread nD τ).loc main_arg4)) (m ((c : Thread nD τ).loc main_arg5))
       (m ((c : Thread nD τ).loc main_arg6)) (m ((c : Thread nD τ).loc main_arg7)) (m ((c : Thread nD τ).loc main_arg8))
       (m ((c : Thread nD τ).loc main_arg9)) (m ((c : Thread nD τ).loc main_arg10)) (m ((c : Thread nD τ).loc main_arg11)) := by
  refine (dats m 0 c).arrAt_eq_of_covers 12 _ (by decide +kernel) fun t hf y => ?_
  blk_simp
  rw [after0_12]
  have hy := block_idx y
  obtain ⟨r, hr⟩ : ∃ r : Fin 256, r = y 1 := ⟨_, rfl⟩
  obtain ⟨l, hl⟩ : ∃ l : Fin 1024, l = y 2 := ⟨_, rfl⟩
  have key := out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r l
  have e0 : (win0_12.blk t).view.emb y 0 = batch t := by
    have : (y 0 : ℕ) = 0 := congrArg Fin.val (Subsingleton.elim (α := Fin 1) (y 0) 0)
    refine Fin.ext ?_
    blk_simp [index12] <;> simp [batch] <;> omega
  have e1 : (win0_12.blk t).view.emb y 1 = latent t r := by
    rw [hr]
    refine Fin.ext ?_
    blk_simp [index12] <;> simp [latent] <;> omega
  have e2 : (win0_12.blk t).view.emb y 2 = l := by
    rw [hl]
    refine Fin.ext ?_
    blk_simp [index12] <;> simp <;> omega
  refine (congrArg (outsAt0 m c t) (hy.trans (by rw [hr, hl]; rfl))).trans (key.trans ?_)
  simp only [block0, block1, block2, block3, block4, block5, block6, block7, block8, block9, block10, block11]
  unfold result
  rw [e0, e1, e2]
  rfl

end Cert.Kernel2Ideal.Merge

end
-- ==== Proof.MergeRef.lean ====
/- The merge's reference at an index: the same rows as the kernel's. -/
module

public import proofs.«01_k».proof.Proof.MergeSpec
public import proofs.«01_k».proof.Proof.Gen.Reference2Ideal.Read
public import Idealize.ShloMosaic.Lib.IdealHost

@[expose] public section

set_option maxRecDepth 16384

noncomputable section

namespace Cert.Reference2Ideal.Merge

open Cert.Reference2Ideal Cert.Reference2Ideal.Gen Cert.Reference2Ideal.Read Cert.Merge Idealize.ShloMosaic

/-- The host's mean of squares: a quotient by 1024 is a product with its inverse. -/
theorem mean_square (s : EReal) : Ideal.div (Ideal.ofBits .f32 0x00000000#32 + s) (Ideal.ofBits .f32 0x44800000#32)
    = s * ((1 / 1024 : ℝ) : EReal) := by
  rw [Ideal.ofBits_zero_f32, zero_add, ofBits_1024, Ideal.div_coe (by norm_num)]

/-- The host's modulated row. -/
theorem modulated_host (x sh sc : Fin 1024 → EReal) (l : Fin 1024) :
    x l * Ideal.rsqrt (Ideal.div (Ideal.ofBits .f32 0x00000000#32 + ∑ k, x k * x k) (Ideal.ofBits .f32 0x44800000#32)
      + Ideal.ofBits .f32 0x358637BD#32) * (Ideal.ofBits .f32 0x3F800000#32 + sc l) + sh l = modulated x sh sc l := by
  rw [mean_square, Ideal.ofBits_one_f32]
  rfl

/-- The host's gate. -/
theorem gate_host (s : EReal) : Ideal.div (Ideal.ofBits .f32 0x3F800000#32) (Ideal.ofBits .f32 0x3F800000#32 + Ideal.exp (-s))
    = Ideal.div 1 (1 + Ideal.exp (-s)) := by
  rw [Ideal.ofBits_one_f32]

variable (x0 : (⟨S4x8448x1024, .f32⟩ : BufTy).Contents (Elt Ideal)) (x1 : (⟨S4x8x6144, .f32⟩ : BufTy).Contents (Elt Ideal))
  (x2 x3 x4 : (⟨S4x8448x512, .bf16⟩ : BufTy).Contents (Elt Ideal)) (x5 : (⟨S4x1024x5792, .f32⟩ : BufTy).Contents (Elt Ideal))
  (x6 x7 x8 : (⟨S4x512x1024, .f32⟩ : BufTy).Contents (Elt Ideal)) (x9 : (⟨S4x1024x1024, .f32⟩ : BufTy).Contents (Elt Ideal))
  (x10 : (⟨S4x1024x4096, .f32⟩ : BufTy).Contents (Elt Ideal)) (x11 : (⟨S4x4096x1024, .f32⟩ : BufTy).Contents (Elt Ideal))

/-- A latent's row of the stream. -/
def stream (b : Fin 4) (t : Fin 8192) (k : Fin 1024) : EReal := x0 (ix3 b ⟨256 + t, by omega⟩ k)

/-- A latent's row of a branch. -/
def branch (b : Fin 4) (t : Fin 8192) (k : Fin 512) : EReal := x2 (ix3 b ⟨256 + t, by omega⟩ k)

/-- A batch row's modulations of the last layer. -/
def mods (b : Fin 4) (k : Fin 6144) : EReal := x1 (ix3 3 ⟨b, by omega⟩ k)

/-- The stream's latents. -/
theorem stream_at (i : S4x8192x1024.Idx) : val_main_v0 (F := Ideal) x0 i = stream x0 (i 0) (i 1) (i 2) := by
  rw [val_main_v0_apply]
  refine congrArg x0 (funext fun a => ?_)
  match a with
  | ⟨0, _⟩ => rfl
  | ⟨1, _⟩ => rfl
  | ⟨2, _⟩ => rfl
/-- The recurrent branch's latents. -/
theorem branch0_at (i : S4x8192x512.Idx) : val_main_v2 (F := Ideal) x2 i = branch x2 (i 0) (i 1) (i 2) := by
  rw [val_main_v2_apply, val_main_v1_apply]
  refine congrArg x2 (funext fun a => ?_)
  match a with
  | ⟨0, _⟩ => rfl
  | ⟨1, _⟩ => rfl
  | ⟨2, _⟩ => rfl
/-- The attention branch's latents. -/
theorem branch1_at (i : S4x8192x512.Idx) : val_main_v4 (F := Ideal) x3 i = branch x3 (i 0) (i 1) (i 2) := by
  rw [val_main_v4_apply, val_main_v3_apply]
  refine congrArg x3 (funext fun a => ?_)
  match a with
  | ⟨0, _⟩ => rfl
  | ⟨1, _⟩ => rfl
  | ⟨2, _⟩ => rfl
/-- The convolution branch's latents. -/
theorem branch2_at (i : S4x8192x512.Idx) : val_main_v6 (F := Ideal) x4 i = branch x4 (i 0) (i 1) (i 2) := by
  rw [val_main_v6_apply, val_main_v5_apply]
  refine congrArg x4 (funext fun a => ?_)
  match a with
  | ⟨0, _⟩ => rfl
  | ⟨1, _⟩ => rfl
  | ⟨2, _⟩ => rfl
/-- The last layer's modulations. -/
theorem mods_at (i : S4x1x6144.Idx) : val_main_v9 (F := Ideal) x1 i = mods x1 (i 0) (i 2) := by
  have h0 : (i 0 : ℕ) < 4 := (i 0).isLt
  have h2 : (i 2 : ℕ) < 6144 := (i 2).isLt
  rw [val_main_v9_apply, val_main_v8_apply, val_main_v7_apply]
  refine congrArg x1 (funext fun a => Fin.ext ?_)
  match a with
  | ⟨0, _⟩ => rfl
  | ⟨1, _⟩ => show ((i 0).val * 6144 + (i 2).val) / 6144 % 4 = (i 0).val; omega
  | ⟨2, _⟩ => show ((i 0).val * 6144 + (i 2).val) % 6144 = (i 2).val; omega
/-- Part 0 of the modulations. -/
theorem part0_at (i : S4x1x1024.Idx) : val_main_v10 (F := Ideal) x1 i = part (mods x1 (i 0)) 0 (i 2) := by
  rw [val_main_v10_apply, mods_at]
  refine congrArg (mods x1 (i 0)) (Fin.ext ?_)
  show (i 2).val = 1024 * 0 + (i 2).val
  omega
/-- Part 1 of the modulations. -/
theorem part1_at (i : S4x1x1024.Idx) : val_main_v11 (F := Ideal) x1 i = part (mods x1 (i 0)) 1 (i 2) := by
  rw [val_main_v11_apply, mods_at]
  refine congrArg (mods x1 (i 0)) (Fin.ext ?_)
  show 1024 + (i 2).val = 1024 * 1 + (i 2).val
  omega
/-- Part 2 of the modulations. -/
theorem part2_at (i : S4x1x1024.Idx) : val_main_v12 (F := Ideal) x1 i = part (mods x1 (i 0)) 2 (i 2) := by
  rw [val_main_v12_apply, mods_at]
  refine congrArg (mods x1 (i 0)) (Fin.ext ?_)
  show 2048 + (i 2).val = 1024 * 2 + (i 2).val
  omega
/-- Part 3 of the modulations. -/
theorem part3_at (i : S4x1x1024.Idx) : val_main_v13 (F := Ideal) x1 i = part (mods x1 (i 0)) 3 (i 2) := by
  rw [val_main_v13_apply, mods_at]
  refine congrArg (mods x1 (i 0)) (Fin.ext ?_)
  show 3072 + (i 2).val = 1024 * 3 + (i 2).val
  omega
/-- Part 4 of the modulations. -/
theorem part4_at (i : S4x1x1024.Idx) : val_main_v14 (F := Ideal) x1 i = part (mods x1 (i 0)) 4 (i 2) := by
  rw [val_main_v14_apply, mods_at]
  refine congrArg (mods x1 (i 0)) (Fin.ext ?_)
  show 4096 + (i 2).val = 1024 * 4 + (i 2).val
  omega
/-- Part 5 of the modulations. -/
theorem part5_at (i : S4x1x1024.Idx) : val_main_v15 (F := Ideal) x1 i = part (mods x1 (i 0)) 5 (i 2) := by
  rw [val_main_v15_apply, mods_at]
  refine congrArg (mods x1 (i 0)) (Fin.ext ?_)
  show 5120 + (i 2).val = 1024 * 5 + (i 2).val
  omega
/-- The last layer's weights of the input projection. -/
theorem weights33_at (i : S1024x5792.Idx) : val_main_v33 (F := Ideal) x5 i = x5 (ix3 3 (i 0) (i 1)) := by
  have h0 : (i 0 : ℕ) < 1024 := (i 0).isLt
  have h1 : (i 1 : ℕ) < 5792 := (i 1).isLt
  rw [val_main_v33_apply, val_main_v32_apply]
  refine congrArg x5 (funext fun a => Fin.ext ?_)
  match a with
  | ⟨0, _⟩ => rfl
  | ⟨1, _⟩ => show ((i 0).val * 5792 + (i 1).val) / 5792 % 1024 = (i 0).val; omega
  | ⟨2, _⟩ => show ((i 0).val * 5792 + (i 1).val) % 5792 = (i 1).val; omega
/-- The last layer's weights of the recurrent branch. -/
theorem weights37_at (i : S512x1024.Idx) : val_main_v37 (F := Ideal) x6 i = x6 (ix3 3 (i 0) (i 1)) := by
  have h0 : (i 0 : ℕ) < 512 := (i 0).isLt
  have h1 : (i 1 : ℕ) < 1024 := (i 1).isLt
  rw [val_main_v37_apply, val_main_v36_apply]
  refine congrArg x6 (funext fun a => Fin.ext ?_)
  match a with
  | ⟨0, _⟩ => rfl
  | ⟨1, _⟩ => show ((i 0).val * 1024 + (i 1).val) / 1024 % 512 = (i 0).val; omega
  | ⟨2, _⟩ => show ((i 0).val * 1024 + (i 1).val) % 1024 = (i 1).val; omega
/-- The last layer's weights of the attention branch. -/
theorem weights40_at (i : S512x1024.Idx) : val_main_v40 (F := Ideal) x7 i = x7 (ix3 3 (i 0) (i 1)) := by
  have h0 : (i 0 : ℕ) < 512 := (i 0).isLt
  have h1 : (i 1 : ℕ) < 1024 := (i 1).isLt
  rw [val_main_v40_apply, val_main_v39_apply]
  refine congrArg x7 (funext fun a => Fin.ext ?_)
  match a with
  | ⟨0, _⟩ => rfl
  | ⟨1, _⟩ => show ((i 0).val * 1024 + (i 1).val) / 1024 % 512 = (i 0).val; omega
  | ⟨2, _⟩ => show ((i 0).val * 1024 + (i 1).val) % 1024 = (i 1).val; omega
/-- The last layer's weights of the convolution branch. -/
theorem weights43_at (i : S512x1024.Idx) : val_main_v43 (F := Ideal) x8 i = x8 (ix3 3 (i 0) (i 1)) := by
  have h0 : (i 0 : ℕ) < 512 := (i 0).isLt
  have h1 : (i 1 : ℕ) < 1024 := (i 1).isLt
  rw [val_main_v43_apply, val_main_v42_apply]
  refine congrArg x8 (funext fun a => Fin.ext ?_)
  match a with
  | ⟨0, _⟩ => rfl
  | ⟨1, _⟩ => show ((i 0).val * 1024 + (i 1).val) / 1024 % 512 = (i 0).val; omega
  | ⟨2, _⟩ => show ((i 0).val * 1024 + (i 1).val) % 1024 = (i 1).val; omega
/-- The last layer's weights of the output projection. -/
theorem weights60_at (i : S1024x1024.Idx) : val_main_v60 (F := Ideal) x9 i = x9 (ix3 3 (i 0) (i 1)) := by
  have h0 : (i 0 : ℕ) < 1024 := (i 0).isLt
  have h1 : (i 1 : ℕ) < 1024 := (i 1).isLt
  rw [val_main_v60_apply, val_main_v59_apply]
  refine congrArg x9 (funext fun a => Fin.ext ?_)
  match a with
  | ⟨0, _⟩ => rfl
  | ⟨1, _⟩ => show ((i 0).val * 1024 + (i 1).val) / 1024 % 1024 = (i 0).val; omega
  | ⟨2, _⟩ => show ((i 0).val * 1024 + (i 1).val) % 1024 = (i 1).val; omega
/-- The last layer's weights of the first feed-forward product. -/
theorem weights82_at (i : S1024x4096.Idx) : val_main_v82 (F := Ideal) x10 i = x10 (ix3 3 (i 0) (i 1)) := by
  have h0 : (i 0 : ℕ) < 1024 := (i 0).isLt
  have h1 : (i 1 : ℕ) < 4096 := (i 1).isLt
  rw [val_main_v82_apply, val_main_v81_apply]
  refine congrArg x10 (funext fun a => Fin.ext ?_)
  match a with
  | ⟨0, _⟩ => rfl
  | ⟨1, _⟩ => show ((i 0).val * 4096 + (i 1).val) / 4096 % 1024 = (i 0).val; omega
  | ⟨2, _⟩ => show ((i 0).val * 4096 + (i 1).val) % 4096 = (i 1).val; omega
/-- The last layer's weights of the second feed-forward product. -/
theorem weights87_at (i : S4096x1024.Idx) : val_main_v87 (F := Ideal) x11 i = x11 (ix3 3 (i 0) (i 1)) := by
  have h0 : (i 0 : ℕ) < 4096 := (i 0).isLt
  have h1 : (i 1 : ℕ) < 1024 := (i 1).isLt
  rw [val_main_v87_apply, val_main_v86_apply]
  refine congrArg x11 (funext fun a => Fin.ext ?_)
  match a with
  | ⟨0, _⟩ => rfl
  | ⟨1, _⟩ => show ((i 0).val * 1024 + (i 1).val) / 1024 % 4096 = (i 0).val; omega
  | ⟨2, _⟩ => show ((i 0).val * 1024 + (i 1).val) % 1024 = (i 1).val; omega

/-- The modulated rows before the gates. -/
theorem modulated_at (i : S4x8192x1024.Idx) : val_main_v31 (F := Ideal) x0 x1 i
    = modulated (stream x0 (i 0) (i 1)) (part (mods x1 (i 0)) 0) (part (mods x1 (i 0)) 1) (i 2) := by
  rw [val_main_v31_apply, val_main_v29_apply, val_main_v30_apply, val_main_v28_apply, val_main_v27_apply, val_main_v26_apply,
    val_main_v25_apply, val_main_v24_apply, val_main_v23_apply, val_main_v22_apply, val_main_v21_apply, val_main_v20_apply,
    val_main_v19_apply, val_main_v18_apply, val_main_v17_apply, part0_at, part1_at]
  simp only [val_main_v16_apply, stream_at]
  exact modulated_host (stream x0 (i 0) (i 1)) (part (mods x1 (i 0)) 0) (part (mods x1 (i 0)) 1) (i 2)

/-- The gates' row of a latent. -/
def gateRow (b : Fin 4) (t : Fin 8192) : Fin 3072 → EReal :=
  gates (modulated (stream x0 b t) (part (mods x1 b) 0) (part (mods x1 b) 1)) fun k j => x5 (ix3 3 k ⟨2720 + j, by omega⟩)

/-- The gates. -/
theorem gates_at (i : S4x8192x3072.Idx) : val_main_v50 (F := Ideal) x0 x1 x5 i = gateRow x0 x1 x5 (i 0) (i 1) (i 2) := by
  rw [val_main_v50_apply, val_main_v49_apply, val_main_v48_apply, val_main_v47_apply, val_main_v46_apply, val_main_v45_apply,
    val_main_v35_apply]
  simp only [modulated_at, val_main_v34_apply, weights33_at]
  exact gate_host _

/-- The gated sum of the branches. -/
theorem mixed_at (i : S4x8192x1024.Idx) : val_main_v58 (F := Ideal) x0 x1 x2 x3 x4 x5 x6 x7 x8 i
    = mixed (gateRow x0 x1 x5 (i 0) (i 1)) (product (branch x2 (i 0) (i 1)) fun k j => x6 (ix3 3 k j))
      (product (branch x3 (i 0) (i 1)) fun k j => x7 (ix3 3 k j)) (product (branch x4 (i 0) (i 1)) fun k j => x8 (ix3 3 k j)) (i 2) := by
  rw [val_main_v58_apply, val_main_v57_apply, val_main_v56_apply, val_main_v55_apply, val_main_v54_apply, val_main_v53_apply,
    val_main_v52_apply, val_main_v51_apply, val_main_v44_apply, val_main_v41_apply, val_main_v38_apply]
  simp only [gates_at, branch0_at, branch1_at, branch2_at, weights37_at, weights40_at, weights43_at]
  rfl

/-- A latent after the mixers. -/
def mixedRow (b : Fin 4) (t : Fin 8192) : Fin 1024 → EReal :=
  mixer (stream x0 b t) (mods x1 b) (branch x2 b t) (branch x3 b t) (branch x4 b t)
    (fun k j => x5 (ix3 3 k ⟨2720 + j, by omega⟩)) (fun k j => x6 (ix3 3 k j)) (fun k j => x7 (ix3 3 k j)) (fun k j => x8 (ix3 3 k j))
    fun k j => x9 (ix3 3 k j)

/-- The latents after the mixers. -/
theorem mixer_at (i : S4x8192x1024.Idx) : val_main_v64 (F := Ideal) x0 x1 x2 x3 x4 x5 x6 x7 x8 x9 i
    = mixedRow x0 x1 x2 x3 x4 x5 x6 x7 x8 x9 (i 0) (i 1) (i 2) := by
  rw [val_main_v64_apply, val_main_v63_apply, val_main_v62_apply, val_main_v61_apply, stream_at, part2_at]
  simp only [mixed_at, weights60_at]
  rfl

/-- The modulated rows before the feed-forward part. -/
theorem modulated2_at (i : S4x8192x1024.Idx) : val_main_v80 (F := Ideal) x0 x1 x2 x3 x4 x5 x6 x7 x8 x9 i
    = modulated (mixedRow x0 x1 x2 x3 x4 x5 x6 x7 x8 x9 (i 0) (i 1)) (part (mods x1 (i 0)) 3) (part (mods x1 (i 0)) 4) (i 2) := by
  rw [val_main_v80_apply, val_main_v78_apply, val_main_v79_apply, val_main_v77_apply, val_main_v76_apply, val_main_v75_apply,
    val_main_v74_apply, val_main_v73_apply, val_main_v72_apply, val_main_v71_apply, val_main_v70_apply, val_main_v69_apply,
    val_main_v68_apply, val_main_v67_apply, val_main_v66_apply, part3_at, part4_at]
  simp only [val_main_v65_apply, mixer_at]
  exact modulated_host (mixedRow x0 x1 x2 x3 x4 x5 x6 x7 x8 x9 (i 0) (i 1)) (part (mods x1 (i 0)) 3) (part (mods x1 (i 0)) 4) (i 2)

/-- The feed-forward part's hidden rows. -/
theorem hidden_at (i : S4x8192x4096.Idx) : val_main_v85 (F := Ideal) x0 x1 x2 x3 x4 x5 x6 x7 x8 x9 x10 i
    = hidden (modulated (mixedRow x0 x1 x2 x3 x4 x5 x6 x7 x8 x9 (i 0) (i 1)) (part (mods x1 (i 0)) 3) (part (mods x1 (i 0)) 4))
      (fun k j => x10 (ix3 3 k j)) (i 2) := by
  rw [val_main_v85_apply, val_main_v84_apply, val_main_v83_apply, val_main_call0_v0_apply, val_main_call0_cst_apply,
    show FloatOps.ofBits (F := Ideal) .f32 0x00000000#32 = (0 : EReal) from Ideal.ofBits_zero_f32]
  simp only [modulated2_at, weights82_at]
  rfl

/-- The reference's result. -/
theorem result_eq : val_main_v91 (F := Ideal) x0 x1 x2 x3 x4 x5 x6 x7 x8 x9 x10 x11
    = result x0 x1 x2 x3 x4 x5 x6 x7 x8 x9 x10 x11 := by
  funext i
  rw [val_main_v91_apply, val_main_v90_apply, val_main_v89_apply, val_main_v88_apply, mixer_at, part5_at]
  simp only [hidden_at, weights87_at]
  rfl

end Cert.Reference2Ideal.Merge

end
-- ==== Proof.InprojSpec.lean ====
/- What the input projection call computes of one token: the modulated row, its projection, and the heads, both as the
   program's mathematics has them and as they lie in 128 lanes. -/
module

public import proofs.«01_k».proof.Proof.MergeSpec

@[expose] public section

noncomputable section

namespace Cert.Inproj

open Idealize.ShloMosaic Cert.Merge

/-- A row over its root mean square, times its gain; `inv` is one over the number of its lanes. -/
def normed {n : ℕ} (inv : EReal) (f g : Fin n → EReal) (l : Fin n) : EReal :=
  f l * Ideal.rsqrt ((∑ j, f j * f j) * inv + eps) * g l

/-- A row filled with zeros to 128 lanes. -/
def padded {n : ℕ} (f : Fin n → EReal) (l : Fin 128) : EReal := if h : l.val < n then f ⟨l, h⟩ else 0

/-- A value gated by another's logistic. -/
def gated (a g : EReal) : EReal := a * Ideal.div 1 (1 + Ideal.exp (-g))

/-- A row of 128 lanes turned by three tables: itself, and itself moved 16 lanes up and 16 lanes down. -/
def turned (n c s1 s2 : Fin 128 → EReal) (l : Fin 128) : EReal :=
  n l * c l + n ⟨(l + 128 - 16) % 128, Nat.mod_lt _ (by decide)⟩ * s1 l + n ⟨(l + 128 - 112) % 128, Nat.mod_lt _ (by decide)⟩ * s2 l

/-- A head's rotary positions: lanes 64 to 79 and lanes 80 to 95 are the two halves. -/
def rotated (n : Fin 96 → EReal) (c s : Fin 16 → EReal) (l : Fin 96) : EReal :=
  if h : l.val < 64 then n l
  else if h' : l.val < 80 then n l * c ⟨l - 64, by omega⟩ - n ⟨l + 16, by omega⟩ * s ⟨l - 64, by omega⟩
  else n ⟨l - 16, by omega⟩ * s ⟨l - 80, by omega⟩ + n l * c ⟨l - 80, by omega⟩

/-- The arrays the call is given. -/
structure Args where
  /-- The stream. -/
  x : Vec Ideal ⟨3, ![4, 8448, 1024]⟩ .f32
  /-- The modulations. -/
  md : Vec Ideal ⟨3, ![4, 8, 6144]⟩ .f32
  /-- The input projection. -/
  win : Vec Ideal ⟨3, ![4, 1024, 5792]⟩ .f32
  /-- The queries' inner gain. -/
  qn : Vec Ideal ⟨2, ![4, 384]⟩ .f32
  /-- The queries' weights. -/
  wuq : Vec Ideal ⟨3, ![4, 384, 768]⟩ .f32
  /-- The keys' and values' inner gain. -/
  kvn : Vec Ideal ⟨2, ![4, 256]⟩ .f32
  /-- The keys' and values' weights. -/
  wukv : Vec Ideal ⟨3, ![4, 256, 1024]⟩ .f32
  /-- The query heads' gain. -/
  qg : Vec Ideal ⟨2, ![4, 96]⟩ .f32
  /-- The key heads' gain. -/
  kg : Vec Ideal ⟨2, ![4, 96]⟩ .f32
  /-- The cosines. -/
  cos : Vec Ideal ⟨2, ![8192, 16]⟩ .f32
  /-- The sines. -/
  sin : Vec Ideal ⟨2, ![8192, 16]⟩ .f32

variable (A : Args)

/-- The row of modulations of a token: the context's, or its batch row's. -/
def modRow (b : Fin 4) (t : Fin 8448) : Fin 8 := if t.val < 256 then 4 else ⟨b, by omega⟩

/-- A token of the stream, modulated. -/
def stream (b : Fin 4) (t : Fin 8448) : Fin 1024 → EReal :=
  modulated (fun k => A.x (ix3 b t k)) (part (fun k => A.md (ix3 3 (modRow b t) k)) 0)
    (part (fun k => A.md (ix3 3 (modRow b t) k)) 1)

/-- Its projection. -/
def proj (b : Fin 4) (t : Fin 8448) : Fin 5792 → EReal := product (stream A b t) fun k j => A.win (ix3 3 k j)

/-- The queries' inner row. -/
def innerQ (b : Fin 4) (t : Fin 8448) : Fin 384 → EReal :=
  normed ((1 / 384 : ℝ) : EReal) (fun i => proj A b t ⟨1024 + i, by omega⟩) fun i => A.qn (ix2 3 i)

/-- The keys' and values' inner row. -/
def innerKV (b : Fin 4) (t : Fin 8448) : Fin 256 → EReal :=
  normed ((1 / 256 : ℝ) : EReal) (fun i => proj A b t ⟨1408 + i, by omega⟩) fun i => A.kvn (ix2 3 i)

/-- A query head. -/
def headQ (b : Fin 4) (t : Fin 8448) (hd : Fin 8) (j : Fin 96) : EReal :=
  product (innerQ A b t) (fun i j => A.wuq (ix3 3 i j)) ⟨96 * hd + j, by omega⟩

/-- A key head: its own lanes, then the shared ones. -/
def headK (b : Fin 4) (t : Fin 8448) (hd : Fin 8) (j : Fin 96) : EReal :=
  if h : j.val < 64 then product (innerKV A b t) (fun i j => A.wukv (ix3 3 i j)) ⟨128 * hd + j, by omega⟩
  else proj A b t ⟨1664 + (j - 64), by omega⟩

/-- A value head, and a one after it. -/
def headV (b : Fin 4) (t : Fin 8448) (hd : Fin 8) (j : Fin 65) : EReal :=
  if h : j.val < 64 then product (innerKV A b t) (fun i j => A.wukv (ix3 3 i j)) ⟨128 * hd + (64 + j), by omega⟩ else 1

/-- A head at a token's position: the context has none. -/
def placed (t : Fin 8448) (n : Fin 96 → EReal) : Fin 96 → EReal :=
  if h : t.val < 256 then n
  else rotated n (fun i => A.cos (ix2 ⟨t - 256, by omega⟩ i)) fun i => A.sin (ix2 ⟨t - 256, by omega⟩ i)

/-- The recurrence's input. -/
def resLx : Vec Ideal ⟨3, ![4, 8448, 512]⟩ .f32 := fun i => proj A (i 0) (i 1) ⟨(i 2).val, lt_trans (show (i 2).val < 512 from (i 2).isLt) (by decide)⟩
/-- The recurrence's gate. -/
def resLg : Vec Ideal ⟨3, ![4, 8448, 512]⟩ .f32 :=
  fun i => proj A (i 0) (i 1) ⟨512 + (i 2).val, by have : (i 2).val < 512 := (i 2).isLt; omega⟩
/-- The convolution's input. -/
def resGlu : Vec Ideal ⟨3, ![4, 8448, 512]⟩ .f32 :=
  fun i => gated (proj A (i 0) (i 1) ⟨1696 + (i 2).val, by have : (i 2).val < 512 := (i 2).isLt; omega⟩)
    (proj A (i 0) (i 1) ⟨2208 + (i 2).val, by have : (i 2).val < 512 := (i 2).isLt; omega⟩)

/-- The head a lane belongs to. -/
def hd (l : Fin 1024) : Fin 8 := ⟨l / 128, by omega⟩
/-- Its lane in the head. -/
def ln (l : Fin 1024) : Fin 128 := ⟨l % 128, by omega⟩

/-- The queries. -/
def resQ : Vec Ideal ⟨3, ![4, 8448, 1024]⟩ .bf16 :=
  fun i => padded (placed A (i 1) (normed ((1 / 96 : ℝ) : EReal) (headQ A (i 0) (i 1) (hd (i 2))) fun j => A.qg (ix2 3 j))) (ln (i 2))
/-- The keys. -/
def resK : Vec Ideal ⟨3, ![4, 8448, 1024]⟩ .bf16 :=
  fun i => padded (placed A (i 1) (normed ((1 / 96 : ℝ) : EReal) (headK A (i 0) (i 1) (hd (i 2))) fun j => A.kg (ix2 3 j))) (ln (i 2))
/-- The values. -/
def resV : Vec Ideal ⟨3, ![4, 8448, 1024]⟩ .bf16 := fun i => padded (headV A (i 0) (i 1) (hd (i 2))) (ln (i 2))

/-! ### The same in 128 lanes -/

/-- The projection's weights as the call lays them out: the inner rows, the shared lanes, the rest. -/
def w1 (k : Fin 1024) (j : Fin 2816) : EReal :=
  if h : j.val < 640 then A.win (ix3 3 k ⟨1024 + j, by omega⟩)
  else if h' : j.val < 768 then
    if h'' : 704 ≤ j.val ∧ j.val < 736 then A.win (ix3 3 k ⟨1664 + (j - 704), by omega⟩) else 0
  else if h' : j.val < 1792 then A.win (ix3 3 k ⟨j - 768, by omega⟩)
  else A.win (ix3 3 k ⟨1696 + (j - 1792), by omega⟩)

/-- The queries' weights, each head in 128 lanes. -/
def uq (k : Fin 384) (j : Fin 1024) : EReal := padded (fun m : Fin 96 => A.wuq (ix3 3 k ⟨96 * (j / 128) + m, by omega⟩)) (ln j)

/-- The keys' weights and then the values', each head in 128 lanes. -/
def ukv (k : Fin 256) (j : Fin 2048) : EReal :=
  if h : j.val < 1024 then padded (fun m : Fin 64 => A.wukv (ix3 3 k ⟨128 * (j / 128) + m, by omega⟩)) ⟨j % 128, by omega⟩
  else padded (fun m : Fin 64 => A.wukv (ix3 3 k ⟨128 * ((j - 1024) / 128) + (64 + m), by omega⟩)) ⟨(j - 1024) % 128, by omega⟩

/-- The table a head is multiplied by. -/
def tabC (t : Fin 8448) (l : Fin 128) : EReal :=
  if h : 256 ≤ t.val ∧ 64 ≤ l.val ∧ l.val < 96 then A.cos (ix2 ⟨t - 256, by omega⟩ ⟨(l - 64) % 16, by omega⟩) else 1
/-- The table of the lanes from below. -/
def tabUp (t : Fin 8448) (l : Fin 128) : EReal :=
  if h : 256 ≤ t.val ∧ 80 ≤ l.val ∧ l.val < 96 then A.sin (ix2 ⟨t - 256, by omega⟩ ⟨l - 80, by omega⟩) else 0
/-- The table of the lanes from above. -/
def tabDown (t : Fin 8448) (l : Fin 128) : EReal :=
  if h : 256 ≤ t.val ∧ 64 ≤ l.val ∧ l.val < 80 then -A.sin (ix2 ⟨t - 256, by omega⟩ ⟨l - 64, by omega⟩) else 0

/-- A sum over 128 lanes of what is zero from lane 96 on. -/
theorem sum_lanes (f : Fin 128 → EReal) (g : Fin 96 → EReal) (h : ∀ j : Fin 96, f ⟨j, by omega⟩ = g j)
    (h0 : ∀ j : Fin 128, 96 ≤ j.val → f j = 0) : ∑ j, f j = ∑ j, g j := by
  rw [show (∑ j, f j) = ∑ j : Fin (96 + 32), f j from rfl, Fin.sum_univ_add]
  rw [show (∑ j : Fin 32, f (Fin.natAdd 96 j)) = 0 from
    Finset.sum_eq_zero fun (j : Fin 32) _ => h0 (Fin.natAdd 96 j) (Nat.le_add_right _ _), add_zero]
  exact Finset.sum_congr rfl fun (j : Fin 96) _ => h j

/-- Normalizing in 128 lanes is normalizing, then filling with zeros. -/
theorem normed_padded (inv : EReal) (f g : Fin 96 → EReal) (l : Fin 128) :
    normed inv (padded f) (padded g) l = padded (normed inv f g) l := by
  have e : (∑ j, padded f j * padded f j) = ∑ j, f j * f j :=
    sum_lanes _ _ (fun j => by simp [padded]) fun j h => by simp [padded, not_lt.mpr h]
  unfold normed
  rw [e]
  unfold padded
  split <;> simp

/-- Turning a head in 128 lanes is placing it, then filling with zeros. -/
theorem turned_padded (t : Fin 8448) (n : Fin 96 → EReal) (l : Fin 128) :
    turned (padded n) (tabC A t) (tabUp A t) (tabDown A t) l = padded (placed A t n) l := by
  obtain ⟨l, hl⟩ := l
  by_cases ht : t.val < 256
  · have ht' : ¬ 256 ≤ t.val := by omega
    simp only [turned, tabC, tabUp, tabDown, placed, ht, ht', false_and, dif_neg, dif_pos, not_false_eq_true, mul_one, mul_zero, add_zero]
  · have ht' : 256 ≤ t.val := by omega
    by_cases h1 : l < 64
    · simp [turned, tabC, tabUp, tabDown, placed, rotated, padded, ht, ht', h1, show ¬ 64 ≤ l by omega, show ¬ 80 ≤ l by omega, show l < 96 by omega]
    · by_cases h2 : l < 80
      · simp only [turned, tabC, tabUp, tabDown, placed, rotated, padded, ht, ht', h1, h2, show 64 ≤ l by omega, show ¬ 80 ≤ l by omega,
          show l < 96 by omega, show (l + 128 - 112) % 128 < 96 by omega, and_true, true_and, false_and, dif_pos, dif_neg, not_false_eq_true,
          mul_zero, add_zero, mul_neg, sub_eq_add_neg]
        simp only [show (l + 128 - 112) % 128 = l + 16 by omega, Nat.mod_eq_of_lt (show l - 64 < 16 by omega)]
      · by_cases h3 : l < 96
        · simp only [turned, tabC, tabUp, tabDown, placed, rotated, padded, ht, ht', h1, h2, h3, show 64 ≤ l by omega, show 80 ≤ l by omega,
            show (l + 128 - 16) % 128 < 96 by omega, and_true, true_and, and_false, dif_pos, dif_neg, not_false_eq_true, mul_zero, add_zero]
          rw [add_comm]
          simp only [show (l + 128 - 16) % 128 = l - 16 by omega, show (l - 64) % 16 = l - 80 by omega]
        · simp [turned, tabC, tabUp, tabDown, placed, rotated, padded, ht, ht', h1, h2, h3, show 64 ≤ l by omega, show 80 ≤ l by omega]

/-- A product with weights that are zero is zero. -/
theorem product_zero {n p : ℕ} (x : Fin n → EReal) (w : Fin n → Fin p → EReal) (j : Fin p) (h : ∀ k, w k j = 0) :
    product x w j = 0 := by
  unfold product
  exact Finset.sum_eq_zero fun k _ => by rw [h, mul_zero]

/-- A product's lane depends on its column only. -/
theorem product_congr {n p q : ℕ} (x : Fin n → EReal) (w : Fin n → Fin p → EReal) (v : Fin n → Fin q → EReal) (j : Fin p) (i : Fin q)
    (h : ∀ k, w k j = v k i) : product x w j = product x v i := by
  unfold product
  exact Finset.sum_congr rfl fun k _ => by rw [h]

/-! ### A token in 128 lanes is the token -/

variable (b : Fin 4) (t : Fin 8448)

/-- The inner rows' lanes. -/
theorem proj_inner (i : Fin 640) : product (stream A b t) (w1 A) ⟨i, by omega⟩ = proj A b t ⟨1024 + i, by omega⟩ :=
  product_congr _ _ _ _ _ fun k => by simp [w1]

/-- The shared lanes. -/
theorem proj_shared (l : Fin 128) : product (stream A b t) (w1 A) ⟨640 + l, by omega⟩
    = if h : 64 ≤ l.val ∧ l.val < 96 then proj A b t ⟨1664 + (l - 64), by omega⟩ else 0 := by
  split
  · rename_i h
    refine product_congr _ _ _ _ _ fun k => ?_
    simp only [w1, show ¬ 640 + l.val < 640 by omega, show 640 + l.val < 768 by omega, show 704 ≤ 640 + l.val ∧ 640 + l.val < 736 by omega,
      dif_pos, dif_neg, not_false_eq_true, show 640 + l.val - 704 = l.val - 64 by omega, and_self]
  · rename_i h
    refine product_zero _ _ _ fun k => ?_
    simp only [w1, show ¬ 640 + l.val < 640 by omega, show 640 + l.val < 768 by omega, show ¬ (704 ≤ 640 + l.val ∧ 640 + l.val < 736) by omega,
      dif_pos, dif_neg, not_false_eq_true]

/-- The recurrence's lanes. -/
theorem proj_lru (i : Fin 1024) : product (stream A b t) (w1 A) ⟨768 + i, by omega⟩ = proj A b t ⟨i, by omega⟩ :=
  product_congr _ _ _ _ _ fun k => by
    simp only [w1, show ¬ 768 + i.val < 640 by omega, show ¬ 768 + i.val < 768 by omega, show 768 + i.val < 1792 by omega,
      dif_pos, dif_neg, not_false_eq_true, show 768 + i.val - 768 = i.val by omega]

/-- The convolution's lanes. -/
theorem proj_conv (i : Fin 1024) : product (stream A b t) (w1 A) ⟨1792 + i, by omega⟩ = proj A b t ⟨1696 + i, by omega⟩ :=
  product_congr _ _ _ _ _ fun k => by
    simp only [w1, show ¬ 1792 + i.val < 640 by omega, show ¬ 1792 + i.val < 768 by omega, show ¬ 1792 + i.val < 1792 by omega,
      dif_neg, not_false_eq_true, show 1792 + i.val - 1792 = i.val by omega]

/-- A query head in 128 lanes. -/
theorem lanesQ (h : Fin 8) (l : Fin 128) : product (innerQ A b t) (uq A) ⟨128 * h + l, by omega⟩ = padded (headQ A b t h) l := by
  have e1 : (128 * h.val + l.val) / 128 = h.val := by omega
  have e2 : (128 * h.val + l.val) % 128 = l.val := by omega
  unfold padded
  split
  · rename_i hl
    refine product_congr _ _ _ _ _ fun k => ?_
    simp only [uq, ln, padded, e1, e2, hl, dif_pos]
  · rename_i hl
    refine product_zero _ _ _ fun k => ?_
    simp only [uq, ln, padded, e2, hl, dif_neg, not_false_eq_true]

/-- A key head in 128 lanes. -/
theorem lanesK (h : Fin 8) (l : Fin 128) : product (innerKV A b t) (ukv A) ⟨128 * h + l, by omega⟩
    + product (stream A b t) (w1 A) ⟨640 + l, by omega⟩ = padded (headK A b t h) l := by
  have e0 : 128 * h.val + l.val < 1024 := by omega
  have e1 : (128 * h.val + l.val) / 128 = h.val := by omega
  have e2 : (128 * h.val + l.val) % 128 = l.val := by omega
  rw [proj_shared]
  by_cases h1 : l.val < 64
  · rw [dif_neg (by omega), add_zero]
    simp only [padded, headK, h1, show l.val < 96 by omega, dif_pos]
    refine product_congr _ _ _ _ _ fun k => ?_
    simp only [ukv, padded, e0, e1, e2, h1, dif_pos]
  · rw [product_zero, zero_add]
    · simp only [padded, headK, h1, show 64 ≤ l.val by omega, true_and, dif_neg, not_false_eq_true]
    · intro k
      simp only [ukv, padded, e0, e2, h1, dif_pos, dif_neg, not_false_eq_true]

/-- A value head in 128 lanes. -/
theorem lanesV (h : Fin 8) (l : Fin 128) : product (innerKV A b t) (ukv A) ⟨1024 + 128 * h + l, by omega⟩
    + (if l.val = 64 then 1 else 0) = padded (headV A b t h) l := by
  have e0 : ¬ 1024 + 128 * h.val + l.val < 1024 := by omega
  have e1 : (1024 + 128 * h.val + l.val - 1024) / 128 = h.val := by omega
  have e2 : (1024 + 128 * h.val + l.val - 1024) % 128 = l.val := by omega
  by_cases h1 : l.val < 64
  · rw [if_neg (by omega), add_zero]
    simp only [padded, headV, h1, show l.val < 65 by omega, dif_pos]
    refine product_congr _ _ _ _ _ fun k => ?_
    simp only [ukv, padded, e0, e1, e2, h1, dif_pos, dif_neg, not_false_eq_true]
  · rw [product_zero, zero_add]
    · by_cases h2 : l.val = 64
      · simp [padded, headV, h2]
      · simp [padded, h2, show ¬ l.val < 65 by omega]
    · intro k
      simp only [ukv, padded, e0, e2, h1, dif_neg, not_false_eq_true]

/-! ### A token as the call computes it, from rows and weights of 128-lane heads -/

/-- The queries' inner row, from the modulated row. -/
def rowQ (s : Fin 1024 → EReal) (w : Fin 1024 → Fin 2816 → EReal) (g : Fin 384 → EReal) : Fin 384 → EReal :=
  normed ((1 / 384 : ℝ) : EReal) (fun i => product s w ⟨i, by omega⟩) g
/-- The keys' and values' inner row, from the modulated row. -/
def rowKV (s : Fin 1024 → EReal) (w : Fin 1024 → Fin 2816 → EReal) (g : Fin 256 → EReal) : Fin 256 → EReal :=
  normed ((1 / 256 : ℝ) : EReal) (fun i => product s w ⟨384 + i, by omega⟩) g

/-- On the call's weights it is the inner row. -/
theorem rowQ_eq : rowQ (stream A b t) (w1 A) (fun i => A.qn (ix2 3 i)) = innerQ A b t := by
  unfold rowQ innerQ
  congr 1
  funext i
  exact proj_inner A b t ⟨i, by omega⟩

/-- On the call's weights it is the inner row. -/
theorem rowKV_eq : rowKV (stream A b t) (w1 A) (fun i => A.kvn (ix2 3 i)) = innerKV A b t := by
  unfold rowKV innerKV
  congr 1
  funext i
  refine (proj_inner A b t ⟨384 + i, by omega⟩).trans (congrArg _ (Fin.ext ?_))
  show 1024 + (384 + i.val) = 1408 + i.val
  omega

/-- A head, normalized and turned. -/
def head (f g c s1 s2 : Fin 128 → EReal) : Fin 128 → EReal := turned (normed ((1 / 96 : ℝ) : EReal) f g) c s1 s2

/-- A head in 128 lanes is the head, filled with zeros. -/
theorem head_eq (f g : Fin 96 → EReal) (l : Fin 128) : head (padded f) (padded g) (tabC A t) (tabUp A t) (tabDown A t) l
    = padded (placed A t (normed ((1 / 96 : ℝ) : EReal) f g)) l := by
  unfold head
  rw [show normed ((1 / 96 : ℝ) : EReal) (padded f) (padded g) = padded (normed ((1 / 96 : ℝ) : EReal) f g) from
    funext (normed_padded _ f g), turned_padded]

/-- The pattern of one over 256. -/
theorem ofBits_inv256 : Ideal.ofBits .f32 0x3B800000#32 = ((1 / 256 : ℝ) : EReal) := by
  simp [Ideal.ofBits, Ideal.ieee, -EReal.coe_mul]; norm_num

/-- The pattern of 384. -/
theorem ofBits_384 : Ideal.ofBits .f32 0x43C00000#32 = ((384 : ℝ) : EReal) := by
  simp [Ideal.ofBits, Ideal.ieee, -EReal.coe_mul]; norm_num

/-- The pattern of 256. -/
theorem ofBits_256 : Ideal.ofBits .f32 0x43800000#32 = ((256 : ℝ) : EReal) := by
  simp [Ideal.ofBits, Ideal.ieee, -EReal.coe_mul]; norm_num

/-- The pattern of 96. -/
theorem ofBits_96 : Ideal.ofBits .f32 0x42C00000#32 = ((96 : ℝ) : EReal) := by
  simp [Ideal.ofBits, Ideal.ieee, -EReal.coe_mul]; norm_num

end Cert.Inproj

end
-- ==== Proof.InprojHeads.lean ====
/- The heads one grid point writes: each of the eight query, key and value heads of a tile, row by row. -/
module

public import proofs.«01_k».proof.Proof.InprojSpec
public import proofs.«01_k».proof.Proof.Gen.Kernel3Ideal.Skeleton
public import Idealize.ShloMosaic.Lib.Pointwise
public import Idealize.ShloMosaic.Lib.KernelVsHost
public import Idealize.ShloMosaic.PureOps.IdealRules

@[expose] public section

set_option maxRecDepth 16384

noncomputable section

namespace Cert.Kernel3Ideal.Inproj

open Cert.Kernel3Ideal Cert.Kernel3Ideal.Gen Cert.Merge Cert.Inproj Idealize.ShloMosaic Idealize.ShloMosaic.TcCoe

/-- The named reciprocal of the heads' width. -/
theorem inv_qk : Named.named (F := Ideal) κ "inv_qk" (φ := .f32) 0x3C2AAAAB#32 = ((1 / 96 : ℝ) : EReal) :=
  IdealRules.named_const.ideal_named_scalar _ _ _ _ rfl

/-- The named reciprocal of the queries' inner width. -/
theorem inv_qr : Named.named (F := Ideal) κ "inv_qr" (φ := .f32) 0x3B2AAAAB#32 = ((1 / 384 : ℝ) : EReal) :=
  IdealRules.named_const.ideal_named_scalar _ _ _ _ rfl

section
variable (c s1 s2 : FVec Ideal S256x128 .f32) (g : FVec Ideal S1x128 .f32) (Q : FVec Ideal S256x1024 .f32) (kr : FVec Ideal S256x128 .f32)
  (kv : FVec Ideal S256x2048 .f32) (o : FVec Ideal S1x128 .f32) (r : Fin 256)

/-- A row of query heads, at a lane. -/
def headQAt (h : Fin 8) (l : Fin 128) : EReal :=
  head (fun k => Q (ix2 r ⟨128 * h + k, by omega⟩)) (fun k => g (ix2 0 k)) (fun k => c (ix2 r k)) (fun k => s1 (ix2 r k)) (fun k => s2 (ix2 r k)) l

/-- A row of key heads, at a lane. -/
def headKAt (h : Fin 8) (l : Fin 128) : EReal :=
  head (fun k => HAdd.hAdd (α := EReal) (β := EReal) (kv (ix2 r ⟨128 * h + k, by omega⟩)) (kr (ix2 r k)))
    (fun k => g (ix2 0 k)) (fun k => c (ix2 r k)) (fun k => s1 (ix2 r k)) (fun k => s2 (ix2 r k)) l

/-- A row of value heads, at a lane. -/
def headVAt (h : Fin 8) (l : Fin 128) : EReal :=
  HAdd.hAdd (α := EReal) (β := EReal) (kv (ix2 r ⟨1024 + 128 * h + l, by omega⟩)) (o (ix2 0 l))

/-- The first query head. -/
theorem headQ0 (l : Fin 128) : k0_pay22 c s1 s2 g (k0_pay21 Q) (ix3 0 r l) = headQAt c s1 s2 g Q r 0 l := by
  pointwise [k0_pay22, k0_pay21]
  simp only [inv_qk]
  simp only [headQAt, head, turned, normed, Fin.val_zero, mul_zero, zero_add]
  rfl

/-- The second query head. -/
theorem headQ1 (l : Fin 128) : k0_pay26 Q c s1 s2 g (ix3 0 r l) = headQAt c s1 s2 g Q r 1 l := by
  pointwise [k0_pay26]
  simp only [inv_qk]
  rfl

/-- The third query head. -/
theorem headQ2 (l : Fin 128) : k0_pay32 (k0_pay31 Q c s1 s2 g) (ix3 0 r l) = headQAt c s1 s2 g Q r 2 l := by
  pointwise [k0_pay32, k0_pay31]
  simp only [inv_qk]
  rfl

/-- The fourth query head. -/
theorem headQ3 (l : Fin 128) : k0_pay38 c s1 s2 g (k0_pay35 Q) (k0_pay36 Q) k0_pay37 (ix3 0 r l) = headQAt c s1 s2 g Q r 3 l := by
  pointwise [k0_pay38, k0_pay35, k0_pay36, k0_pay37]
  simp only [inv_qk]
  rfl

/-- The fifth query head. -/
theorem headQ4 (l : Fin 128) : k0_pay41 Q c s1 s2 g (ix3 0 r l) = headQAt c s1 s2 g Q r 4 l := by
  pointwise [k0_pay41]
  simp only [inv_qk]
  rfl

/-- The sixth query head. -/
theorem headQ5 (l : Fin 128) : k0_pay47 (k0_pay46 Q c s1 s2 g) (ix3 0 r l) = headQAt c s1 s2 g Q r 5 l := by
  pointwise [k0_pay47, k0_pay46]
  simp only [inv_qk]
  rfl

/-- The seventh query head. -/
theorem headQ6 (l : Fin 128) : k0_pay52 c s1 s2 g (k0_pay50 Q) (k0_pay51 Q) (ix3 0 r l) = headQAt c s1 s2 g Q r 6 l := by
  pointwise [k0_pay52, k0_pay50, k0_pay51]
  simp only [inv_qk]
  rfl

/-- The eighth query head. -/
theorem headQ7 (l : Fin 128) : k0_pay56 Q c s1 s2 g (ix3 0 r l) = headQAt c s1 s2 g Q r 7 l := by
  pointwise [k0_pay56]
  simp only [inv_qk]
  rfl

/-- The first key head. -/
theorem headK0 (l : Fin 128) : k0_pay24 (k0_pay23 kr kv c s1 s2 g) (ix3 0 r l) = headKAt c s1 s2 g kr kv r 0 l := by
  pointwise [k0_pay24, k0_pay23]
  simp only [inv_qk]
  simp only [headKAt, head, turned, normed, Fin.val_zero, mul_zero, zero_add]
  rfl

/-- The second key head. -/
theorem headK1 (l : Fin 128) : k0_pay29 c s1 s2 g (k0_pay27 kr kv) (k0_pay28 kr kv) (Scalar.ofBits .f32 0x358637BD#32) (ix3 0 r l) = headKAt c s1 s2 g kr kv r 1 l := by
  pointwise [k0_pay29, k0_pay28, k0_pay27]
  simp only [inv_qk]
  rfl

/-- The third key head. -/
theorem headK2 (l : Fin 128) : k0_pay33 kr kv c s1 s2 g (ix3 0 r l) = headKAt c s1 s2 g kr kv r 2 l := by
  pointwise [k0_pay33]
  simp only [inv_qk]
  rfl

/-- The fourth key head. -/
theorem headK3 (l : Fin 128) : k0_pay39 kr kv c s1 s2 g (ix3 0 r l) = headKAt c s1 s2 g kr kv r 3 l := by
  pointwise [k0_pay39]
  simp only [inv_qk]
  rfl

/-- The fifth key head. -/
theorem headK4 (l : Fin 128) : k0_pay44 c s1 s2 (k0_pay42 kr kv) (k0_pay43 g) (ix3 0 r l) = headKAt c s1 s2 g kr kv r 4 l := by
  pointwise [k0_pay44, k0_pay42, k0_pay43]
  simp only [inv_qk]
  rfl

/-- The sixth key head. -/
theorem headK5 (l : Fin 128) : k0_pay48 kr kv c s1 s2 g (ix3 0 r l) = headKAt c s1 s2 g kr kv r 5 l := by
  pointwise [k0_pay48]
  simp only [inv_qk]
  rfl

/-- The seventh key head. -/
theorem headK6 (l : Fin 128) : k0_pay53 kr kv c s1 s2 g (ix3 0 r l) = headKAt c s1 s2 g kr kv r 6 l := by
  pointwise [k0_pay53]
  simp only [inv_qk]
  rfl

/-- The eighth key head. -/
theorem headK7 (l : Fin 128) : k0_pay1 s2 (k0_pay57 kr kv g) (k0_pay58 kr kv c s1 g) (ix3 0 r l) = headKAt c s1 s2 g kr kv r 7 l := by
  pointwise [k0_pay1, k0_pay57, k0_pay58]
  simp only [inv_qk]
  rfl

/-- The first value head. -/
theorem headV0 (l : Fin 128) : k0_pay25 kv o (ix3 0 r l) = headVAt kv o r 0 l := by
  pointwise [k0_pay25]
  rfl

/-- The second value head. -/
theorem headV1 (l : Fin 128) : k0_pay30 kv o (ix3 0 r l) = headVAt kv o r 1 l := by
  pointwise [k0_pay30]
  rfl

/-- The third value head. -/
theorem headV2 (l : Fin 128) : k0_pay34 kv o (ix3 0 r l) = headVAt kv o r 2 l := by
  pointwise [k0_pay34]
  rfl

/-- The fourth value head. -/
theorem headV3 (l : Fin 128) : k0_pay40 kv o (ix3 0 r l) = headVAt kv o r 3 l := by
  pointwise [k0_pay40]
  rfl

/-- The fifth value head. -/
theorem headV4 (l : Fin 128) : k0_pay45 kv o (ix3 0 r l) = headVAt kv o r 4 l := by
  pointwise [k0_pay45]
  rfl

/-- The sixth value head. -/
theorem headV5 (l : Fin 128) : k0_pay49 kv o (ix3 0 r l) = headVAt kv o r 5 l := by
  pointwise [k0_pay49]
  rfl

/-- The seventh value head. -/
theorem headV6 (l : Fin 128) : k0_pay55 (k0_pay54 kv o) (ix3 0 r l) = headVAt kv o r 6 l := by
  pointwise [k0_pay55, k0_pay54]
  rfl

/-- The eighth value head. -/
theorem headV7 (l : Fin 128) : k0_pay2 kv o (ix3 0 r l) = headVAt kv o r 7 l := by
  pointwise [k0_pay2]
  rfl

end

end Cert.Kernel3Ideal.Inproj

end
-- ==== Proof.InprojBlock.lean ====
/- What one grid point of the input projection writes: each row of the tile, through the modulation, the projections and the heads. -/
module

public import proofs.«01_k».proof.Proof.InprojHeads
public import proofs.«01_k».proof.Proof.Gen.Kernel3Ideal.Value
public import Idealize.ShloMosaic.Lib.Pointwise
public import Idealize.ShloMosaic.Lib.VecWindow

@[expose] public section

set_option maxRecDepth 16384

noncomputable section

namespace Cert.Kernel3Ideal.Inproj

open Cert.Kernel3Ideal Cert.Kernel3Ideal.Gen Cert.Merge Cert.Inproj Idealize.ShloMosaic Idealize.ShloMosaic.TcCoe

/-- A row of a tile, modulated. -/
def rowOf (x0 : Vec Ideal S1x256x1024 .f32) (md : Fin 6144 → EReal) (r : Fin 256) : Fin 1024 → EReal :=
  modulated (fun k => x0 (ix3 0 r k)) (part md 0) (part md 1)

/-- The row of modulations a grid point reads: the context's in the first tile, its batch row's in the others. -/
def tileRow (i : grid0.Coords) : Fin 8 := if (i 1).val = 0 then 4 else ⟨(i 0).val, lt_of_lt_of_le (i 0).isLt (by decide)⟩

/-- The same as a number. -/
theorem tileRow_val (i : grid0.Coords) : (tileRow i).val = if (i 1).val = 0 then 4 else (i 0).val := by
  unfold tileRow
  split <;> rfl

/-- Where it starts. -/
theorem off_eq (i : grid0.Coords) : k0_off1 i = ![0, (tileRow i).val, 0] := by
  have h0 : (i 0 : ℕ) < 4 := (i 0).isLt
  have h1 : (i 1 : ℕ) < 33 := (i 1).isLt
  rw [tileRow_val]
  unfold k0_off1
  generalize (i 0 : ℕ) = p at *
  generalize (i 1 : ℕ) = q at *
  interval_cases p <;> interval_cases q <;> decide +kernel

/-- The modulations a grid point loads, lane by lane. -/
theorem load_mods (i : grid0.Coords) (M : Memref sig .tc .vmem S1x8x6144 .f32) (hM : M.IsWhole) (x : Vec Ideal S1x8x6144 .f32)
    (inb : ∀ a, k0_off1 i a + S1x1x6144.size a ≤ S1x8x6144.size a) (k : Fin 6144) :
    M.view.readAt (Elt Ideal) (Rect.unit (s := S1x8x6144) (k0_off1 i) S1x1x6144.size inb).toLoadRect (hM.unread x) (ix3 0 0 k)
      = x (ix3 0 (tileRow i) k) := by
  rw [View.readAt_apply, hM.read_unread]
  refine congrArg x (funext fun a => Fin.ext ?_)
  fin_cases a
  · show k0_off1 i 0 + 1 * 0 = 0
    rw [off_eq]; rfl
  · show k0_off1 i 1 + 1 * 0 = (tileRow i).val
    rw [off_eq]; rfl
  · show k0_off1 i 2 + 1 * k.val = k.val
    rw [off_eq]; show 0 + 1 * k.val = k.val; omega

/-- The weights' columns a grid point loads first. -/
theorem load_low (M : Memref sig .tc .vmem S1x1024x2816 .bf16) (hM : M.IsWhole) (x : Vec Ideal S1x1024x2816 .bf16)
    (inb : ∀ a, (![0, 0, 0] : Fin 3 → ℕ) a + S1x1024x768.size a ≤ S1x1024x2816.size a) (k : Fin 1024) (j : Fin 768) :
    M.view.readAt (Elt Ideal) (Rect.unit (s := S1x1024x2816) ![0, 0, 0] S1x1024x768.size inb).toLoadRect (hM.unread x) (ix3 0 k j)
      = x (ix3 0 k ⟨j, by omega⟩) := by
  rw [View.readAt_apply, hM.read_unread]
  refine congrArg x (funext fun a => Fin.ext ?_)
  fin_cases a
  · rfl
  · show 0 + 1 * k.val = k.val
    omega
  · show 0 + 1 * j.val = j.val
    omega

/-- The other columns. -/
theorem load_high (M : Memref sig .tc .vmem S1x1024x2816 .bf16) (hM : M.IsWhole) (x : Vec Ideal S1x1024x2816 .bf16)
    (inb : ∀ a, (![0, 0, 768] : Fin 3 → ℕ) a + S1x1024x2048.size a ≤ S1x1024x2816.size a) (k : Fin 1024) (j : Fin 2048) :
    M.view.readAt (Elt Ideal) (Rect.unit (s := S1x1024x2816) ![0, 0, 768] S1x1024x2048.size inb).toLoadRect (hM.unread x) (ix3 0 k j)
      = x (ix3 0 k ⟨768 + j, by omega⟩) := by
  rw [View.readAt_apply, hM.read_unread]
  refine congrArg x (funext fun a => Fin.ext ?_)
  fin_cases a
  · rfl
  · show 0 + 1 * k.val = k.val
    omega
  · show 768 + 1 * j.val = 768 + j.val
    omega

/-- One of the three tables a grid point loads. -/
theorem load_table (o : ℕ) (ho : o + 128 ≤ 384) (M : Memref sig .tc .vmem S256x384 .f32) (hM : M.IsWhole) (x : Vec Ideal S256x384 .f32)
    (inb : ∀ a, (![0, o] : Fin 2 → ℕ) a + S256x128.size a ≤ S256x384.size a) (r : Fin 256) (l : Fin 128) :
    M.view.readAt (Elt Ideal) (Rect.unit (s := S256x384) ![0, o] S256x128.size inb).toLoadRect (hM.unread x) (ix2 r l)
      = x (ix2 r ⟨o + l, by omega⟩) := by
  rw [View.readAt_apply, hM.read_unread]
  refine congrArg x (funext fun a => Fin.ext ?_)
  fin_cases a
  · show 0 + 1 * r.val = r.val
    omega
  · show o + 1 * l.val = o + l.val
    omega

/-- The modulated tile, at an index. -/
theorem rows_apply (v3 : Vec Ideal S1x1x6144 .f32) (x : Vec Ideal S1x256x1024 .f32) (r : Fin 256) (l : Fin 1024) :
    k0_pay3 v3 x (ix2 r l) = rowOf x (fun k => v3 (ix3 0 0 k)) r l := by
  pointwise [k0_pay3]
  rw [ofBits_inv]
  simp only [rowOf, modulated, part, eps, Fin.val_zero, Fin.val_one, mul_zero, mul_one, zero_add]

/-- The first projection, at an index. -/
theorem inner_apply (v3 : Vec Ideal S1x1x6144 .f32) (x : Vec Ideal S1x256x1024 .f32) (w : Vec Ideal S1x1024x768 .bf16) (r : Fin 256) (j : Fin 768) :
    k0_pay4 v3 x w (ix2 r j) = product (rowOf x (fun k => v3 (ix3 0 0 k)) r) (fun k j => w (ix3 0 k j)) j := by
  unfold product
  simp only [← rows_apply]
  unfold k0_pay4
  generalize k0_pay3 v3 x = y
  pointwise []

/-- The queries' inner lanes. -/
theorem innerQ_apply (v3 : Vec Ideal S1x1x6144 .f32) (x : Vec Ideal S1x256x1024 .f32) (w : Vec Ideal S1x1024x768 .bf16) (r : Fin 256) (j : Fin 384) :
    k0_pay5 v3 x w (ix2 r j) = product (rowOf x (fun k => v3 (ix3 0 0 k)) r) (fun k j => w (ix3 0 k j)) ⟨j, by omega⟩ := by
  rw [← inner_apply]
  unfold k0_pay5
  generalize k0_pay4 v3 x w = y
  pointwise []

/-- The keys' and values' inner lanes. -/
theorem innerKV_apply (v3 : Vec Ideal S1x1x6144 .f32) (x : Vec Ideal S1x256x1024 .f32) (w : Vec Ideal S1x1024x768 .bf16) (r : Fin 256) (j : Fin 256) :
    k0_pay6 v3 x w (ix2 r j) = product (rowOf x (fun k => v3 (ix3 0 0 k)) r) (fun k j => w (ix3 0 k j)) ⟨384 + j, by omega⟩ := by
  rw [← inner_apply]
  unfold k0_pay6
  generalize k0_pay4 v3 x w = y
  pointwise []

/-- The shared lanes. -/
theorem shared_apply (v3 : Vec Ideal S1x1x6144 .f32) (x : Vec Ideal S1x256x1024 .f32) (w : Vec Ideal S1x1024x768 .bf16) (r : Fin 256) (j : Fin 128) :
    k0_pay7 v3 x w (ix2 r j) = product (rowOf x (fun k => v3 (ix3 0 0 k)) r) (fun k j => w (ix3 0 k j)) ⟨640 + j, by omega⟩ := by
  rw [← inner_apply]
  unfold k0_pay7
  generalize k0_pay4 v3 x w = y
  pointwise []

/-- The queries' inner scale. -/
theorem scale_apply (v3 : Vec Ideal S1x1x6144 .f32) (x : Vec Ideal S1x256x1024 .f32) (w : Vec Ideal S1x1024x768 .bf16) (r : Fin 256) :
    k0_pay8 v3 x w (ix2 r 0) = Ideal.rsqrt ((∑ j : Fin 384, HMul.hMul (α := EReal) (β := EReal) (k0_pay5 v3 x w (ix2 r j)) (k0_pay5 v3 x w (ix2 r j)))
      * ((1 / 384 : ℝ) : EReal) + eps) := by
  unfold k0_pay8
  generalize k0_pay5 v3 x w = y
  pointwise []
  simp only [inv_qr]
  rfl

/-- The queries, at an index. -/
theorem queries_apply (v29 : FVec Ideal S256x384 .f32) (v39 : FVec Ideal S256x1 .f32) (g : Vec Ideal S1x1x384 .f32)
    (w : Vec Ideal S1x384x1024 .bf16) (r : Fin 256) (j : Fin 1024)
    (h : v39 (ix2 r 0) = Ideal.rsqrt ((∑ j : Fin 384, HMul.hMul (α := EReal) (β := EReal) (v29 (ix2 r j)) (v29 (ix2 r j))) * ((1 / 384 : ℝ) : EReal) + eps)) :
    k0_pay9 v29 v39 g w (ix2 r j) = product (normed ((1 / 384 : ℝ) : EReal) (fun i => v29 (ix2 r i)) fun i => g (ix3 0 0 i)) (fun i j => w (ix3 0 i j)) j := by
  unfold product normed
  rw [← h]
  pointwise [k0_pay9]

/-- The keys and values, at an index. -/
theorem keys_apply (v30 : FVec Ideal S256x256 .f32) (g : Vec Ideal S1x1x256 .f32)
    (w : Vec Ideal S1x256x2048 .bf16) (r : Fin 256) (j : Fin 2048) :
    k0_pay10 v30 g w (ix2 r j) = product (normed ((1 / 256 : ℝ) : EReal) (fun i => v30 (ix2 r i)) fun i => g (ix3 0 0 i)) (fun i j => w (ix3 0 i j)) j := by
  pointwise [k0_pay10]
  rw [ofBits_inv256]
  rfl

/-- The second projection, at an index. -/
theorem outer_apply (v25 : FVec Ideal S256x1024 .bf16) (w : Vec Ideal S1x1024x2048 .bf16) (r : Fin 256) (j : Fin 2048) :
    k0_pay11 v25 w (ix2 r j) = product (fun k => v25 (ix2 r k)) (fun k j => w (ix3 0 k j)) j := by
  pointwise [k0_pay11]
  rfl

/-- The recurrence's input, at an index. -/
theorem lx_apply (v25 : FVec Ideal S256x1024 .bf16) (w : Vec Ideal S1x1024x2048 .bf16) (r : Fin 256) (j : Fin 512) :
    k0_pay12 v25 w (ix3 0 r j) = k0_pay11 v25 w (ix2 r ⟨j, by omega⟩) := by
  unfold k0_pay12
  generalize k0_pay11 v25 w = y
  pointwise []

/-- The recurrence's gate, at an index. -/
theorem lg_apply (y : FVec Ideal S256x2048 .f32) (r : Fin 256) (j : Fin 512) :
    k0_pay13 y (ix3 0 r j) = y (ix2 r ⟨512 + j, by omega⟩) := by
  pointwise [k0_pay13]

/-- The convolution's input, at an index. -/
theorem glu_apply (y : FVec Ideal S256x2048 .f32) (r : Fin 256) (j : Fin 512) :
    k0_pay14 y (ix3 0 r j) = gated (y (ix2 r ⟨1024 + j, by omega⟩)) (y (ix2 r ⟨1536 + j, by omega⟩)) := by
  pointwise [k0_pay14]
  rw [zero_sub]
  rfl

/-- The tables' casts. -/
theorem table_apply (v : Vec Ideal S256x128 .f32) (r : Fin 256) (l : Fin 128) :
    k0_pay15 v (ix2 r l) = v (ix2 r l) ∧ k0_pay16 v (ix2 r l) = v (ix2 r l) ∧ k0_pay17 v (ix2 r l) = v (ix2 r l) := by
  refine ⟨?_, ?_, ?_⟩
  · pointwise [k0_pay15]
  · pointwise [k0_pay16]
  · pointwise [k0_pay17]

/-- The gains' casts. -/
theorem gain_apply (v : Vec Ideal S1x1x128 .f32) (l : Fin 128) :
    k0_pay18 v (ix2 0 l) = v (ix3 0 0 l) ∧ k0_pay19 v (ix2 0 l) = v (ix3 0 0 l) := by
  refine ⟨?_, ?_⟩
  · pointwise [k0_pay18]
  · pointwise [k0_pay19]

/-- The ones after the values. -/
theorem ones_apply (l : Fin 128) : k0_pay20 (F := Ideal) (ix2 0 l) = if l.val = 64 then 1 else 0 := by
  pointwise [k0_pay20]
  obtain ⟨l, hl⟩ := l
  by_cases h : l = 64
  · subst h; rfl
  · have e : (BitVec.ofNat 32 l == 64#32) = false := by
      rw [beq_eq_false_iff_ne]
      intro hh
      have := congrArg BitVec.toNat hh
      simp at this
      omega
    simp [h, Scalar.select, IntOp.cmpi, e]

/-- A head's store in a row of eight. -/
theorem piece (G : Fin 256 → Fin 8 → Fin 128 → EReal) (h : Fin 8) (o : ℕ) (ho : o = 128 * h.val)
    (inb : ∀ a, (![0, 0, o] : Fin 3 → ℕ) a + (![1, 256, 128] : Fin 3 → ℕ) a ≤ S1x256x1024.size a) (p : S1x256x128.Idx → EReal)
    (hp : ∀ r l, p (ix3 0 r l) = G r h l) (x : S1x256x128.Idx) :
    p x = (fun y : S1x256x1024.Idx => G (y 1) (hd (y 2)) (ln (y 2))) ((Rect.unit (s := S1x256x1024) ![0, 0, o] ![1, 256, 128] inb).emb x) := by
  obtain ⟨r, l, rfl⟩ : ∃ r l, x = ix3 0 r l := ⟨x 1, x 2, by
    funext a
    fin_cases a
    · exact Subsingleton.elim (α := Fin 1) _ _
    · rfl
    · rfl⟩
  rw [hp]
  subst ho
  have e1 : ((Rect.unit (s := S1x256x1024) ![0, 0, 128 * h.val] ![1, 256, 128] inb).emb (ix3 0 r l)) 1 = r :=
    Fin.ext (show 0 + 1 * r.val = r.val by omega)
  have e2 : ((Rect.unit (s := S1x256x1024) ![0, 0, 128 * h.val] ![1, 256, 128] inb).emb (ix3 0 r l)) 2
      = (⟨128 * h.val + l.val, by omega⟩ : Fin 1024) :=
    Fin.ext (show 128 * h.val + 1 * l.val = 128 * h.val + l.val by omega)
  show G r h l = G (((Rect.unit (s := S1x256x1024) ![0, 0, 128 * h.val] ![1, 256, 128] inb).emb (ix3 0 r l)) 1) _ _
  rw [e1, e2]
  exact congrArg₂ (G r) (Fin.ext (show h.val = (128 * h.val + l.val) / 128 by omega))
    (Fin.ext (show l.val = (128 * h.val + l.val) % 128 by omega))

/-! ### What the body computes on the way -/

section
variable (c : Dev nD) (i : grid0.Coords)
    (a0 : Memref sig .tc .vmem S1x256x1024 .f32) (h0 : a0.IsWhole)
    (a1 : Memref sig .tc .vmem S1x8x6144 .f32) (h1 : a1.IsWhole)
    (a2 : Memref sig .tc .vmem S1x1024x2816 .bf16) (h2 : a2.IsWhole)
    (a3 : Memref sig .tc .vmem S1x1x384 .f32) (h3 : a3.IsWhole)
    (a4 : Memref sig .tc .vmem S1x384x1024 .bf16) (h4 : a4.IsWhole)
    (a5 : Memref sig .tc .vmem S1x1x256 .f32) (h5 : a5.IsWhole)
    (a6 : Memref sig .tc .vmem S1x256x2048 .bf16) (h6 : a6.IsWhole)
    (a7 : Memref sig .tc .vmem S1x1x128 .f32) (h7 : a7.IsWhole)
    (a8 : Memref sig .tc .vmem S1x1x128 .f32) (h8 : a8.IsWhole)
    (a9 : Memref sig .tc .vmem S256x384 .f32) (h9 : a9.IsWhole)
    (a10 : Memref sig .tc .vmem S1x256x512 .f32) (h10 : a10.IsWhole)
    (a11 : Memref sig .tc .vmem S1x256x512 .f32) (h11 : a11.IsWhole)
    (a12 : Memref sig .tc .vmem S1x256x512 .f32) (h12 : a12.IsWhole)
    (a13 : Memref sig .tc .vmem S1x256x1024 .bf16) (h13 : a13.IsWhole)
    (a14 : Memref sig .tc .vmem S1x256x1024 .bf16) (h14 : a14.IsWhole)
    (a15 : Memref sig .tc .vmem S1x256x1024 .bf16) (h15 : a15.IsWhole)
    (x0 : Vec Ideal S1x256x1024 .f32)
    (x1 : Vec Ideal S1x8x6144 .f32)
    (x2 : Vec Ideal S1x1024x2816 .bf16)
    (x3 : Vec Ideal S1x1x384 .f32)
    (x4 : Vec Ideal S1x384x1024 .bf16)
    (x5 : Vec Ideal S1x1x256 .f32)
    (x6 : Vec Ideal S1x256x2048 .bf16)
    (x7 : Vec Ideal S1x1x128 .f32)
    (x8 : Vec Ideal S1x1x128 .f32)
    (x9 : Vec Ideal S256x384 .f32)

/-- The query lanes of a tile. -/
theorem tileQ (r : Fin 256) (j : Fin 1024) : kernelRun0_A.sl.r_5 c i a0 h0 a1 h1 a2 h2 a3 h3 a4 h4 x0 x1 x2 x3 x4 (ix2 r j)
    = product (rowQ (rowOf x0 (fun k => x1 (ix3 0 (tileRow i) k)) r) (fun k j => x2 (ix3 0 k j)) fun k => x3 (ix3 0 0 k)) (fun i j => x4 (ix3 0 i j)) j := by
  unfold kernelRun0_A.sl.r_5 kernelRun0_A.sl.r_1 kernelRun0_A.sl.r_4
  have hm := load_mods i a1 h1 x1 (k0_off1_inb i)
  generalize a1.view.readAt (Elt Ideal) (Rect.unit (s := S1x8x6144) (k0_off1 i) S1x1x6144.size (k0_off1_inb i)).toLoadRect (h1.unread x1)
    = v3 at hm ⊢
  rw [queries_apply _ _ _ _ _ _ (scale_apply _ _ _ _)]
  unfold rowQ
  simp only [innerQ_apply, hm]
  rw [View.readAt_full a0.view, View.readAt_full a3.view, View.readAt_full a4.view]
  simp only [Memref.IsWhole.read_unread]
  congr 2
  funext k
  exact product_congr _ _ _ _ _ fun q => load_low a2 h2 x2 _ q ⟨k, by omega⟩

/-- The key and value lanes of a tile. -/
theorem tileKV (r : Fin 256) (j : Fin 2048) : kernelRun0_A.sl.r_6 c i a0 h0 a1 h1 a2 h2 a5 h5 a6 h6 x0 x1 x2 x5 x6 (ix2 r j)
    = product (rowKV (rowOf x0 (fun k => x1 (ix3 0 (tileRow i) k)) r) (fun k j => x2 (ix3 0 k j)) fun k => x5 (ix3 0 0 k)) (fun i j => x6 (ix3 0 i j)) j := by
  unfold kernelRun0_A.sl.r_6 kernelRun0_A.sl.r_2
  have hm := load_mods i a1 h1 x1 (k0_off1_inb i)
  generalize a1.view.readAt (Elt Ideal) (Rect.unit (s := S1x8x6144) (k0_off1 i) S1x1x6144.size (k0_off1_inb i)).toLoadRect (h1.unread x1)
    = v3 at hm ⊢
  rw [keys_apply]
  unfold rowKV
  simp only [innerKV_apply, hm]
  rw [View.readAt_full a0.view, View.readAt_full a5.view, View.readAt_full a6.view]
  simp only [Memref.IsWhole.read_unread]
  congr 2
  funext k
  exact product_congr _ _ _ _ _ fun q => load_low a2 h2 x2 _ q ⟨384 + k, by omega⟩

/-- The shared lanes of a tile. -/
theorem tileShared (r : Fin 256) (j : Fin 128) : kernelRun0_A.sl.r_3 c i a0 h0 a1 h1 a2 h2 x0 x1 x2 (ix2 r j) = product (rowOf x0 (fun k => x1 (ix3 0 (tileRow i) k)) r) (fun k j => x2 (ix3 0 k j)) ⟨640 + j, by omega⟩ := by
  unfold kernelRun0_A.sl.r_3
  have hm := load_mods i a1 h1 x1 (k0_off1_inb i)
  generalize a1.view.readAt (Elt Ideal) (Rect.unit (s := S1x8x6144) (k0_off1 i) S1x1x6144.size (k0_off1_inb i)).toLoadRect (h1.unread x1)
    = v3 at hm ⊢
  rw [shared_apply]
  simp only [hm]
  rw [View.readAt_full a0.view]
  simp only [Memref.IsWhole.read_unread]
  exact product_congr _ _ _ _ _ fun q => load_low a2 h2 x2 _ q ⟨640 + j, by omega⟩

/-- The other lanes of a tile. -/
theorem tileOuter (r : Fin 256) (j : Fin 2048) (w : Vec Ideal S1x1024x2048 .bf16) (hw : ∀ k j, w (ix3 0 k j) = x2 (ix3 0 k ⟨768 + j.val, by omega⟩)) :
    k0_pay11 (kernelRun0_A.sl.r c i a0 h0 a1 h1 x0 x1) w (ix2 r j) = product (rowOf x0 (fun k => x1 (ix3 0 (tileRow i) k)) r) (fun k j => x2 (ix3 0 k j)) ⟨768 + j, by omega⟩ := by
  unfold kernelRun0_A.sl.r
  have hm := load_mods i a1 h1 x1 (k0_off1_inb i)
  generalize a1.view.readAt (Elt Ideal) (Rect.unit (s := S1x8x6144) (k0_off1 i) S1x1x6144.size (k0_off1_inb i)).toLoadRect (h1.unread x1)
    = v3 at hm ⊢
  rw [outer_apply]
  simp only [rows_apply, hm]
  rw [View.readAt_full a0.view]
  simp only [Memref.IsWhole.read_unread]
  exact product_congr _ _ _ _ _ fun q => hw q j

/-- The tables of a tile. -/
theorem tileTables (r : Fin 256) (l : Fin 128) : kernelRun0_A.sl.r_8 c a9 h9 x9 (ix2 r l) = x9 (ix2 r ⟨0 + l, by omega⟩)
    ∧ kernelRun0_A.sl.r_9 c a9 h9 x9 (ix2 r l) = x9 (ix2 r ⟨128 + l, by omega⟩) ∧ kernelRun0_A.sl.r_10 c a9 h9 x9 (ix2 r l) = x9 (ix2 r ⟨256 + l, by omega⟩) := by
  unfold kernelRun0_A.sl.r_8 kernelRun0_A.sl.r_9 kernelRun0_A.sl.r_10
  exact ⟨(table_apply _ r l).1.trans (load_table 0 (by decide) a9 h9 x9 _ r l), (table_apply _ r l).2.1.trans (load_table 128 (by decide) a9 h9 x9 _ r l),
    (table_apply _ r l).2.2.trans (load_table 256 (by decide) a9 h9 x9 _ r l)⟩

/-- The query heads' gain. -/
theorem tileQG (l : Fin 128) : kernelRun0_A.sl.r_11 c a7 h7 x7 (ix2 0 l) = x7 (ix3 0 0 l) := by
  unfold kernelRun0_A.sl.r_11
  rw [View.readAt_full a7.view]
  simp only [Memref.IsWhole.read_unread]
  exact (gain_apply _ l).1

/-- The key heads' gain. -/
theorem tileKG (l : Fin 128) : kernelRun0_A.sl.r_12 c a8 h8 x8 (ix2 0 l) = x8 (ix3 0 0 l) := by
  unfold kernelRun0_A.sl.r_12
  rw [View.readAt_full a8.view]
  simp only [Memref.IsWhole.read_unread]
  exact (gain_apply _ l).2

/-- The recurrence's input a grid point writes. -/
theorem out_lx (r : Fin 256) (l : Fin 512) : out0_A_10 c i a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9 (ix3 0 r l)
    = product (rowOf x0 (fun k => x1 (ix3 0 (tileRow i) k)) r) (fun k j => x2 (ix3 0 k j)) ⟨768 + l, by omega⟩ := by
  have z : (![0, 0, 0] : Fin 3 → ℕ) = fun _ => 0 := by
    funext a
    fin_cases a <;> rfl
  unfold out0_A_10
  rw [View.read_writes_eq_canon _ _ _ (cover0_A_10 c i a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9)]
  unfold kernelRun0_A
  dsimp only
  rw [View.canon_unit_zero (h := z)]
  exact (lx_apply _ _ r l).trans (tileOuter c i a0 h0 a1 h1 x0 x1 x2 r ⟨l, by omega⟩ _ fun k j => load_high a2 h2 x2 _ k j)

/-- The recurrence's gate a grid point writes. -/
theorem out_lg (r : Fin 256) (l : Fin 512) : out0_A_11 c i a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9 (ix3 0 r l)
    = product (rowOf x0 (fun k => x1 (ix3 0 (tileRow i) k)) r) (fun k j => x2 (ix3 0 k j)) ⟨768 + (512 + l), by omega⟩ := by
  have z : (![0, 0, 0] : Fin 3 → ℕ) = fun _ => 0 := by
    funext a
    fin_cases a <;> rfl
  unfold out0_A_11
  rw [View.read_writes_eq_canon _ _ _ (cover0_A_11 c i a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9)]
  unfold kernelRun0_A
  dsimp only
  rw [View.canon_unit_zero (h := z)]
  unfold kernelRun0_A.sl.r_7
  exact (lg_apply _ r l).trans (tileOuter c i a0 h0 a1 h1 x0 x1 x2 r ⟨512 + l, by omega⟩ _ fun k j => load_high a2 h2 x2 _ k j)

/-- The convolution's input a grid point writes. -/
theorem out_glu (r : Fin 256) (l : Fin 512) : out0_A_12 c i a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9 (ix3 0 r l)
    = gated (product (rowOf x0 (fun k => x1 (ix3 0 (tileRow i) k)) r) (fun k j => x2 (ix3 0 k j)) ⟨768 + (1024 + l), by omega⟩) (product (rowOf x0 (fun k => x1 (ix3 0 (tileRow i) k)) r) (fun k j => x2 (ix3 0 k j)) ⟨768 + (1536 + l), by omega⟩) := by
  have z : (![0, 0, 0] : Fin 3 → ℕ) = fun _ => 0 := by
    funext a
    fin_cases a <;> rfl
  unfold out0_A_12
  rw [View.read_writes_eq_canon _ _ _ (cover0_A_12 c i a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9)]
  unfold kernelRun0_A
  dsimp only
  rw [View.canon_unit_zero (h := z)]
  unfold kernelRun0_A.sl.r_7
  rw [glu_apply]
  exact congrArg₂ gated (tileOuter c i a0 h0 a1 h1 x0 x1 x2 r ⟨1024 + l, by omega⟩ _ fun k j => load_high a2 h2 x2 _ k j) (tileOuter c i a0 h0 a1 h1 x0 x1 x2 r ⟨1536 + l, by omega⟩ _ fun k j => load_high a2 h2 x2 _ k j)

/-- The queries a grid point writes. -/
theorem out_q (r : Fin 256) (l : Fin 1024) : out0_A_13 c i a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9 (ix3 0 r l)
    = head (fun k => product (rowQ (rowOf x0 (fun k => x1 (ix3 0 (tileRow i) k)) r) (fun k j => x2 (ix3 0 k j)) fun k => x3 (ix3 0 0 k)) (fun i j => x4 (ix3 0 i j)) ⟨128 * hd l + k, by omega⟩)
      (fun k => x7 (ix3 0 0 k)) (fun k => x9 (ix2 r ⟨0 + k, by omega⟩)) (fun k => x9 (ix2 r ⟨128 + k, by omega⟩)) (fun k => x9 (ix2 r ⟨256 + k, by omega⟩)) (ln l) := by
  unfold out0_A_13
  rw [View.read_writes_eq_canon _ _ _ (cover0_A_13 c i a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9)]
  refine (View.canon_apply_of_pieces (fun y : S1x256x1024.Idx => headQAt (kernelRun0_A.sl.r_8 c a9 h9 x9) (kernelRun0_A.sl.r_9 c a9 h9 x9) (kernelRun0_A.sl.r_10 c a9 h9 x9) (kernelRun0_A.sl.r_11 c a7 h7 x7) (kernelRun0_A.sl.r_5 c i a0 h0 a1 h1 a2 h2 a3 h3 a4 h4 x0 x1 x2 x3 x4) (y 1) (hd (y 2)) (ln (y 2))) _ ?_ _
    (cover0_A_13 c i a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9 (ix3 0 r l))).trans ?_
  · unfold kernelRun0_A
    dsimp only
    simp only [List.forall_mem_cons, List.forall_mem_nil, and_true]
    exact ⟨piece _ 7 896 rfl _ _ fun r l => headQ7 _ _ _ _ _ _ l,
      piece _ 6 768 rfl _ _ fun r l => headQ6 _ _ _ _ _ _ l,
      piece _ 5 640 rfl _ _ fun r l => headQ5 _ _ _ _ _ _ l,
      piece _ 4 512 rfl _ _ fun r l => headQ4 _ _ _ _ _ _ l,
      piece _ 3 384 rfl _ _ fun r l => headQ3 _ _ _ _ _ _ l,
      piece _ 2 256 rfl _ _ fun r l => headQ2 _ _ _ _ _ _ l,
      piece _ 1 128 rfl _ _ fun r l => headQ1 _ _ _ _ _ _ l,
      piece _ 0 0 rfl _ _ fun r l => headQ0 _ _ _ _ _ _ l, fun _ h => absurd h List.not_mem_nil⟩
  · show headQAt (kernelRun0_A.sl.r_8 c a9 h9 x9) (kernelRun0_A.sl.r_9 c a9 h9 x9) (kernelRun0_A.sl.r_10 c a9 h9 x9) (kernelRun0_A.sl.r_11 c a7 h7 x7) (kernelRun0_A.sl.r_5 c i a0 h0 a1 h1 a2 h2 a3 h3 a4 h4 x0 x1 x2 x3 x4) r (hd l) (ln l) = _
    unfold headQAt
    simp only [tileQ, tileQG, (tileTables c a9 h9 x9 _ _).1, (tileTables c a9 h9 x9 _ _).2.1, (tileTables c a9 h9 x9 _ _).2.2]

/-- The keys a grid point writes. -/
theorem out_k (r : Fin 256) (l : Fin 1024) : out0_A_14 c i a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9 (ix3 0 r l)
    = head (fun k => product (rowKV (rowOf x0 (fun k => x1 (ix3 0 (tileRow i) k)) r) (fun k j => x2 (ix3 0 k j)) fun k => x5 (ix3 0 0 k)) (fun i j => x6 (ix3 0 i j)) ⟨128 * hd l + k, by omega⟩
      + product (rowOf x0 (fun k => x1 (ix3 0 (tileRow i) k)) r) (fun k j => x2 (ix3 0 k j)) ⟨640 + k, by omega⟩) (fun k => x8 (ix3 0 0 k)) (fun k => x9 (ix2 r ⟨0 + k, by omega⟩)) (fun k => x9 (ix2 r ⟨128 + k, by omega⟩)) (fun k => x9 (ix2 r ⟨256 + k, by omega⟩)) (ln l) := by
  unfold out0_A_14
  rw [View.read_writes_eq_canon _ _ _ (cover0_A_14 c i a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9)]
  refine (View.canon_apply_of_pieces (fun y : S1x256x1024.Idx => headKAt (kernelRun0_A.sl.r_8 c a9 h9 x9) (kernelRun0_A.sl.r_9 c a9 h9 x9) (kernelRun0_A.sl.r_10 c a9 h9 x9) (kernelRun0_A.sl.r_12 c a8 h8 x8) (kernelRun0_A.sl.r_3 c i a0 h0 a1 h1 a2 h2 x0 x1 x2) (kernelRun0_A.sl.r_6 c i a0 h0 a1 h1 a2 h2 a5 h5 a6 h6 x0 x1 x2 x5 x6) (y 1) (hd (y 2)) (ln (y 2))) _ ?_ _
    (cover0_A_14 c i a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9 (ix3 0 r l))).trans ?_
  · unfold kernelRun0_A
    dsimp only
    simp only [List.forall_mem_cons, List.forall_mem_nil, and_true]
    exact ⟨piece _ 7 896 rfl _ _ fun r l => headK7 _ _ _ _ _ _ _ l,
      piece _ 6 768 rfl _ _ fun r l => headK6 _ _ _ _ _ _ _ l,
      piece _ 5 640 rfl _ _ fun r l => headK5 _ _ _ _ _ _ _ l,
      piece _ 4 512 rfl _ _ fun r l => headK4 _ _ _ _ _ _ _ l,
      piece _ 3 384 rfl _ _ fun r l => headK3 _ _ _ _ _ _ _ l,
      piece _ 2 256 rfl _ _ fun r l => headK2 _ _ _ _ _ _ _ l,
      piece _ 1 128 rfl _ _ fun r l => headK1 _ _ _ _ _ _ _ l,
      piece _ 0 0 rfl _ _ fun r l => headK0 _ _ _ _ _ _ _ l, fun _ h => absurd h List.not_mem_nil⟩
  · show headKAt (kernelRun0_A.sl.r_8 c a9 h9 x9) (kernelRun0_A.sl.r_9 c a9 h9 x9) (kernelRun0_A.sl.r_10 c a9 h9 x9) (kernelRun0_A.sl.r_12 c a8 h8 x8) (kernelRun0_A.sl.r_3 c i a0 h0 a1 h1 a2 h2 x0 x1 x2) (kernelRun0_A.sl.r_6 c i a0 h0 a1 h1 a2 h2 a5 h5 a6 h6 x0 x1 x2 x5 x6) r (hd l) (ln l) = _
    unfold headKAt
    simp only [tileKV, tileShared, tileKG, (tileTables c a9 h9 x9 _ _).1, (tileTables c a9 h9 x9 _ _).2.1, (tileTables c a9 h9 x9 _ _).2.2]

/-- The values a grid point writes. -/
theorem out_v (r : Fin 256) (l : Fin 1024) : out0_A_15 c i a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9 (ix3 0 r l)
    = product (rowKV (rowOf x0 (fun k => x1 (ix3 0 (tileRow i) k)) r) (fun k j => x2 (ix3 0 k j)) fun k => x5 (ix3 0 0 k)) (fun i j => x6 (ix3 0 i j)) ⟨1024 + 128 * hd l + ln l, by omega⟩
      + (if (ln l).val = 64 then 1 else 0) := by
  unfold out0_A_15
  rw [View.read_writes_eq_canon _ _ _ (cover0_A_15 c i a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9)]
  refine (View.canon_apply_of_pieces (fun y : S1x256x1024.Idx => headVAt (kernelRun0_A.sl.r_6 c i a0 h0 a1 h1 a2 h2 a5 h5 a6 h6 x0 x1 x2 x5 x6) k0_pay20 (y 1) (hd (y 2)) (ln (y 2))) _ ?_ _
    (cover0_A_15 c i a0 h0 a1 h1 a2 h2 a3 h3 a4 h4 a5 h5 a6 h6 a7 h7 a8 h8 a9 h9 a10 h10 a11 h11 a12 h12 a13 h13 a14 h14 a15 h15 x0 x1 x2 x3 x4 x5 x6 x7 x8 x9 (ix3 0 r l))).trans ?_
  · unfold kernelRun0_A
    dsimp only
    simp only [List.forall_mem_cons, List.forall_mem_nil, and_true]
    exact ⟨piece _ 7 896 rfl _ _ fun r l => headV7 _ _ _ l,
      piece _ 6 768 rfl _ _ fun r l => headV6 _ _ _ l,
      piece _ 5 640 rfl _ _ fun r l => headV5 _ _ _ l,
      piece _ 4 512 rfl _ _ fun r l => headV4 _ _ _ l,
      piece _ 3 384 rfl _ _ fun r l => headV3 _ _ _ l,
      piece _ 2 256 rfl _ _ fun r l => headV2 _ _ _ l,
      piece _ 1 128 rfl _ _ fun r l => headV1 _ _ _ l,
      piece _ 0 0 rfl _ _ fun r l => headV0 _ _ _ l, fun _ h => absurd h List.not_mem_nil⟩
  · show headVAt (kernelRun0_A.sl.r_6 c i a0 h0 a1 h1 a2 h2 a5 h5 a6 h6 x0 x1 x2 x5 x6) k0_pay20 r (hd l) (ln l) = _
    unfold headVAt
    simp only [tileKV, ones_apply]

end

end Cert.Kernel3Ideal.Inproj

end
-- ==== Proof.InprojHost.lean ====
/- The arrays the input projection kernel is launched with, from the arguments. -/
module

public import proofs.«01_k».proof.Proof.InprojBlock
public import Idealize.ShloMosaic.Lib.Pipeline.ValueKit.Geometry
public import Idealize.ShloMosaic.Lib.IdealHost
public import Idealize.ShloMosaic.Lib.Routing.OpsOne
public import Idealize.ShloMosaic.Lib.StableHlo.RunRead

@[expose] public section

set_option maxRecDepth 16384

noncomputable section

namespace Cert.Kernel3Ideal.Inproj

open Cert.Kernel3Ideal Cert.Kernel3Ideal.Gen Cert.Inproj Cert.Merge Idealize.ShloMosaic Idealize.ShloMosaic.TcCoe Idealize.SL.Sem
  Idealize.ShloMosaic.StableHlo

variable (m : (ℓ : Loc nD τ sig) → Buf (Elt Ideal) ℓ)

/-- A rectangle written into an array, read at an index: the rectangle's element inside it, the array's outside. -/
theorem scatter_rect (x : FVec Ideal S8448x128 .f32) (idx : IVec S2 32) (u : FVec Ideal S8192x16 .f32) (p : ℕ) (hp : p + 16 ≤ 128)
    (h0 : idx (ix1 (0 : Fin 2)) = 256#32) (h1 : (idx (ix1 (1 : Fin 2))).toInt = p) (r : Fin 8448) (k : Fin 128) :
    Host.scatter scatter_S8448x128_S2_S8192x16_01_n_01_0 (fun _ b => b) x idx u (ix2 r k)
      = if h : 256 ≤ r.val ∧ p ≤ k.val ∧ k.val < p + 16 then u (ix2 ⟨r - 256, by omega⟩ ⟨k - p, by omega⟩) else x (ix2 r k) := by
  have lands : ∀ (a : Fin 8192) (b : Fin 16), scatter_S8448x128_S2_S8192x16_01_n_01_0.resultIdx? (ix2 a b) idx = some (ix2 r k)
      ↔ 256 + a.val = r.val ∧ p + b.val = k.val := by
    intro a b
    have w0 : scatter_S8448x128_S2_S8192x16_01_n_01_0.window (ix2 a b) 0 = a.val := rfl
    have w1 : scatter_S8448x128_S2_S8192x16_01_n_01_0.window (ix2 a b) 1 = b.val := rfl
    have s0 : scatter_S8448x128_S2_S8192x16_01_n_01_0.start (ix2 a b) idx 0 = 256 :=
      (Routing.start_pair (R := 8448) (C := 128) scatter_S8448x128_S2_S8192x16_01_n_01_0 rfl rfl idx (ix2 a b) 0).trans
        ((congrArg BitVec.toInt h0).trans (by decide))
    have s1 : scatter_S8448x128_S2_S8192x16_01_n_01_0.start (ix2 a b) idx 1 = p :=
      (Routing.start_pair (R := 8448) (C := 128) scatter_S8448x128_S2_S8192x16_01_n_01_0 rfl rfl idx (ix2 a b) 1).trans h1
    refine (Routing.resultIdx?_ix2 (R := 8448) (C := 128) scatter_S8448x128_S2_S8192x16_01_n_01_0 (ix2 a b) idx r k).trans ?_
    rw [s0, s1, w0, w1]
    omega
  split
  · rename_i h
    refine Routing.scatter_set_hit _ x idx u _ _ (fun j hj => ?_) (ix2 ⟨r - 256, by omega⟩ ⟨k - p, by omega⟩) ?_
    · obtain ⟨a, b, rfl⟩ : ∃ (a : Fin 8192) (b : Fin 16), j = ix2 a b := ⟨j 0, j 1, eq_ix2 j⟩
      have q := (lands a b).1 hj
      exact congrArg u (congrArg₂ ix2 (Fin.ext (show a.val = r.val - 256 by omega)) (Fin.ext (show b.val = k.val - p by omega)))
    · exact (lands _ _).2 ⟨by show 256 + (r.val - 256) = r.val; omega, by show p + (k.val - p) = k.val; omega⟩
  · rename_i h
    refine Routing.scatter_set_miss _ x idx u _ fun j hj => h ?_
    obtain ⟨a, b, rfl⟩ : ∃ (a : Fin 8192) (b : Fin 16), j = ix2 a b := ⟨j 0, j 1, eq_ix2 j⟩
    have q := (lands a b).1 hj
    omega

/-- The position of a rectangle, as it is given. -/
abbrev at2 (a b : BitVec 32) : IVec S2 32 :=
  concatenate S2 0 [⟨S1, broadcastInDim S1 ![] bcast_S_S1 (constantI S_ 32 a)⟩, ⟨S1, broadcastInDim S1 ![] bcast_S_S1 (constantI S_ 32 b)⟩] concatenates_S1_S1_S2_d0

/-- The table of cosines. -/
def tableC (cos : FVec Ideal S8192x16 .f32) : FVec Ideal S8448x128 .f32 :=
  Host.scatter scatter_S8448x128_S2_S8192x16_01_n_01_0 (fun _ b => b)
    (Host.scatter scatter_S8448x128_S2_S8192x16_01_n_01_0 (fun _ b => b)
      (broadcastInDim S8448x128 ![] bcast_S_S8448x128 (constant (F := Ideal) S_ .f32 0x3F800000#32)) (at2 256#32 64#32) cos) (at2 256#32 80#32) cos
/-- The table of sines. -/
def tableUp (sin : FVec Ideal S8192x16 .f32) : FVec Ideal S8448x128 .f32 :=
  Host.scatter scatter_S8448x128_S2_S8192x16_01_n_01_0 (fun _ b => b)
    (broadcastInDim S8448x128 ![] bcast_S_S8448x128 (constant (F := Ideal) S_ .f32 0x00000000#32)) (at2 256#32 80#32) sin
/-- The table of sines, negated. -/
def tableDown (sin : FVec Ideal S8192x16 .f32) : FVec Ideal S8448x128 .f32 :=
  Host.scatter scatter_S8448x128_S2_S8192x16_01_n_01_0 (fun _ b => b)
    (broadcastInDim S8448x128 ![] bcast_S_S8448x128 (constant (F := Ideal) S_ .f32 0x00000000#32)) (at2 256#32 64#32) (Host.negf sin)

/-- The arguments the call is given. -/
def args (c : Dev nD) : Args where
  x := m ((c : Thread nD τ).loc main_arg0)
  md := m ((c : Thread nD τ).loc main_arg1)
  win := m ((c : Thread nD τ).loc main_arg2)
  qn := m ((c : Thread nD τ).loc main_arg3)
  wuq := m ((c : Thread nD τ).loc main_arg4)
  kvn := m ((c : Thread nD τ).loc main_arg5)
  wukv := m ((c : Thread nD τ).loc main_arg6)
  qg := m ((c : Thread nD τ).loc main_arg7)
  kg := m ((c : Thread nD τ).loc main_arg8)
  cos := m ((c : Thread nD τ).loc main_arg9)
  sin := m ((c : Thread nD τ).loc main_arg10)

/-- Three arrays side by side, from equal ones. -/
theorem side_congr {p q r p' q' r' : FVec Ideal S8448x128 .f32} (hp : p = p') (hq : q = q') (hr : r = r') :
    concatenate S8448x384 1 [⟨S8448x128, p⟩, ⟨S8448x128, q⟩, ⟨S8448x128, r⟩] concatenates_S8448x128_S8448x128_S8448x128_S8448x384_d1
      = concatenate S8448x384 1 [⟨S8448x128, p'⟩, ⟨S8448x128, q'⟩, ⟨S8448x128, r'⟩] concatenates_S8448x128_S8448x128_S8448x128_S8448x384_d1 := by
  rw [hp, hq, hr]

/-- A rectangle written into an array, from equal ones. -/
theorem placed_congr {x x' : FVec Ideal S8448x128 .f32} {a a' b b' : IVec S1 32} {u : FVec Ideal S8192x16 .f32} (hx : x = x') (ha : a = a') (hb : b = b') :
    Host.scatter scatter_S8448x128_S2_S8192x16_01_n_01_0 (fun _ b => b) x (concatenate S2 0 [⟨S1, a⟩, ⟨S1, b⟩] concatenates_S1_S1_S2_d0) u
      = Host.scatter scatter_S8448x128_S2_S8192x16_01_n_01_0 (fun _ b => b) x' (concatenate S2 0 [⟨S1, a'⟩, ⟨S1, b'⟩] concatenates_S1_S1_S2_d0) u := by
  rw [hx, ha, hb]

/-- The tables the region finds: the three side by side. -/
theorem V_tables (c : Dev nD) : V m c main_v20 = concatenate S8448x384 1 [⟨S8448x128, tableC (args m c).cos⟩,
    ⟨S8448x128, tableUp (args m c).sin⟩, ⟨S8448x128, tableDown (args m c).sin⟩] concatenates_S8448x128_S8448x128_S8448x128_S8448x384_d1 := by
  dsimp only [tableC, tableUp, tableDown, args, at2]
  unfold_abbrev_sides
  simp only [List.flatten_cons, List.flatten_nil, List.append_nil]
  after_reads_simp
  refine side_congr ?_ ?_ ?_
  · show upto _ _ _ (Proc.devRef .tc main_v8) = _
    after_reads_simp
    refine placed_congr (placed_congr rfl ?_ ?_) ?_ ?_
    all_goals
      after_reads_simp
  · show upto _ _ _ (Proc.devRef .tc main_v13) = _
    after_reads_simp
    refine placed_congr rfl ?_ ?_
    all_goals
      after_reads_simp
  · show upto _ _ _ (Proc.devRef .tc main_v19) = _
    after_reads_simp
    refine placed_congr rfl ?_ ?_
    all_goals
      after_reads_simp

/-- The fill is zero. -/
theorem fill_zero : FloatOps.sitofp (F := Ideal) .f32 (0#32 : BitVec 32) = (0 : EReal) := by
  show (((0#32 : BitVec 32).toInt : ℝ) : EReal) = 0
  simp

/-- The projection's weights the region finds. -/
theorem V_w1 (c : Dev nD) (k : Fin 1024) (j : Fin 2816) : V m c main_v27 (ix3 3 k j) = w1 (args m c) k j := by
  have e : V m c main_v27 = truncf (F := Ideal) .bf16 (concatenate S4x1024x2816 2
      [⟨S4x1024x640, extractStridedSlice S4x1024x640 ![0, 0, 1024] (m ((c : Thread nD τ).loc main_arg2)) slices_S4x1024x5792_S4x1024x640_0_0_1024⟩,
       ⟨S4x1024x128, pad S4x1024x128 ![0, 0, 64] ![0, 0, 32] ![0, 0, 0]
          (extractStridedSlice S4x1024x32 ![0, 0, 1664] (m ((c : Thread nD τ).loc main_arg2)) slices_S4x1024x5792_S4x1024x32_0_0_1664)
          (sitofp (F := Ideal) .f32 (constantI S_ 32 0#32)) pads_S4x1024x32_S4x1024x128_000_000_64320 h_S_⟩,
       ⟨S4x1024x1024, extractStridedSlice S4x1024x1024 ![0, 0, 0] (m ((c : Thread nD τ).loc main_arg2)) slices_S4x1024x5792_S4x1024x1024_0_0_0⟩,
       ⟨S4x1024x1024, extractStridedSlice S4x1024x1024 ![0, 0, 1696] (m ((c : Thread nD τ).loc main_arg2)) slices_S4x1024x5792_S4x1024x1024_0_0_1696⟩]
      concatenates_S4x1024x640_S4x1024x128_S4x1024x1024_S4x1024x1024_S4x1024x2816_d2) bitsLt_bf16_f32 := by
    unfold_abbrev_sides
    simp only [List.flatten_cons, List.flatten_nil, List.append_nil]
    after_reads_simp
    rfl
  rw [e]
  unfold w1
  pointwise []
  rw [fill_zero]
  by_cases h1 : j.val < 640
  · refine (dif_pos h1).trans (Eq.trans ?_ (dif_pos h1).symm)
    rfl
  · refine (dif_neg h1).trans (Eq.trans ?_ (dif_neg h1).symm)
    by_cases h2 : j.val < 768
    · refine (dif_pos (show j.val - 640 < 128 by omega)).trans (Eq.trans ?_ (dif_pos h2).symm)
      by_cases h3 : 704 ≤ j.val ∧ j.val < 736
      · refine (dif_pos (show 64 ≤ j.val - 640 ∧ j.val - 640 - 64 < 32 by omega)).trans (Eq.trans ?_ (dif_pos h3).symm)
        exact congrArg (fun q => m ((c : Thread nD τ).loc main_arg2) (ix3 3 k q)) (Fin.ext (show 1664 + (j.val - 640 - 64) = 1664 + (j.val - 704) by omega))
      · refine (dif_neg (show ¬ (64 ≤ j.val - 640 ∧ j.val - 640 - 64 < 32) by omega)).trans (Eq.trans ?_ (dif_neg h3).symm)
        rfl
    · refine (dif_neg (show ¬ j.val - 640 < 128 by omega)).trans (Eq.trans ?_ (dif_neg h2).symm)
      by_cases h3 : j.val < 1792
      · refine (dif_pos (show j.val - 640 - 128 < 1024 by omega)).trans (Eq.trans ?_ (dif_pos h3).symm)
        exact congrArg (fun q => m ((c : Thread nD τ).loc main_arg2) (ix3 3 k q)) (Fin.ext (show j.val - 640 - 128 = j.val - 768 by omega))
      · refine (dif_neg (show ¬ j.val - 640 - 128 < 1024 by omega)).trans (Eq.trans ?_ (dif_neg h3).symm)
        exact congrArg (fun q => m ((c : Thread nD τ).loc main_arg2) (ix3 3 k q)) (Fin.ext (show 1696 + (j.val - 640 - 128 - 1024) = 1696 + (j.val - 1792) by omega))

/-- The queries' weights the region finds. -/
theorem V_uq (c : Dev nD) (k : Fin 384) (j : Fin 1024) : V m c main_v31 (ix3 3 k j) = uq (args m c) k j := by
  have e : V m c main_v31 = truncf (F := Ideal) .bf16 (shapeCast S4x384x1024 (pad S4x384x8x128 ![0, 0, 0, 0] ![0, 0, 0, 32] ![0, 0, 0, 0]
      (shapeCast S4x384x8x96 (m ((c : Thread nD τ).loc main_arg4)) shapeCasts_S4x384x768_S4x384x8x96)
      (sitofp (F := Ideal) .f32 (constantI S_ 32 0#32)) pads_S4x384x8x96_S4x384x8x128_000_000_000_0320 h_S_) shapeCasts_S4x384x8x128_S4x384x1024) bitsLt_bf16_f32 := by
    unfold_abbrev_sides
    simp only [List.flatten_cons, List.flatten_nil, List.append_nil]
    after_reads_simp
    rfl
  rw [e]
  unfold uq padded ln
  pointwise []
  rw [fill_zero]
  split_ifs
  all_goals first
    | rfl
    | omega
    | exact congrArg (fun q => m ((c : Thread nD τ).loc main_arg4) (ix3 3 k q)) (Fin.ext (by (try dsimp only) <;> omega))

/-- The first half of each head's columns, each head in 128 lanes. -/
def lowHalf (x : FVec Ideal S4x256x1024 .f32) : FVec Ideal S4x256x1024 .f32 :=
  shapeCast S4x256x1024 (pad S4x256x8x128 ![0, 0, 0, 0] ![0, 0, 0, 64] ![0, 0, 0, 0]
    (shapeCast S4x256x8x64 (shapeCast S4x256x512 (extractStridedSlice S4x256x8x64 ![0, 0, 0, 0]
      (shapeCast S4x256x8x128 x shapeCasts_S4x256x1024_S4x256x8x128) slices_S4x256x8x128_S4x256x8x64_0_0_0_0)
      shapeCasts_S4x256x8x64_S4x256x512) shapeCasts_S4x256x512_S4x256x8x64)
    (sitofp (F := Ideal) .f32 (constantI S_ 32 0#32)) pads_S4x256x8x64_S4x256x8x128_000_000_000_0640 h_S_) shapeCasts_S4x256x8x128_S4x256x1024

/-- The same at an index. -/
theorem lowHalf_apply (x : FVec Ideal S4x256x1024 .f32) (k : Fin 256) (j : Fin 1024) : lowHalf x (ix3 3 k j)
    = padded (fun m : Fin 64 => x (ix3 3 k ⟨128 * (j / 128) + m, by omega⟩)) ⟨j % 128, by omega⟩ := by
  unfold lowHalf padded
  pointwise []
  rw [fill_zero]
  split_ifs
  all_goals first
    | rfl
    | omega
    | exact congrArg (fun q => x (ix3 3 k q)) (Fin.ext (by (try dsimp only) <;> omega))

/-- The second half of each head's columns, each head in 128 lanes. -/
def highHalf (x : FVec Ideal S4x256x1024 .f32) : FVec Ideal S4x256x1024 .f32 :=
  shapeCast S4x256x1024 (pad S4x256x8x128 ![0, 0, 0, 0] ![0, 0, 0, 64] ![0, 0, 0, 0]
    (shapeCast S4x256x8x64 (shapeCast S4x256x512 (extractStridedSlice S4x256x8x64 ![0, 0, 0, 64]
      (shapeCast S4x256x8x128 x shapeCasts_S4x256x1024_S4x256x8x128) slices_S4x256x8x128_S4x256x8x64_0_0_0_64)
      shapeCasts_S4x256x8x64_S4x256x512) shapeCasts_S4x256x512_S4x256x8x64)
    (sitofp (F := Ideal) .f32 (constantI S_ 32 0#32)) pads_S4x256x8x64_S4x256x8x128_000_000_000_0640 h_S_) shapeCasts_S4x256x8x128_S4x256x1024

/-- The same at an index. -/
theorem highHalf_apply (x : FVec Ideal S4x256x1024 .f32) (k : Fin 256) (j : Fin 1024) : highHalf x (ix3 3 k j)
    = padded (fun m : Fin 64 => x (ix3 3 k ⟨128 * (j / 128) + (64 + m), by omega⟩)) ⟨j % 128, by omega⟩ := by
  unfold highHalf padded
  pointwise []
  rw [fill_zero]
  split_ifs
  all_goals first
    | rfl
    | omega
    | exact congrArg (fun q => x (ix3 3 k q)) (Fin.ext (by (try dsimp only) <;> omega))

/-- The keys' and the values' weights the region finds. -/
theorem V_ukv (c : Dev nD) (k : Fin 256) (j : Fin 2048) : V m c main_v44 (ix3 3 k j) = ukv (args m c) k j := by
  have e : V m c main_v44 = truncf (F := Ideal) .bf16 (concatenate S4x256x2048 2
      [⟨S4x256x1024, lowHalf (m ((c : Thread nD τ).loc main_arg6))⟩, ⟨S4x256x1024, highHalf (m ((c : Thread nD τ).loc main_arg6))⟩]
      concatenates_S4x256x1024_S4x256x1024_S4x256x2048_d2) bitsLt_bf16_f32 := by
    dsimp only [lowHalf, highHalf]
    unfold_abbrev_sides
    simp only [List.flatten_cons, List.flatten_nil, List.append_nil]
    after_reads_simp
    rfl
  have el := lowHalf_apply (m ((c : Thread nD τ).loc main_arg6)) k
  have eh := highHalf_apply (m ((c : Thread nD τ).loc main_arg6)) k
  rw [e]
  generalize lowHalf (m ((c : Thread nD τ).loc main_arg6)) = p at el ⊢
  generalize highHalf (m ((c : Thread nD τ).loc main_arg6)) = q at eh ⊢
  unfold ukv
  pointwise []
  split
  · exact el _
  · exact eh _

/-- A row of a padded gain. -/
theorem padded_row (x : FVec Ideal S4x96 .f32) (r : Fin 4) (j : Fin 128) : pad S4x128 ![0, 0] ![0, 32] ![0, 0] x
    (sitofp (F := Ideal) .f32 (constantI S_ 32 0#32)) pads_S4x96_S4x128_000_0320 h_S_ (ix2 r j) = padded (fun j => x (ix2 r j)) j := by
  unfold padded
  pointwise []
  rw [fill_zero]

/-- The heads' gain the region finds. -/
theorem V_qg (c : Dev nD) (j : Fin 128) : V m c main_v46 (ix3 3 0 j) = padded (fun j => (args m c).qg (ix2 3 j)) j := by
  have e : V m c main_v46 = shapeCast S4x1x128 (pad S4x128 ![0, 0] ![0, 32] ![0, 0] (m ((c : Thread nD τ).loc main_arg7))
      (sitofp (F := Ideal) .f32 (constantI S_ 32 0#32)) pads_S4x96_S4x128_000_0320 h_S_) shapeCasts_S4x128_S4x1x128 := by
    unfold_abbrev_sides
    simp only [List.flatten_cons, List.flatten_nil, List.append_nil]
    after_reads_simp
    rfl
  rw [e]
  refine Eq.trans ?_ (padded_row (m ((c : Thread nD τ).loc main_arg7)) 3 j)
  generalize pad S4x128 ![0, 0] ![0, 32] ![0, 0] (m ((c : Thread nD τ).loc main_arg7))
      (sitofp (F := Ideal) .f32 (constantI S_ 32 0#32)) pads_S4x96_S4x128_000_0320 h_S_ = p
  pointwise []

/-- The heads' gain the region finds. -/
theorem V_kg (c : Dev nD) (j : Fin 128) : V m c main_v48 (ix3 3 0 j) = padded (fun j => (args m c).kg (ix2 3 j)) j := by
  have e : V m c main_v48 = shapeCast S4x1x128 (pad S4x128 ![0, 0] ![0, 32] ![0, 0] (m ((c : Thread nD τ).loc main_arg8))
      (sitofp (F := Ideal) .f32 (constantI S_ 32 0#32)) pads_S4x96_S4x128_000_0320 h_S_) shapeCasts_S4x128_S4x1x128 := by
    unfold_abbrev_sides
    simp only [List.flatten_cons, List.flatten_nil, List.append_nil]
    after_reads_simp
    rfl
  rw [e]
  refine Eq.trans ?_ (padded_row (m ((c : Thread nD τ).loc main_arg8)) 3 j)
  generalize pad S4x128 ![0, 0] ![0, 32] ![0, 0] (m ((c : Thread nD τ).loc main_arg8))
      (sitofp (F := Ideal) .f32 (constantI S_ 32 0#32)) pads_S4x96_S4x128_000_0320 h_S_ = p
  pointwise []

/-- The inner gain the region finds. -/
theorem V_qn (c : Dev nD) (j : Fin 384) : V m c main_v49 (ix3 3 0 j) = (args m c).qn (ix2 3 j) := by
  have e : V m c main_v49 = shapeCast S4x1x384 (m ((c : Thread nD τ).loc main_arg3)) shapeCasts_S4x384_S4x1x384 := by
    unfold_abbrev_sides
    simp only [List.flatten_cons, List.flatten_nil, List.append_nil]
    after_reads_simp
    rfl
  rw [e]
  unfold args
  pointwise []

/-- The inner gain the region finds. -/
theorem V_kvn (c : Dev nD) (j : Fin 256) : V m c main_v50 (ix3 3 0 j) = (args m c).kvn (ix2 3 j) := by
  have e : V m c main_v50 = shapeCast S4x1x256 (m ((c : Thread nD τ).loc main_arg5)) shapeCasts_S4x256_S4x1x256 := by
    unfold_abbrev_sides
    simp only [List.flatten_cons, List.flatten_nil, List.append_nil]
    after_reads_simp
    rfl
  rw [e]
  unfold args
  pointwise []

/-- The first table at an index. -/
theorem tableC_apply (A : Args) (t : Fin 8448) (l : Fin 128) : tableC A.cos (ix2 t l) = tabC A t l := by
  unfold tableC
  rw [scatter_rect _ _ _ 80 (by omega) rfl rfl, scatter_rect _ _ _ 64 (by omega) rfl rfl]
  unfold tabC
  by_cases ht : 256 ≤ t.val
  · by_cases h1 : 80 ≤ l.val ∧ l.val < 96
    · rw [dif_pos ⟨ht, h1⟩, dif_pos ⟨ht, by omega⟩]
      exact congrArg A.cos (congrArg₂ ix2 rfl (Fin.ext (show l.val - 80 = (l.val - 64) % 16 by omega)))
    · rw [dif_neg (fun h => h1 h.2)]
      by_cases h2 : 64 ≤ l.val ∧ l.val < 80
      · rw [dif_pos ⟨ht, h2⟩, dif_pos ⟨ht, by omega⟩]
        exact congrArg A.cos (congrArg₂ ix2 rfl (Fin.ext (show l.val - 64 = (l.val - 64) % 16 by omega)))
      · rw [dif_neg (fun h => h2 h.2), dif_neg (by omega)]
        exact Ideal.ofBits_one_f32
  · rw [dif_neg (fun h => ht h.1), dif_neg (fun h => ht h.1), dif_neg (fun h => ht h.1)]
    exact Ideal.ofBits_one_f32

/-- The second table at an index. -/
theorem tableUp_apply (A : Args) (t : Fin 8448) (l : Fin 128) : tableUp A.sin (ix2 t l) = tabUp A t l := by
  unfold tableUp
  rw [scatter_rect _ _ _ 80 (by omega) rfl rfl]
  unfold tabUp
  split
  · rfl
  · exact Ideal.ofBits_zero_f32

/-- The third table at an index. -/
theorem tableDown_apply (A : Args) (t : Fin 8448) (l : Fin 128) : tableDown A.sin (ix2 t l) = tabDown A t l := by
  unfold tableDown
  rw [scatter_rect _ _ _ 64 (by omega) rfl rfl]
  unfold tabDown
  split
  · rfl
  · exact Ideal.ofBits_zero_f32

/-- A table the region finds. -/
theorem V_tabC (c : Dev nD) (t : Fin 8448) (l : Fin 128) : V m c main_v20 (ix2 t ⟨l, by omega⟩) = tabC (args m c) t l := by
  rw [V_tables, ← tableC_apply]
  generalize tableC (args m c).cos = p
  generalize tableUp (args m c).sin = q
  generalize tableDown (args m c).sin = r
  pointwise []

/-- A table the region finds. -/
theorem V_tabUp (c : Dev nD) (t : Fin 8448) (l : Fin 128) : V m c main_v20 (ix2 t ⟨128 + l, by omega⟩) = tabUp (args m c) t l := by
  rw [V_tables, ← tableUp_apply]
  generalize tableC (args m c).cos = p
  generalize tableUp (args m c).sin = q
  generalize tableDown (args m c).sin = r
  pointwise []

/-- A table the region finds. -/
theorem V_tabDown (c : Dev nD) (t : Fin 8448) (l : Fin 128) : V m c main_v20 (ix2 t ⟨256 + l, by omega⟩) = tabDown (args m c) t l := by
  rw [V_tables, ← tableDown_apply]
  generalize tableC (args m c).cos = p
  generalize tableUp (args m c).sin = q
  generalize tableDown (args m c).sin = r
  pointwise []
  rw [dif_neg (by omega), dif_neg (by omega)]
  exact congrArg (fun z => r (ix2 t z)) (Fin.ext (by (try dsimp only) <;> omega))

end Cert.Kernel3Ideal.Inproj

end
-- ==== Proof.InprojFinal.lean ====
/- The input projection kernel's result arrays, tile by tile. -/
module

public import proofs.«01_k».proof.Proof.InprojHost

@[expose] public section

set_option maxHeartbeats 400000
set_option maxRecDepth 16384

noncomputable section

namespace Cert.Kernel3Ideal.Inproj

open Cert.Kernel3Ideal Cert.Kernel3Ideal.Gen Cert.Inproj Cert.Merge Idealize.ShloMosaic Idealize.ShloMosaic.TcCoe Idealize.SL.Sem
  Idealize.ShloMosaic.StableHlo

variable (m : (ℓ : Loc nD τ sig) → Buf (Elt Ideal) ℓ)

/-- The index of window 0's block. -/
theorem index0 : ∀ t : Fin cfg0.N, win0_0.index t = ![(grid0.coords t 0).val, (grid0.coords t 1).val, 0] := (by decide +kernel : ∀ t : Fin grid0.N, _)
/-- The index of window 1's block. -/
theorem index1 : ∀ t : Fin cfg0.N, win0_1.index t = ![3, 0, 0] := (by decide +kernel : ∀ t : Fin grid0.N, _)
/-- The index of window 2's block. -/
theorem index2 : ∀ t : Fin cfg0.N, win0_2.index t = ![3, 0, 0] := (by decide +kernel : ∀ t : Fin grid0.N, _)
/-- The index of window 3's block. -/
theorem index3 : ∀ t : Fin cfg0.N, win0_3.index t = ![3, 0, 0] := (by decide +kernel : ∀ t : Fin grid0.N, _)
/-- The index of window 4's block. -/
theorem index4 : ∀ t : Fin cfg0.N, win0_4.index t = ![3, 0, 0] := (by decide +kernel : ∀ t : Fin grid0.N, _)
/-- The index of window 5's block. -/
theorem index5 : ∀ t : Fin cfg0.N, win0_5.index t = ![3, 0, 0] := (by decide +kernel : ∀ t : Fin grid0.N, _)
/-- The index of window 6's block. -/
theorem index6 : ∀ t : Fin cfg0.N, win0_6.index t = ![3, 0, 0] := (by decide +kernel : ∀ t : Fin grid0.N, _)
/-- The index of window 7's block. -/
theorem index7 : ∀ t : Fin cfg0.N, win0_7.index t = ![3, 0, 0] := (by decide +kernel : ∀ t : Fin grid0.N, _)
/-- The index of window 8's block. -/
theorem index8 : ∀ t : Fin cfg0.N, win0_8.index t = ![3, 0, 0] := (by decide +kernel : ∀ t : Fin grid0.N, _)
/-- The index of window 9's block. -/
theorem index9 : ∀ t : Fin cfg0.N, win0_9.index t = ![(grid0.coords t 1).val, 0] := (by decide +kernel : ∀ t : Fin grid0.N, _)
/-- The index of window 10's block. -/
theorem index10 : ∀ t : Fin cfg0.N, win0_10.index t = ![(grid0.coords t 0).val, (grid0.coords t 1).val, 0] := (by decide +kernel : ∀ t : Fin grid0.N, _)
/-- The index of window 11's block. -/
theorem index11 : ∀ t : Fin cfg0.N, win0_11.index t = ![(grid0.coords t 0).val, (grid0.coords t 1).val, 0] := (by decide +kernel : ∀ t : Fin grid0.N, _)
/-- The index of window 12's block. -/
theorem index12 : ∀ t : Fin cfg0.N, win0_12.index t = ![(grid0.coords t 0).val, (grid0.coords t 1).val, 0] := (by decide +kernel : ∀ t : Fin grid0.N, _)
/-- The index of window 13's block. -/
theorem index13 : ∀ t : Fin cfg0.N, win0_13.index t = ![(grid0.coords t 0).val, (grid0.coords t 1).val, 0] := (by decide +kernel : ∀ t : Fin grid0.N, _)
/-- The index of window 14's block. -/
theorem index14 : ∀ t : Fin cfg0.N, win0_14.index t = ![(grid0.coords t 0).val, (grid0.coords t 1).val, 0] := (by decide +kernel : ∀ t : Fin grid0.N, _)
/-- The index of window 15's block. -/
theorem index15 : ∀ t : Fin cfg0.N, win0_15.index t = ![(grid0.coords t 0).val, (grid0.coords t 1).val, 0] := (by decide +kernel : ∀ t : Fin grid0.N, _)

/-- The batch row of a grid point. -/
def batch (t : Fin cfg0.N) : Fin 4 := ⟨(grid0.coords t 0).val, (grid0.coords t 0).isLt⟩

/-- The token a grid point's row `r` is. -/
def token (t : Fin cfg0.N) (r : Fin 256) : Fin 8448 :=
  ⟨256 * (grid0.coords t 1).val + r, by have : ((grid0.coords t 1 : Fin _) : ℕ) < 33 := (grid0.coords t 1).isLt; omega⟩

/-- The modulations a tile reads are its tokens'. -/
theorem tileRow_eq (t : Fin cfg0.N) (r : Fin 256) : tileRow (grid0.coords t) = modRow (batch t) (token t r) := by
  have e : (token t r).val < 256 ↔ (grid0.coords t 1).val = 0 := by
    show 256 * (grid0.coords t 1).val + r.val < 256 ↔ _
    omega
  unfold tileRow modRow
  by_cases h : (grid0.coords t 1).val = 0
  · rw [if_pos h, if_pos (e.2 h)]
  · rw [if_neg h, if_neg (fun q => h (e.1 q))]
    rfl

/-- Window 0's block: a tile of tokens of the stream. -/
theorem block0 (c : Dev nD) (t : Fin cfg0.N) (r : Fin 256) (k : Fin 1024) : iblk m c 0 t (ix3 0 r k)
    = (args m c).x (ix3 (batch t) (token t r) k) := by
  blk_simp [iblk]
  rw [V_main_arg0]
  refine congrArg (m ((c : Thread nD τ).loc main_arg0)) (funext fun a => Fin.ext ?_)
  fin_cases a
  all_goals blk_simp [index0] <;> simp [batch, token] <;> omega
/-- Window 1's block: the layer's modulations. -/
theorem block1 (c : Dev nD) (t : Fin cfg0.N) (r : Fin 8) (k : Fin 6144) : iblk m c 1 t (ix3 0 r k)
    = (args m c).md (ix3 3 r k) := by
  blk_simp [iblk]
  rw [V_main_arg1]
  refine congrArg (m ((c : Thread nD τ).loc main_arg1)) (funext fun a => Fin.ext ?_)
  fin_cases a
  all_goals blk_simp [index1] <;> simp <;> omega
/-- Window 2's block: the projection's weights. -/
theorem block2 (c : Dev nD) (t : Fin cfg0.N) (k : Fin 1024) (j : Fin 2816) : iblk m c 2 t (ix3 0 k j) = w1 (args m c) k j := by
  rw [← V_w1]
  blk_simp [iblk]
  refine congrArg (V m c main_v27) (funext fun a => Fin.ext ?_)
  fin_cases a
  all_goals blk_simp [index2] <;> simp <;> omega
/-- Window 4's block: the queries' weights. -/
theorem block4 (c : Dev nD) (t : Fin cfg0.N) (k : Fin 384) (j : Fin 1024) : iblk m c 4 t (ix3 0 k j) = uq (args m c) k j := by
  rw [← V_uq]
  blk_simp [iblk]
  refine congrArg (V m c main_v31) (funext fun a => Fin.ext ?_)
  fin_cases a
  all_goals blk_simp [index4] <;> simp <;> omega
/-- Window 6's block: the keys' and values' weights. -/
theorem block6 (c : Dev nD) (t : Fin cfg0.N) (k : Fin 256) (j : Fin 2048) : iblk m c 6 t (ix3 0 k j) = ukv (args m c) k j := by
  rw [← V_ukv]
  blk_simp [iblk]
  refine congrArg (V m c main_v44) (funext fun a => Fin.ext ?_)
  fin_cases a
  all_goals blk_simp [index6] <;> simp <;> omega
/-- Window 3's block: a gain. -/
theorem block3 (c : Dev nD) (t : Fin cfg0.N) (j : Fin 384) : iblk m c 3 t (ix3 0 0 j) = (args m c).qn (ix2 3 j) := by
  refine Eq.trans ?_ (V_qn m c j)
  blk_simp [iblk]
  refine congrArg (V m c main_v49) (funext fun a => Fin.ext ?_)
  fin_cases a
  all_goals blk_simp [index3] <;> simp <;> omega
/-- Window 5's block: a gain. -/
theorem block5 (c : Dev nD) (t : Fin cfg0.N) (j : Fin 256) : iblk m c 5 t (ix3 0 0 j) = (args m c).kvn (ix2 3 j) := by
  refine Eq.trans ?_ (V_kvn m c j)
  blk_simp [iblk]
  refine congrArg (V m c main_v50) (funext fun a => Fin.ext ?_)
  fin_cases a
  all_goals blk_simp [index5] <;> simp <;> omega
/-- Window 7's block: a gain. -/
theorem block7 (c : Dev nD) (t : Fin cfg0.N) (j : Fin 128) : iblk m c 7 t (ix3 0 0 j) = padded (fun j => (args m c).qg (ix2 3 j)) j := by
  refine Eq.trans ?_ (V_qg m c j)
  blk_simp [iblk]
  refine congrArg (V m c main_v46) (funext fun a => Fin.ext ?_)
  fin_cases a
  all_goals blk_simp [index7] <;> simp <;> omega
/-- Window 8's block: a gain. -/
theorem block8 (c : Dev nD) (t : Fin cfg0.N) (j : Fin 128) : iblk m c 8 t (ix3 0 0 j) = padded (fun j => (args m c).kg (ix2 3 j)) j := by
  refine Eq.trans ?_ (V_kg m c j)
  blk_simp [iblk]
  refine congrArg (V m c main_v48) (funext fun a => Fin.ext ?_)
  fin_cases a
  all_goals blk_simp [index8] <;> simp <;> omega
/-- Window 9's block: a tile of a table. -/
theorem block9C (c : Dev nD) (t : Fin cfg0.N) (r : Fin 256) (l : Fin 128) : iblk m c 9 t (ix2 r ⟨0 + l, by omega⟩)
    = tabC (args m c) (token t r) l := by
  rw [← V_tabC]
  blk_simp [iblk]
  refine congrArg (V m c main_v20) (funext fun a => Fin.ext ?_)
  fin_cases a
  all_goals blk_simp [index9] <;> simp [token] <;> omega
/-- Window 9's block: a tile of a table. -/
theorem block9Up (c : Dev nD) (t : Fin cfg0.N) (r : Fin 256) (l : Fin 128) : iblk m c 9 t (ix2 r ⟨128 + l, by omega⟩)
    = tabUp (args m c) (token t r) l := by
  rw [← V_tabUp]
  blk_simp [iblk]
  refine congrArg (V m c main_v20) (funext fun a => Fin.ext ?_)
  fin_cases a
  all_goals blk_simp [index9] <;> simp [token] <;> omega
/-- Window 9's block: a tile of a table. -/
theorem block9Down (c : Dev nD) (t : Fin cfg0.N) (r : Fin 256) (l : Fin 128) : iblk m c 9 t (ix2 r ⟨256 + l, by omega⟩)
    = tabDown (args m c) (token t r) l := by
  rw [← V_tabDown]
  blk_simp [iblk]
  refine congrArg (V m c main_v20) (funext fun a => Fin.ext ?_)
  fin_cases a
  all_goals blk_simp [index9] <;> simp [token] <;> omega

/-- A tile's row, modulated, is its token's. -/
theorem row_eq (c : Dev nD) (t : Fin cfg0.N) (r : Fin 256) : rowOf (iblk m c 0 t) (fun k => iblk m c 1 t (ix3 0 (tileRow (grid0.coords t)) k)) r
    = stream (args m c) (batch t) (token t r) := by
  unfold rowOf stream
  rw [tileRow_eq t r]
  simp only [block0, block1]

/-- An index of a narrow result block, from its row and lane. -/
theorem block_idx (y : S1x256x512.Idx) : y = ix3 0 (y 1) (y 2) :=
  (eq_ix3 y).trans (congrArg (fun z : Fin 1 => ix3 z (y 1) (y 2)) (Subsingleton.elim (α := Fin 1) _ _))
/-- An index of a wide result block, from its row and lane. -/
theorem block_idx' (y : S1x256x1024.Idx) : y = ix3 0 (y 1) (y 2) :=
  (eq_ix3 y).trans (congrArg (fun z : Fin 1 => ix3 z (y 1) (y 2)) (Subsingleton.elim (α := Fin 1) _ _))

/-- A grid point's block of result 0. -/
theorem outs0 (c : Dev nD) (t : Fin cfg0.N) : (outsAt0 m c t).1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (iblk m c 0 t) (iblk m c 1 t) (iblk m c 2 t) (iblk m c 3 t) (iblk m c 4 t) (iblk m c 5 t) (iblk m c 6 t) (iblk m c 7 t) (iblk m c 8 t) (iblk m c 9 t) := by
  unfold outsAt0
  dsimp only
/-- The kernel's result array 0. -/
theorem final_lx (c : Dev nD) : (dats m 0 c).arrAt 10 cfg0.N = resLx (args m c) := by
  refine (dats m 0 c).arrAt_eq_of_covers 10 _ (by decide +kernel) fun t hf y => ?_
  blk_simp
  rw [after0_10]
  have hy := block_idx y
  obtain ⟨r, hr⟩ : ∃ r : Fin 256, r = y 1 := ⟨_, rfl⟩
  obtain ⟨l, hl⟩ : ∃ l : Fin 512, l = y 2 := ⟨_, rfl⟩
  have key := out_lx c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (iblk m c 0 t) (iblk m c 1 t) (iblk m c 2 t) (iblk m c 3 t) (iblk m c 4 t) (iblk m c 5 t) (iblk m c 6 t) (iblk m c 7 t) (iblk m c 8 t) (iblk m c 9 t) r l
  have e0 : (win0_10.blk t).view.emb y 0 = batch t := by
    have : (y 0 : ℕ) = 0 := congrArg Fin.val (Subsingleton.elim (α := Fin 1) (y 0) 0)
    refine Fin.ext ?_
    blk_simp [index10] <;> simp [batch] <;> omega
  have e1 : (win0_10.blk t).view.emb y 1 = token t r := by
    rw [hr]
    refine Fin.ext ?_
    blk_simp [index10] <;> simp [token] <;> omega
  have e2 : (win0_10.blk t).view.emb y 2 = l := by
    rw [hl]
    refine Fin.ext ?_
    blk_simp [index10] <;> simp <;> omega
  have hy' : y = ix3 0 r l := by
    rw [hr, hl]
    exact hy
  rw [outs0]
  refine (congrArg (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (iblk m c 0 t) (iblk m c 1 t) (iblk m c 2 t) (iblk m c 3 t) (iblk m c 4 t) (iblk m c 5 t) (iblk m c 6 t) (iblk m c 7 t) (iblk m c 8 t) (iblk m c 9 t)) hy').trans ?_
  refine key.trans ?_
  unfold resLx
  simp only [e0, e1, e2]
  rw [row_eq]
  simp only [block2]
  exact proj_lru (args m c) (batch t) (token t r) ⟨l, by omega⟩

/-- A grid point's block of result 1. -/
theorem outs1 (c : Dev nD) (t : Fin cfg0.N) : (outsAt0 m c t).2.1 = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (iblk m c 0 t) (iblk m c 1 t) (iblk m c 2 t) (iblk m c 3 t) (iblk m c 4 t) (iblk m c 5 t) (iblk m c 6 t) (iblk m c 7 t) (iblk m c 8 t) (iblk m c 9 t) := by
  unfold outsAt0
  dsimp only
/-- The kernel's result array 1. -/
theorem final_lg (c : Dev nD) : (dats m 0 c).arrAt 11 cfg0.N = resLg (args m c) := by
  refine (dats m 0 c).arrAt_eq_of_covers 11 _ (by decide +kernel) fun t hf y => ?_
  blk_simp
  rw [after0_11]
  have hy := block_idx y
  obtain ⟨r, hr⟩ : ∃ r : Fin 256, r = y 1 := ⟨_, rfl⟩
  obtain ⟨l, hl⟩ : ∃ l : Fin 512, l = y 2 := ⟨_, rfl⟩
  have key := out_lg c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (iblk m c 0 t) (iblk m c 1 t) (iblk m c 2 t) (iblk m c 3 t) (iblk m c 4 t) (iblk m c 5 t) (iblk m c 6 t) (iblk m c 7 t) (iblk m c 8 t) (iblk m c 9 t) r l
  have e0 : (win0_11.blk t).view.emb y 0 = batch t := by
    have : (y 0 : ℕ) = 0 := congrArg Fin.val (Subsingleton.elim (α := Fin 1) (y 0) 0)
    refine Fin.ext ?_
    blk_simp [index11] <;> simp [batch] <;> omega
  have e1 : (win0_11.blk t).view.emb y 1 = token t r := by
    rw [hr]
    refine Fin.ext ?_
    blk_simp [index11] <;> simp [token] <;> omega
  have e2 : (win0_11.blk t).view.emb y 2 = l := by
    rw [hl]
    refine Fin.ext ?_
    blk_simp [index11] <;> simp <;> omega
  have hy' : y = ix3 0 r l := by
    rw [hr, hl]
    exact hy
  rw [outs1]
  refine (congrArg (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (iblk m c 0 t) (iblk m c 1 t) (iblk m c 2 t) (iblk m c 3 t) (iblk m c 4 t) (iblk m c 5 t) (iblk m c 6 t) (iblk m c 7 t) (iblk m c 8 t) (iblk m c 9 t)) hy').trans ?_
  refine key.trans ?_
  unfold resLg
  simp only [e0, e1, e2]
  rw [row_eq]
  simp only [block2]
  exact proj_lru (args m c) (batch t) (token t r) ⟨512 + l, by omega⟩

/-- A grid point's block of result 2. -/
theorem outs2 (c : Dev nD) (t : Fin cfg0.N) : (outsAt0 m c t).2.2.1 = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (iblk m c 0 t) (iblk m c 1 t) (iblk m c 2 t) (iblk m c 3 t) (iblk m c 4 t) (iblk m c 5 t) (iblk m c 6 t) (iblk m c 7 t) (iblk m c 8 t) (iblk m c 9 t) := by
  unfold outsAt0
  dsimp only
/-- The kernel's result array 2. -/
theorem final_glu (c : Dev nD) : (dats m 0 c).arrAt 12 cfg0.N = resGlu (args m c) := by
  refine (dats m 0 c).arrAt_eq_of_covers 12 _ (by decide +kernel) fun t hf y => ?_
  blk_simp
  rw [after0_12]
  have hy := block_idx y
  obtain ⟨r, hr⟩ : ∃ r : Fin 256, r = y 1 := ⟨_, rfl⟩
  obtain ⟨l, hl⟩ : ∃ l : Fin 512, l = y 2 := ⟨_, rfl⟩
  have key := out_glu c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (iblk m c 0 t) (iblk m c 1 t) (iblk m c 2 t) (iblk m c 3 t) (iblk m c 4 t) (iblk m c 5 t) (iblk m c 6 t) (iblk m c 7 t) (iblk m c 8 t) (iblk m c 9 t) r l
  have e0 : (win0_12.blk t).view.emb y 0 = batch t := by
    have : (y 0 : ℕ) = 0 := congrArg Fin.val (Subsingleton.elim (α := Fin 1) (y 0) 0)
    refine Fin.ext ?_
    blk_simp [index12] <;> simp [batch] <;> omega
  have e1 : (win0_12.blk t).view.emb y 1 = token t r := by
    rw [hr]
    refine Fin.ext ?_
    blk_simp [index12] <;> simp [token] <;> omega
  have e2 : (win0_12.blk t).view.emb y 2 = l := by
    rw [hl]
    refine Fin.ext ?_
    blk_simp [index12] <;> simp <;> omega
  have hy' : y = ix3 0 r l := by
    rw [hr, hl]
    exact hy
  rw [outs2]
  refine (congrArg (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (iblk m c 0 t) (iblk m c 1 t) (iblk m c 2 t) (iblk m c 3 t) (iblk m c 4 t) (iblk m c 5 t) (iblk m c 6 t) (iblk m c 7 t) (iblk m c 8 t) (iblk m c 9 t)) hy').trans ?_
  refine key.trans ?_
  unfold resGlu
  simp only [e0, e1, e2]
  rw [row_eq]
  simp only [block2]
  refine congrArg₂ gated ?_ ?_
  · refine Eq.trans ?_ (proj_conv (args m c) (batch t) (token t r) ⟨l, by omega⟩)
    exact congrArg _ (Fin.ext (show 768 + (1024 + l.val) = 1792 + l.val by omega))
  · refine Eq.trans ?_ ((proj_conv (args m c) (batch t) (token t r) ⟨512 + l, by omega⟩).trans ?_)
    · exact congrArg _ (Fin.ext (show 768 + (1536 + l.val) = 1792 + (512 + l.val) by omega))
    · exact congrArg _ (Fin.ext (show 1696 + (512 + l.val) = 2208 + l.val by omega))

/-- A grid point's block of result 3. -/
theorem outs3 (c : Dev nD) (t : Fin cfg0.N) : (outsAt0 m c t).2.2.2.1 = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (iblk m c 0 t) (iblk m c 1 t) (iblk m c 2 t) (iblk m c 3 t) (iblk m c 4 t) (iblk m c 5 t) (iblk m c 6 t) (iblk m c 7 t) (iblk m c 8 t) (iblk m c 9 t) := by
  unfold outsAt0
  dsimp only
/-- The kernel's result array 3. -/
theorem final_q (c : Dev nD) : (dats m 0 c).arrAt 13 cfg0.N = resQ (args m c) := by
  refine (dats m 0 c).arrAt_eq_of_covers 13 _ (by decide +kernel) fun t hf y => ?_
  blk_simp
  rw [after0_13]
  have hy := block_idx' y
  obtain ⟨r, hr⟩ : ∃ r : Fin 256, r = y 1 := ⟨_, rfl⟩
  obtain ⟨l, hl⟩ : ∃ l : Fin 1024, l = y 2 := ⟨_, rfl⟩
  have key := out_q c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (iblk m c 0 t) (iblk m c 1 t) (iblk m c 2 t) (iblk m c 3 t) (iblk m c 4 t) (iblk m c 5 t) (iblk m c 6 t) (iblk m c 7 t) (iblk m c 8 t) (iblk m c 9 t) r l
  have e0 : (win0_13.blk t).view.emb y 0 = batch t := by
    have : (y 0 : ℕ) = 0 := congrArg Fin.val (Subsingleton.elim (α := Fin 1) (y 0) 0)
    refine Fin.ext ?_
    blk_simp [index13] <;> simp [batch] <;> omega
  have e1 : (win0_13.blk t).view.emb y 1 = token t r := by
    rw [hr]
    refine Fin.ext ?_
    blk_simp [index13] <;> simp [token] <;> omega
  have e2 : (win0_13.blk t).view.emb y 2 = l := by
    rw [hl]
    refine Fin.ext ?_
    blk_simp [index13] <;> simp <;> omega
  have hy' : y = ix3 0 r l := by
    rw [hr, hl]
    exact hy
  rw [outs3]
  refine (congrArg (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (iblk m c 0 t) (iblk m c 1 t) (iblk m c 2 t) (iblk m c 3 t) (iblk m c 4 t) (iblk m c 5 t) (iblk m c 6 t) (iblk m c 7 t) (iblk m c 8 t) (iblk m c 9 t)) hy').trans ?_
  refine key.trans ?_
  unfold resQ
  simp only [e0, e1, e2]
  rw [row_eq]
  simp only [block2, block3, block4, block7, block9C, block9Up, block9Down]
  rw [rowQ_eq]
  simp only [lanesQ]
  exact head_eq (args m c) (token t r) (headQ (args m c) (batch t) (token t r) (hd l)) (fun j => (args m c).qg (ix2 3 j)) (ln l)

/-- A grid point's block of result 4. -/
theorem outs4 (c : Dev nD) (t : Fin cfg0.N) : (outsAt0 m c t).2.2.2.2.1 = out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (iblk m c 0 t) (iblk m c 1 t) (iblk m c 2 t) (iblk m c 3 t) (iblk m c 4 t) (iblk m c 5 t) (iblk m c 6 t) (iblk m c 7 t) (iblk m c 8 t) (iblk m c 9 t) := by
  unfold outsAt0
  dsimp only
/-- The kernel's result array 4. -/
theorem final_k (c : Dev nD) : (dats m 0 c).arrAt 14 cfg0.N = resK (args m c) := by
  refine (dats m 0 c).arrAt_eq_of_covers 14 _ (by decide +kernel) fun t hf y => ?_
  blk_simp
  rw [after0_14]
  have hy := block_idx' y
  obtain ⟨r, hr⟩ : ∃ r : Fin 256, r = y 1 := ⟨_, rfl⟩
  obtain ⟨l, hl⟩ : ∃ l : Fin 1024, l = y 2 := ⟨_, rfl⟩
  have key := out_k c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (iblk m c 0 t) (iblk m c 1 t) (iblk m c 2 t) (iblk m c 3 t) (iblk m c 4 t) (iblk m c 5 t) (iblk m c 6 t) (iblk m c 7 t) (iblk m c 8 t) (iblk m c 9 t) r l
  have e0 : (win0_14.blk t).view.emb y 0 = batch t := by
    have : (y 0 : ℕ) = 0 := congrArg Fin.val (Subsingleton.elim (α := Fin 1) (y 0) 0)
    refine Fin.ext ?_
    blk_simp [index14] <;> simp [batch] <;> omega
  have e1 : (win0_14.blk t).view.emb y 1 = token t r := by
    rw [hr]
    refine Fin.ext ?_
    blk_simp [index14] <;> simp [token] <;> omega
  have e2 : (win0_14.blk t).view.emb y 2 = l := by
    rw [hl]
    refine Fin.ext ?_
    blk_simp [index14] <;> simp <;> omega
  have hy' : y = ix3 0 r l := by
    rw [hr, hl]
    exact hy
  rw [outs4]
  refine (congrArg (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (iblk m c 0 t) (iblk m c 1 t) (iblk m c 2 t) (iblk m c 3 t) (iblk m c 4 t) (iblk m c 5 t) (iblk m c 6 t) (iblk m c 7 t) (iblk m c 8 t) (iblk m c 9 t)) hy').trans ?_
  refine key.trans ?_
  unfold resK
  simp only [e0, e1, e2]
  rw [row_eq]
  simp only [block2, block5, block6, block8, block9C, block9Up, block9Down]
  rw [rowKV_eq]
  simp only [lanesK]
  exact head_eq (args m c) (token t r) (headK (args m c) (batch t) (token t r) (hd l)) (fun j => (args m c).kg (ix2 3 j)) (ln l)

/-- A grid point's block of result 5. -/
theorem outs5 (c : Dev nD) (t : Fin cfg0.N) : (outsAt0 m c t).2.2.2.2.2 = out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (iblk m c 0 t) (iblk m c 1 t) (iblk m c 2 t) (iblk m c 3 t) (iblk m c 4 t) (iblk m c 5 t) (iblk m c 6 t) (iblk m c 7 t) (iblk m c 8 t) (iblk m c 9 t) := by
  unfold outsAt0
  dsimp only
/-- The kernel's result array 5. -/
theorem final_v (c : Dev nD) : (dats m 0 c).arrAt 15 cfg0.N = resV (args m c) := by
  refine (dats m 0 c).arrAt_eq_of_covers 15 _ (by decide +kernel) fun t hf y => ?_
  blk_simp
  rw [after0_15]
  have hy := block_idx' y
  obtain ⟨r, hr⟩ : ∃ r : Fin 256, r = y 1 := ⟨_, rfl⟩
  obtain ⟨l, hl⟩ : ∃ l : Fin 1024, l = y 2 := ⟨_, rfl⟩
  have key := out_v c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (iblk m c 0 t) (iblk m c 1 t) (iblk m c 2 t) (iblk m c 3 t) (iblk m c 4 t) (iblk m c 5 t) (iblk m c 6 t) (iblk m c 7 t) (iblk m c 8 t) (iblk m c 9 t) r l
  have e0 : (win0_15.blk t).view.emb y 0 = batch t := by
    have : (y 0 : ℕ) = 0 := congrArg Fin.val (Subsingleton.elim (α := Fin 1) (y 0) 0)
    refine Fin.ext ?_
    blk_simp [index15] <;> simp [batch] <;> omega
  have e1 : (win0_15.blk t).view.emb y 1 = token t r := by
    rw [hr]
    refine Fin.ext ?_
    blk_simp [index15] <;> simp [token] <;> omega
  have e2 : (win0_15.blk t).view.emb y 2 = l := by
    rw [hl]
    refine Fin.ext ?_
    blk_simp [index15] <;> simp <;> omega
  have hy' : y = ix3 0 r l := by
    rw [hr, hl]
    exact hy
  rw [outs5]
  refine (congrArg (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t)
    (iblk m c 0 t) (iblk m c 1 t) (iblk m c 2 t) (iblk m c 3 t) (iblk m c 4 t) (iblk m c 5 t) (iblk m c 6 t) (iblk m c 7 t) (iblk m c 8 t) (iblk m c 9 t)) hy').trans ?_
  refine key.trans ?_
  unfold resV
  simp only [e0, e1, e2]
  rw [row_eq]
  simp only [block2, block5, block6]
  rw [rowKV_eq]
  exact lanesV (args m c) (batch t) (token t r) (hd l) (ln l)

end Cert.Kernel3Ideal.Inproj

end
-- ==== Proof.InprojRef.lean ====
/- The input projection's reference at an index: the same rows as the kernel's. -/
module

public import proofs.«01_k».proof.Proof.InprojSpec
public import proofs.«01_k».proof.Proof.MergeRef
public import proofs.«01_k».proof.Proof.Gen.Reference3Ideal.Read
public import Idealize.ShloMosaic.Lib.IdealHost
public import Idealize.ShloMosaic.Lib.Pointwise

@[expose] public section

set_option maxRecDepth 16384

noncomputable section

namespace Cert.Reference3Ideal.Inproj

open Cert.Reference3Ideal Cert.Reference3Ideal.Gen Cert.Reference3Ideal.Read Cert.Merge Cert.Inproj Idealize.ShloMosaic
open Cert.Reference2Ideal.Merge (modulated_host gate_host)

/-- The host's normalized row: a quotient by the number of lanes is a product with its inverse. -/
theorem normed_host {n : ℕ} (d : BitVec 32) (y : ℝ) (hy : y ≠ 0) (e : Ideal.ofBits .f32 d = (y : EReal)) (f g : Fin n → EReal) (l : Fin n) :
    f l * Ideal.rsqrt (Ideal.div (Ideal.ofBits .f32 0x00000000#32 + ∑ k, f k * f k) (Ideal.ofBits .f32 d) + Ideal.ofBits .f32 0x358637BD#32) * g l
      = normed ((1 / y : ℝ) : EReal) f g l := by
  rw [Ideal.ofBits_zero_f32, zero_add, e, Ideal.div_coe hy]
  rfl

variable (A : Args)

/-- A batch row's modulations of the last layer. -/
theorem mods_at (i : S4x1x6144.Idx) : val_main_v2 (F := Ideal) A.md i = A.md (ix3 3 ⟨(i 0).val, by have : (i 0).val < 4 := (i 0).isLt; omega⟩ (i 2)) := by
  have h0 : (i 0 : ℕ) < 4 := (i 0).isLt
  have h2 : (i 2 : ℕ) < 6144 := (i 2).isLt
  rw [val_main_v2_apply, val_main_v1_apply, val_main_v0_apply]
  refine congrArg A.md (funext fun a => Fin.ext ?_)
  match a with
  | ⟨0, _⟩ => rfl
  | ⟨1, _⟩ => show ((i 0).val * 6144 + (i 2).val) / 6144 % 4 = (i 0).val; omega
  | ⟨2, _⟩ => show ((i 0).val * 6144 + (i 2).val) % 6144 = (i 2).val; omega
/-- The context's modulations of the last layer. -/
theorem ctx_at (i : S6144.Idx) : val_main_v10 (F := Ideal) A.md i = A.md (ix3 3 4 (i 0)) := by
  have h0 : (i 0 : ℕ) < 6144 := (i 0).isLt
  rw [val_main_v10_apply, val_main_v9_apply]
  refine congrArg A.md (funext fun a => Fin.ext ?_)
  match a with
  | ⟨0, _⟩ => rfl
  | ⟨1, _⟩ => rfl
  | ⟨2, _⟩ => show (i 0).val % 6144 = (i 0).val; omega

/-- Part 0 of a batch row's modulations. -/
theorem part0_at (i : S4x1x1024.Idx) : val_main_v3 (F := Ideal) A.md i
    = part (fun k => A.md (ix3 3 ⟨(i 0).val, by have : (i 0).val < 4 := (i 0).isLt; omega⟩ k)) 0 (i 2) := by
  rw [val_main_v3_apply, mods_at]
  refine congrArg (fun k : Fin 6144 => A.md (ix3 3 ⟨(i 0).val, _⟩ k)) (Fin.ext ?_)
  show (i 2).val = 1024 * 0 + (i 2).val
  omega
/-- Part 0 of the context's modulations. -/
theorem ctx0_at (i : S1024.Idx) : val_main_v11 (F := Ideal) A.md i = part (fun k => A.md (ix3 3 4 k)) 0 (i 0) := by
  rw [val_main_v11_apply, ctx_at]
  refine congrArg (fun k : Fin 6144 => A.md (ix3 3 4 k)) (Fin.ext ?_)
  show (i 0).val = 1024 * 0 + (i 0).val
  omega
/-- Part 1 of a batch row's modulations. -/
theorem part1_at (i : S4x1x1024.Idx) : val_main_v4 (F := Ideal) A.md i
    = part (fun k => A.md (ix3 3 ⟨(i 0).val, by have : (i 0).val < 4 := (i 0).isLt; omega⟩ k)) 1 (i 2) := by
  rw [val_main_v4_apply, mods_at]
  refine congrArg (fun k : Fin 6144 => A.md (ix3 3 ⟨(i 0).val, _⟩ k)) (Fin.ext ?_)
  show 1024 + (i 2).val = 1024 * 1 + (i 2).val
  omega
/-- Part 1 of the context's modulations. -/
theorem ctx1_at (i : S1024.Idx) : val_main_v12 (F := Ideal) A.md i = part (fun k => A.md (ix3 3 4 k)) 1 (i 0) := by
  rw [val_main_v12_apply, ctx_at]
  refine congrArg (fun k : Fin 6144 => A.md (ix3 3 4 k)) (Fin.ext ?_)
  show 1024 + (i 0).val = 1024 * 1 + (i 0).val
  omega

/-- The stream's latents. -/
theorem latents_at (i : S4x8192x1024.Idx) : val_main_v17 (F := Ideal) A.x i
    = A.x (ix3 (i 0) ⟨256 + (i 1).val, by have : (i 1).val < 8192 := (i 1).isLt; omega⟩ (i 2)) := by
  rw [val_main_v17_apply]
  refine congrArg A.x (funext fun a => ?_)
  match a with
  | ⟨0, _⟩ => rfl
  | ⟨1, _⟩ => rfl
  | ⟨2, _⟩ => rfl
/-- The stream's context. -/
theorem context_at (i : S4x256x1024.Idx) : val_main_v34 (F := Ideal) A.x i
    = A.x (ix3 (i 0) ⟨(i 1).val, by have : (i 1).val < 256 := (i 1).isLt; omega⟩ (i 2)) := by
  rw [val_main_v34_apply]
  refine congrArg A.x (funext fun a => ?_)
  match a with
  | ⟨0, _⟩ => rfl
  | ⟨1, _⟩ => rfl
  | ⟨2, _⟩ => rfl

/-- A latent, modulated. -/
theorem latent_row (i : S4x8192x1024.Idx) : val_main_v33 (F := Ideal) A.x A.md i
    = stream A (i 0) ⟨256 + (i 1).val, by have : (i 1).val < 8192 := (i 1).isLt; omega⟩ (i 2) := by
  rw [val_main_v33_apply, val_main_v31_apply, val_main_v32_apply, val_main_v30_apply, val_main_v29_apply, val_main_v28_apply, val_main_v27_apply,
    val_main_v26_apply, val_main_v25_apply, val_main_v24_apply, val_main_v23_apply, val_main_v22_apply, val_main_v21_apply,
    val_main_v20_apply, val_main_v19_apply, part0_at, part1_at]
  simp only [val_main_v18_apply, latents_at]
  unfold stream modRow
  rw [if_neg (show ¬ 256 + (i 1).val < 256 by omega)]
  exact modulated_host (fun k => A.x (ix3 (i 0) ⟨256 + (i 1).val, by have : (i 1).val < 8192 := (i 1).isLt; omega⟩ k))
    (part (fun k => A.md (ix3 3 ⟨(i 0).val, by have : (i 0).val < 4 := (i 0).isLt; omega⟩ k)) 0)
    (part (fun k => A.md (ix3 3 ⟨(i 0).val, by have : (i 0).val < 4 := (i 0).isLt; omega⟩ k)) 1) (i 2)
/-- A token of the context, modulated. -/
theorem context_row (i : S4x256x1024.Idx) : val_main_v52 (F := Ideal) A.x A.md i
    = stream A (i 0) ⟨(i 1).val, by have : (i 1).val < 256 := (i 1).isLt; omega⟩ (i 2) := by
  have h1 : (i 1).val < 256 := (i 1).isLt
  rw [val_main_v52_apply, val_main_v51_apply, val_main_v50_apply, val_main_v49_apply, val_main_v48_apply, val_main_v47_apply, val_main_v46_apply,
    val_main_v45_apply, val_main_v44_apply, val_main_v43_apply, val_main_v42_apply, val_main_v41_apply, val_main_v40_apply, val_main_v39_apply,
    val_main_v38_apply, val_main_v37_apply, val_main_v36_apply, ctx0_at, ctx1_at]
  simp only [val_main_v35_apply, context_at]
  unfold stream modRow
  rw [if_pos h1]
  exact modulated_host (fun k => A.x (ix3 (i 0) ⟨(i 1).val, by omega⟩ k)) (part (fun k => A.md (ix3 3 4 k)) 0)
    (part (fun k => A.md (ix3 3 4 k)) 1) (i 2)
/-- A token, modulated. -/
theorem row_at (i : S4x8448x1024.Idx) : val_main_v53 (F := Ideal) A.x A.md i = stream A (i 0) (i 1) (i 2) := by
  obtain ⟨b, t, k, rfl⟩ : ∃ (b : Fin 4) (t : Fin 8448) (k : Fin 1024), i = ix3 b t k := ⟨i 0, i 1, i 2, eq_ix3 i⟩
  have hc := context_row A
  have hl := latent_row A
  unfold val_main_v53
  generalize val_main_v52 (F := Ideal) A.x A.md = p at hc ⊢
  generalize val_main_v33 (F := Ideal) A.x A.md = q at hl ⊢
  pointwise []
  split
  · exact hc _
  · refine (hl _).trans (congrArg (fun z => stream A b z k) (Fin.ext ?_))
    show 256 + (t.val - 256) = t.val
    omega

/-- The last layer's input projection. -/
theorem weights55_at (i : S1024x5792.Idx) : val_main_v55 (F := Ideal) A.win i = A.win (ix3 3 (i 0) (i 1)) := by
  have h0 : (i 0 : ℕ) < 1024 := (i 0).isLt
  have h1 : (i 1 : ℕ) < 5792 := (i 1).isLt
  rw [val_main_v55_apply, val_main_v54_apply]
  refine congrArg A.win (funext fun a => Fin.ext ?_)
  match a with
  | ⟨0, _⟩ => rfl
  | ⟨1, _⟩ => show ((i 0).val * 5792 + (i 1).val) / 5792 % 1024 = (i 0).val; omega
  | ⟨2, _⟩ => show ((i 0).val * 5792 + (i 1).val) % 5792 = (i 1).val; omega
/-- A token's projection. -/
theorem proj_at (i : S4x8448x5792.Idx) : val_main_v56 (F := Ideal) A.x A.md A.win i = proj A (i 0) (i 1) (i 2) := by
  rw [val_main_v56_apply]
  simp only [row_at, weights55_at]
  rfl
/-- The recurrence's input. -/
theorem lanes57_at (i : S4x8448x512.Idx) : val_main_v57 (F := Ideal) A.x A.md A.win i
    = proj A (i 0) (i 1) ⟨(i 2).val, by have : (i 2).val < 512 := (i 2).isLt; omega⟩ := by
  rw [val_main_v57_apply, proj_at]
  rfl
/-- The recurrence's gate. -/
theorem lanes58_at (i : S4x8448x512.Idx) : val_main_v58 (F := Ideal) A.x A.md A.win i
    = proj A (i 0) (i 1) ⟨512 + (i 2).val, by have : (i 2).val < 512 := (i 2).isLt; omega⟩ := by
  rw [val_main_v58_apply, proj_at]
  rfl
/-- The queries' lanes. -/
theorem lanes59_at (i : S4x8448x384.Idx) : val_main_v59 (F := Ideal) A.x A.md A.win i
    = proj A (i 0) (i 1) ⟨1024 + (i 2).val, by have : (i 2).val < 384 := (i 2).isLt; omega⟩ := by
  rw [val_main_v59_apply, proj_at]
  rfl
/-- The keys' and values' lanes. -/
theorem lanes60_at (i : S4x8448x256.Idx) : val_main_v60 (F := Ideal) A.x A.md A.win i
    = proj A (i 0) (i 1) ⟨1408 + (i 2).val, by have : (i 2).val < 256 := (i 2).isLt; omega⟩ := by
  rw [val_main_v60_apply, proj_at]
  rfl
/-- The shared lanes. -/
theorem lanes61_at (i : S4x8448x32.Idx) : val_main_v61 (F := Ideal) A.x A.md A.win i
    = proj A (i 0) (i 1) ⟨1664 + (i 2).val, by have : (i 2).val < 32 := (i 2).isLt; omega⟩ := by
  rw [val_main_v61_apply, proj_at]
  rfl
/-- The convolution's lanes. -/
theorem lanes62_at (i : S4x8448x1024.Idx) : val_main_v62 (F := Ideal) A.x A.md A.win i
    = proj A (i 0) (i 1) ⟨1696 + (i 2).val, by have : (i 2).val < 1024 := (i 2).isLt; omega⟩ := by
  rw [val_main_v62_apply, proj_at]
  rfl
/-- The convolution's values. -/
theorem lanes64_at (i : S4x8448x512.Idx) : val_main_v64 (F := Ideal) A.x A.md A.win i
    = proj A (i 0) (i 1) ⟨1696 + (i 2).val, by have : (i 2).val < 512 := (i 2).isLt; omega⟩ := by
  rw [val_main_v64_apply, lanes62_at]
  rfl
/-- The convolution's gates. -/
theorem lanes65_at (i : S4x8448x512.Idx) : val_main_v65 (F := Ideal) A.x A.md A.win i
    = proj A (i 0) (i 1) ⟨2208 + (i 2).val, by have : (i 2).val < 512 := (i 2).isLt; omega⟩ := by
  rw [val_main_v65_apply, lanes62_at]
  refine congrArg (proj A (i 0) (i 1)) (Fin.ext ?_)
  show 1696 + (512 + (i 2).val) = 2208 + (i 2).val
  omega

/-- The reference's first result. -/
theorem lx_eq : val_main_v57 (F := Ideal) A.x A.md A.win = resLx A := funext fun i => lanes57_at A i
/-- The reference's second result. -/
theorem lg_eq : val_main_v58 (F := Ideal) A.x A.md A.win = resLg A := funext fun i => lanes58_at A i
/-- The reference's third result. -/
theorem glu_eq : val_main_v72 (F := Ideal) A.x A.md A.win = resGlu A := by
  funext i
  rw [val_main_v72_apply, val_main_v71_apply, val_main_v70_apply, val_main_v69_apply, val_main_v68_apply, val_main_v67_apply,
    val_main_v66_apply, lanes64_at, lanes65_at]
  unfold resGlu gated
  exact congrArg _ (gate_host _)

/-- The queries' inner gain. -/
theorem gain84_at (i : S384.Idx) : val_main_v84 (F := Ideal) A.qn i = A.qn (ix2 3 (i 0)) := by
  have h0 : (i 0 : ℕ) < 384 := (i 0).isLt
  rw [val_main_v84_apply, val_main_v83_apply]
  refine congrArg A.qn (funext fun a => Fin.ext ?_)
  match a with
  | ⟨0, _⟩ => rfl
  | ⟨1, _⟩ => show (i 0).val % 384 = (i 0).val; omega
/-- The keys' and values' inner gain. -/
theorem gain103_at (i : S256.Idx) : val_main_v103 (F := Ideal) A.kvn i = A.kvn (ix2 3 (i 0)) := by
  have h0 : (i 0 : ℕ) < 256 := (i 0).isLt
  rw [val_main_v103_apply, val_main_v102_apply]
  refine congrArg A.kvn (funext fun a => Fin.ext ?_)
  match a with
  | ⟨0, _⟩ => rfl
  | ⟨1, _⟩ => show (i 0).val % 256 = (i 0).val; omega
/-- The query heads' gain. -/
theorem gain127_at (i : S96.Idx) : val_main_v127 (F := Ideal) A.qg i = A.qg (ix2 3 (i 0)) := by
  have h0 : (i 0 : ℕ) < 96 := (i 0).isLt
  rw [val_main_v127_apply, val_main_v126_apply]
  refine congrArg A.qg (funext fun a => Fin.ext ?_)
  match a with
  | ⟨0, _⟩ => rfl
  | ⟨1, _⟩ => show (i 0).val % 96 = (i 0).val; omega
/-- The key heads' gain. -/
theorem gain163_at (i : S96.Idx) : val_main_v163 (F := Ideal) A.kg i = A.kg (ix2 3 (i 0)) := by
  have h0 : (i 0 : ℕ) < 96 := (i 0).isLt
  rw [val_main_v163_apply, val_main_v162_apply]
  refine congrArg A.kg (funext fun a => Fin.ext ?_)
  match a with
  | ⟨0, _⟩ => rfl
  | ⟨1, _⟩ => show (i 0).val % 96 = (i 0).val; omega
/-- The queries' inner row. -/
theorem innerQ_at (i : S4x8448x384.Idx) : val_main_v87 (F := Ideal) A.x A.md A.win A.qn i = innerQ A (i 0) (i 1) (i 2) := by
  rw [val_main_v87_apply, val_main_v86_apply, val_main_v85_apply, val_main_v82_apply, val_main_v81_apply, val_main_v80_apply, val_main_v79_apply, val_main_v78_apply, val_main_v77_apply, val_main_v76_apply, val_main_v75_apply, val_main_v74_apply, gain84_at]
  simp only [val_main_v73_apply, lanes59_at]
  exact normed_host 0x43C00000#32 384 (by norm_num) ofBits_384 (fun k : Fin 384 => proj A (i 0) (i 1) ⟨1024 + k, by omega⟩) (fun k => A.qn (ix2 3 k)) (i 2)
/-- The keys' and values' inner row. -/
theorem innerKV_at (i : S4x8448x256.Idx) : val_main_v106 (F := Ideal) A.x A.md A.win A.kvn i = innerKV A (i 0) (i 1) (i 2) := by
  rw [val_main_v106_apply, val_main_v105_apply, val_main_v104_apply, val_main_v101_apply, val_main_v100_apply, val_main_v99_apply, val_main_v98_apply, val_main_v97_apply, val_main_v96_apply, val_main_v95_apply, val_main_v94_apply, val_main_v93_apply, gain103_at]
  simp only [val_main_v92_apply, lanes60_at]
  exact normed_host 0x43800000#32 256 (by norm_num) ofBits_256 (fun k : Fin 256 => proj A (i 0) (i 1) ⟨1408 + k, by omega⟩) (fun k => A.kvn (ix2 3 k)) (i 2)
/-- The last layer's queries' weights. -/
theorem weights89_at (i : S384x768.Idx) : val_main_v89 (F := Ideal) A.wuq i = A.wuq (ix3 3 (i 0) (i 1)) := by
  have h0 : (i 0 : ℕ) < 384 := (i 0).isLt
  have h1 : (i 1 : ℕ) < 768 := (i 1).isLt
  rw [val_main_v89_apply, val_main_v88_apply]
  refine congrArg A.wuq (funext fun a => Fin.ext ?_)
  match a with
  | ⟨0, _⟩ => rfl
  | ⟨1, _⟩ => show ((i 0).val * 768 + (i 1).val) / 768 % 384 = (i 0).val; omega
  | ⟨2, _⟩ => show ((i 0).val * 768 + (i 1).val) % 768 = (i 1).val; omega
/-- The last layer's keys' and values' weights. -/
theorem weights108_at (i : S256x1024.Idx) : val_main_v108 (F := Ideal) A.wukv i = A.wukv (ix3 3 (i 0) (i 1)) := by
  have h0 : (i 0 : ℕ) < 256 := (i 0).isLt
  have h1 : (i 1 : ℕ) < 1024 := (i 1).isLt
  rw [val_main_v108_apply, val_main_v107_apply]
  refine congrArg A.wukv (funext fun a => Fin.ext ?_)
  match a with
  | ⟨0, _⟩ => rfl
  | ⟨1, _⟩ => show ((i 0).val * 1024 + (i 1).val) / 1024 % 256 = (i 0).val; omega
  | ⟨2, _⟩ => show ((i 0).val * 1024 + (i 1).val) % 1024 = (i 1).val; omega
/-- A query head. -/
theorem headQ_at (i : S4x8448x8x96.Idx) : val_main_v91 (F := Ideal) A.x A.md A.win A.qn A.wuq i = headQ A (i 0) (i 1) (i 2) (i 3) := by
  obtain ⟨b, t, h, j, rfl⟩ : ∃ (b : Fin 4) (t : Fin 8448) (h : Fin 8) (j : Fin 96), i = ix4 b t h j := ⟨i 0, i 1, i 2, i 3, eq_ix4 i⟩
  have e : idx_main_v91 (ix4 b t h j) = ix3 b t (⟨96 * h + j, by omega⟩ : Fin 768) := by
    funext a
    refine Fin.ext ?_
    match a with
    | ⟨0, _⟩ => show (((b.val * 8448 + t.val) * 8 + h.val) * 96 + j.val) / 6488064 = b.val; omega
    | ⟨1, _⟩ => show (((b.val * 8448 + t.val) * 8 + h.val) * 96 + j.val) / 768 % 8448 = t.val; omega
    | ⟨2, _⟩ => show (((b.val * 8448 + t.val) * 8 + h.val) * 96 + j.val) % 768 = 96 * h.val + j.val; omega
  rw [val_main_v91_apply, e, val_main_v90_apply]
  simp only [innerQ_at, weights89_at]
  rfl
/-- A head of keys and values. -/
theorem headKV_at (i : S4x8448x8x128.Idx) : val_main_v110 (F := Ideal) A.x A.md A.win A.kvn A.wukv i
    = product (innerKV A (i 0) (i 1)) (fun i j => A.wukv (ix3 3 i j)) ⟨128 * (i 2).val + (i 3).val, by
        have h2 : (i 2 : ℕ) < 8 := (i 2).isLt
        have h3 : (i 3 : ℕ) < 128 := (i 3).isLt
        omega⟩ := by
  obtain ⟨b, t, h, j, rfl⟩ : ∃ (b : Fin 4) (t : Fin 8448) (h : Fin 8) (j : Fin 128), i = ix4 b t h j := ⟨i 0, i 1, i 2, i 3, eq_ix4 i⟩
  have e : idx_main_v110 (ix4 b t h j) = ix3 b t (⟨128 * h + j, by omega⟩ : Fin 1024) := by
    funext a
    refine Fin.ext ?_
    match a with
    | ⟨0, _⟩ => show (((b.val * 8448 + t.val) * 8 + h.val) * 128 + j.val) / 8650752 = b.val; omega
    | ⟨1, _⟩ => show (((b.val * 8448 + t.val) * 8 + h.val) * 128 + j.val) / 1024 % 8448 = t.val; omega
    | ⟨2, _⟩ => show (((b.val * 8448 + t.val) * 8 + h.val) * 128 + j.val) % 1024 = 128 * h.val + j.val; omega
  rw [val_main_v110_apply, e, val_main_v109_apply]
  simp only [innerKV_at, weights108_at]
  rfl
/-- A key head. -/
theorem headK_at (i : S4x8448x8x96.Idx) : val_main_v115 (F := Ideal) A.x A.md A.win A.kvn A.wukv i = headK A (i 0) (i 1) (i 2) (i 3) := by
  obtain ⟨b, t, h, j, rfl⟩ : ∃ (b : Fin 4) (t : Fin 8448) (h : Fin 8) (j : Fin 96), i = ix4 b t h j := ⟨i 0, i 1, i 2, i 3, eq_ix4 i⟩
  have hn : ∀ j : Fin 64, val_main_v111 (F := Ideal) A.x A.md A.win A.kvn A.wukv (ix4 b t h j)
      = product (innerKV A b t) (fun i j => A.wukv (ix3 3 i j)) ⟨128 * h + j, by omega⟩ := fun j => by
    rw [val_main_v111_apply, headKV_at]
    rfl
  have hr : ∀ j : Fin 32, val_main_v114 (F := Ideal) A.x A.md A.win (ix4 b t h j) = proj A b t ⟨1664 + j, by omega⟩ := fun j => by
    rw [val_main_v114_apply, val_main_v113_apply, lanes61_at]
    rfl
  unfold val_main_v115
  generalize val_main_v111 (F := Ideal) A.x A.md A.win A.kvn A.wukv = p at hn ⊢
  generalize val_main_v114 (F := Ideal) A.x A.md A.win = q at hr ⊢
  pointwise []
  unfold headK
  by_cases hj : j.val < 64
  · refine (dif_pos hj).trans ((hn ⟨j, hj⟩).trans ?_)
    rw [dif_pos hj]
  · refine (dif_neg hj).trans ((hr ⟨j.val - 64, by omega⟩).trans ?_)
    rw [dif_neg hj]

/-- A head, normalized. -/
abbrev rowQ (b : Fin 4) (t : Fin 8448) (h : Fin 8) : Fin 96 → EReal :=
  normed ((1 / 96 : ℝ) : EReal) (headQ A b t h) fun j => A.qg (ix2 3 j)
/-- A head's sum of squares. -/
theorem sumQ_at (q : Fin 4 → Fin 8448 → Fin 8 → Fin 96 → EReal)
    (hx : ∀ i, val_main_v91 (F := Ideal) A.x A.md A.win A.qn A.wuq i = q (i 0) (i 1) (i 2) (i 3)) (i : S4x8448x8.Idx) :
    val_main_v117 (F := Ideal) A.x A.md A.win A.qn A.wuq i
      = Ideal.ofBits .f32 0x00000000#32 + ∑ k : Fin 96, q (i 0) (i 1) (i 2) k * q (i 0) (i 1) (i 2) k := by
  have hs : ∀ j, val_main_v116 (F := Ideal) A.x A.md A.win A.qn A.wuq j = q (j 0) (j 1) (j 2) (j 3) * q (j 0) (j 1) (j 2) (j 3) := fun j => by
    rw [val_main_v116_apply, hx]
    rfl
  rw [val_main_v117_apply]
  generalize val_main_v116 (F := Ideal) A.x A.md A.win A.qn A.wuq = y at hs ⊢
  exact congrArg₂ (· + ·) rfl (Finset.sum_congr rfl fun k _ => hs _)
/-- A head's inverse root of its mean square. -/
theorem rootQ_at (q : Fin 4 → Fin 8448 → Fin 8 → Fin 96 → EReal)
    (hx : ∀ i, val_main_v91 (F := Ideal) A.x A.md A.win A.qn A.wuq i = q (i 0) (i 1) (i 2) (i 3)) (i : S4x8448x8x96.Idx) :
    val_main_v124 (F := Ideal) A.x A.md A.win A.qn A.wuq i
      = Ideal.rsqrt (Ideal.div (Ideal.ofBits .f32 0x00000000#32 + ∑ k : Fin 96, q (i 0) (i 1) (i 2) k * q (i 0) (i 1) (i 2) k)
          (Ideal.ofBits .f32 0x42C00000#32) + Ideal.ofBits .f32 0x358637BD#32) := by
  rw [val_main_v124_apply, val_main_v123_apply, val_main_v122_apply, val_main_v121_apply, val_main_v120_apply, val_main_v119_apply,
    val_main_v118_apply, sumQ_at A q hx]
  rfl
/-- A head's gain. -/
theorem gainQ_at (i : S4x8448x8x96.Idx) : val_main_v129 (F := Ideal) A.qg i = A.qg (ix2 3 (i 3)) := by
  rw [val_main_v129_apply, val_main_v128_apply, gain127_at]
  rfl
/-- A head, normalized. -/
theorem normQ_at (q : Fin 4 → Fin 8448 → Fin 8 → Fin 96 → EReal)
    (hx : ∀ i, val_main_v91 (F := Ideal) A.x A.md A.win A.qn A.wuq i = q (i 0) (i 1) (i 2) (i 3)) (i : S4x8448x8x96.Idx) :
    val_main_v130 (F := Ideal) A.x A.md A.win A.qn A.wuq A.qg i = normed ((1 / 96 : ℝ) : EReal) (q (i 0) (i 1) (i 2)) (fun j => A.qg (ix2 3 j)) (i 3) := by
  rw [val_main_v130_apply, val_main_v125_apply, rootQ_at A q hx, gainQ_at, hx]
  exact normed_host 0x42C00000#32 96 (by norm_num) ofBits_96 (q (i 0) (i 1) (i 2)) (fun k => A.qg (ix2 3 k)) (i 3)
/-- A head, normalized. -/
theorem rowQ_at (i : S4x8448x8x96.Idx) : val_main_v130 (F := Ideal) A.x A.md A.win A.qn A.wuq A.qg i = rowQ A (i 0) (i 1) (i 2) (i 3) :=
  normQ_at A (headQ A) (headQ_at A) i
/-- A latent's first rotary half. -/
theorem lowQ_at (i : S4x8192x8x16.Idx) : val_main_v137 (F := Ideal) A.x A.md A.win A.qn A.wuq A.qg i
    = rowQ A (i 0) ⟨256 + (i 1).val, by have : (i 1).val < 8192 := (i 1).isLt; omega⟩ (i 2) ⟨64 + (i 3).val, by have : (i 3).val < 16 := (i 3).isLt; omega⟩ := by
  rw [val_main_v137_apply, val_main_v134_apply, val_main_v132_apply, rowQ_at]
  rfl
/-- A latent's second rotary half. -/
theorem highQ_at (i : S4x8192x8x16.Idx) : val_main_v138 (F := Ideal) A.x A.md A.win A.qn A.wuq A.qg i
    = rowQ A (i 0) ⟨256 + (i 1).val, by have : (i 1).val < 8192 := (i 1).isLt; omega⟩ (i 2) ⟨80 + (i 3).val, by have : (i 3).val < 16 := (i 3).isLt; omega⟩ := by
  rw [val_main_v138_apply, val_main_v134_apply, val_main_v132_apply, rowQ_at]
  refine congrArg (rowQ A (i 0) ⟨256 + (i 1).val, by have : (i 1).val < 8192 := (i 1).isLt; omega⟩ (i 2)) (Fin.ext ?_)
  show 64 + (16 + (i 3).val) = 80 + (i 3).val
  omega
/-- A latent's first rotary half, turned. -/
theorem turnQ0_at (i : S4x8192x8x16.Idx) : val_main_v143 (F := Ideal) A.x A.md A.win A.qn A.wuq A.qg A.cos A.sin i
    = rowQ A (i 0) ⟨256 + (i 1).val, by have : (i 1).val < 8192 := (i 1).isLt; omega⟩ (i 2) ⟨64 + (i 3).val, by have : (i 3).val < 16 := (i 3).isLt; omega⟩ * A.cos (ix2 (i 1) (i 3))
      - rowQ A (i 0) ⟨256 + (i 1).val, by have : (i 1).val < 8192 := (i 1).isLt; omega⟩ (i 2) ⟨80 + (i 3).val, by have : (i 3).val < 16 := (i 3).isLt; omega⟩ * A.sin (ix2 (i 1) (i 3)) := by
  rw [val_main_v143_apply, val_main_v142_apply, val_main_v141_apply, val_main_v140_apply, val_main_v139_apply, val_main_v136_apply, val_main_v135_apply,
    lowQ_at, highQ_at]
  have e : ∀ z : S8192x16.Idx, z 0 = i 1 → z 1 = i 3 → z = ix2 (i 1) (i 3) := fun z h0 h1 => (eq_ix2 z).trans (congrArg₂ ix2 h0 h1)
  rw [e (idx_main_v135 _) rfl rfl, e (idx_main_v136 _) rfl rfl]
  rfl
/-- A latent's second rotary half, turned. -/
theorem turnQ1_at (i : S4x8192x8x16.Idx) : val_main_v148 (F := Ideal) A.x A.md A.win A.qn A.wuq A.qg A.cos A.sin i
    = rowQ A (i 0) ⟨256 + (i 1).val, by have : (i 1).val < 8192 := (i 1).isLt; omega⟩ (i 2) ⟨64 + (i 3).val, by have : (i 3).val < 16 := (i 3).isLt; omega⟩ * A.sin (ix2 (i 1) (i 3))
      + rowQ A (i 0) ⟨256 + (i 1).val, by have : (i 1).val < 8192 := (i 1).isLt; omega⟩ (i 2) ⟨80 + (i 3).val, by have : (i 3).val < 16 := (i 3).isLt; omega⟩ * A.cos (ix2 (i 1) (i 3)) := by
  rw [val_main_v148_apply, val_main_v147_apply, val_main_v146_apply, val_main_v145_apply, val_main_v144_apply, val_main_v136_apply, val_main_v135_apply,
    lowQ_at, highQ_at]
  have e : ∀ z : S8192x16.Idx, z 0 = i 1 → z 1 = i 3 → z = ix2 (i 1) (i 3) := fun z h0 h1 => (eq_ix2 z).trans (congrArg₂ ix2 h0 h1)
  rw [e (idx_main_v135 _) rfl rfl, e (idx_main_v136 _) rfl rfl]
  rfl
/-- A latent's rotary lanes. -/
theorem ropeQ_at (b : Fin 4) (t : Fin 8192) (h : Fin 8) (j : Fin 32) : val_main_v149 (F := Ideal) A.x A.md A.win A.qn A.wuq A.qg A.cos A.sin (ix4 b t h j)
    = rotated (rowQ A b ⟨256 + t, by omega⟩ h) (fun i => A.cos (ix2 t i)) (fun i => A.sin (ix2 t i)) ⟨64 + j, by omega⟩ := by
  have h0 := turnQ0_at A
  have h1 := turnQ1_at A
  unfold val_main_v149
  generalize val_main_v143 (F := Ideal) A.x A.md A.win A.qn A.wuq A.qg A.cos A.sin = p at h0 ⊢
  generalize val_main_v148 (F := Ideal) A.x A.md A.win A.qn A.wuq A.qg A.cos A.sin = q at h1 ⊢
  pointwise []
  unfold rotated
  rw [dif_neg (show ¬ 64 + j.val < 64 by omega)]
  by_cases hj : j.val < 16
  · refine (dif_pos hj).trans (Eq.trans ?_ (dif_pos (show 64 + j.val < 80 by omega)).symm)
    refine (h0 _).trans ?_
    simp only [show 64 + j.val - 64 = j.val by omega, show 64 + j.val + 16 = 80 + j.val by omega]
    rfl
  · refine (dif_neg hj).trans (Eq.trans ?_ (dif_neg (show ¬ 64 + j.val < 80 by omega)).symm)
    refine (h1 _).trans ?_
    simp only [show 64 + j.val - 80 = j.val - 16 by omega, show 64 + j.val - 16 = 64 + (j.val - 16) by omega]
    refine congrArg₂ (· + ·) rfl (congrArg₂ (· * ·) (congrArg _ (Fin.ext ?_)) rfl)
    show 80 + (j.val - 16) = 64 + j.val
    omega
/-- A latent's head at its position. -/
theorem turnedQ_at (b : Fin 4) (t : Fin 8192) (h : Fin 8) (j : Fin 96) : val_main_v150 (F := Ideal) A.x A.md A.win A.qn A.wuq A.qg A.cos A.sin (ix4 b t h j)
    = rotated (rowQ A b ⟨256 + t, by omega⟩ h) (fun i => A.cos (ix2 t i)) (fun i => A.sin (ix2 t i)) j := by
  have h0 : ∀ j : Fin 64, val_main_v133 (F := Ideal) A.x A.md A.win A.qn A.wuq A.qg (ix4 b t h j) = rowQ A b ⟨256 + t, by omega⟩ h ⟨j, by omega⟩ := fun j => by
    rw [val_main_v133_apply, val_main_v132_apply, rowQ_at]
    rfl
  have h1 := ropeQ_at A b t h
  unfold val_main_v150
  generalize val_main_v133 (F := Ideal) A.x A.md A.win A.qn A.wuq A.qg = p at h0 ⊢
  generalize val_main_v149 (F := Ideal) A.x A.md A.win A.qn A.wuq A.qg A.cos A.sin = q at h1 ⊢
  pointwise []
  by_cases hj : j.val < 64
  · refine (dif_pos hj).trans ((h0 ⟨j, hj⟩).trans ?_)
    unfold rotated
    rw [dif_pos hj]
  · refine (dif_neg hj).trans ((h1 ⟨j.val - 64, by omega⟩).trans (congrArg _ (Fin.ext ?_)))
    show 64 + (j.val - 64) = j.val
    omega
/-- A head at its token's position. -/
theorem placedQ_at (b : Fin 4) (t : Fin 8448) (h : Fin 8) (j : Fin 96) : val_main_v151 (F := Ideal) A.x A.md A.win A.qn A.wuq A.qg A.cos A.sin (ix4 b t h j)
    = placed A t (rowQ A b t h) j := by
  have h0 : ∀ t : Fin 256, val_main_v131 (F := Ideal) A.x A.md A.win A.qn A.wuq A.qg (ix4 b t h j) = rowQ A b ⟨t, by omega⟩ h j := fun t => by
    rw [val_main_v131_apply, rowQ_at]
    rfl
  have h1 := fun t => turnedQ_at A b t h j
  unfold val_main_v151
  generalize val_main_v131 (F := Ideal) A.x A.md A.win A.qn A.wuq A.qg = p at h0 ⊢
  generalize val_main_v150 (F := Ideal) A.x A.md A.win A.qn A.wuq A.qg A.cos A.sin = q at h1 ⊢
  pointwise []
  unfold placed
  by_cases ht : t.val < 256
  · refine (dif_pos ht).trans ((h0 ⟨t, ht⟩).trans ?_)
    rw [dif_pos ht]
  · refine (dif_neg ht).trans ((h1 ⟨t.val - 256, by omega⟩).trans ?_)
    rw [dif_neg ht]
    refine congrArg (fun z => rotated (rowQ A b z h) _ _ j) (Fin.ext ?_)
    show 256 + (t.val - 256) = t.val
    omega
/-- A head, normalized. -/
abbrev rowK (b : Fin 4) (t : Fin 8448) (h : Fin 8) : Fin 96 → EReal :=
  normed ((1 / 96 : ℝ) : EReal) (headK A b t h) fun j => A.kg (ix2 3 j)
/-- A head's sum of squares. -/
theorem sumK_at (q : Fin 4 → Fin 8448 → Fin 8 → Fin 96 → EReal)
    (hx : ∀ i, val_main_v115 (F := Ideal) A.x A.md A.win A.kvn A.wukv i = q (i 0) (i 1) (i 2) (i 3)) (i : S4x8448x8.Idx) :
    val_main_v153 (F := Ideal) A.x A.md A.win A.kvn A.wukv i
      = Ideal.ofBits .f32 0x00000000#32 + ∑ k : Fin 96, q (i 0) (i 1) (i 2) k * q (i 0) (i 1) (i 2) k := by
  have hs : ∀ j, val_main_v152 (F := Ideal) A.x A.md A.win A.kvn A.wukv j = q (j 0) (j 1) (j 2) (j 3) * q (j 0) (j 1) (j 2) (j 3) := fun j => by
    rw [val_main_v152_apply, hx]
    rfl
  rw [val_main_v153_apply]
  generalize val_main_v152 (F := Ideal) A.x A.md A.win A.kvn A.wukv = y at hs ⊢
  exact congrArg₂ (· + ·) rfl (Finset.sum_congr rfl fun k _ => hs _)
/-- A head's inverse root of its mean square. -/
theorem rootK_at (q : Fin 4 → Fin 8448 → Fin 8 → Fin 96 → EReal)
    (hx : ∀ i, val_main_v115 (F := Ideal) A.x A.md A.win A.kvn A.wukv i = q (i 0) (i 1) (i 2) (i 3)) (i : S4x8448x8x96.Idx) :
    val_main_v160 (F := Ideal) A.x A.md A.win A.kvn A.wukv i
      = Ideal.rsqrt (Ideal.div (Ideal.ofBits .f32 0x00000000#32 + ∑ k : Fin 96, q (i 0) (i 1) (i 2) k * q (i 0) (i 1) (i 2) k)
          (Ideal.ofBits .f32 0x42C00000#32) + Ideal.ofBits .f32 0x358637BD#32) := by
  rw [val_main_v160_apply, val_main_v159_apply, val_main_v158_apply, val_main_v157_apply, val_main_v156_apply, val_main_v155_apply,
    val_main_v154_apply, sumK_at A q hx]
  rfl
/-- A head's gain. -/
theorem gainK_at (i : S4x8448x8x96.Idx) : val_main_v165 (F := Ideal) A.kg i = A.kg (ix2 3 (i 3)) := by
  rw [val_main_v165_apply, val_main_v164_apply, gain163_at]
  rfl
/-- A head, normalized. -/
theorem normK_at (q : Fin 4 → Fin 8448 → Fin 8 → Fin 96 → EReal)
    (hx : ∀ i, val_main_v115 (F := Ideal) A.x A.md A.win A.kvn A.wukv i = q (i 0) (i 1) (i 2) (i 3)) (i : S4x8448x8x96.Idx) :
    val_main_v166 (F := Ideal) A.x A.md A.win A.kvn A.wukv A.kg i = normed ((1 / 96 : ℝ) : EReal) (q (i 0) (i 1) (i 2)) (fun j => A.kg (ix2 3 j)) (i 3) := by
  rw [val_main_v166_apply, val_main_v161_apply, rootK_at A q hx, gainK_at, hx]
  exact normed_host 0x42C00000#32 96 (by norm_num) ofBits_96 (q (i 0) (i 1) (i 2)) (fun k => A.kg (ix2 3 k)) (i 3)
/-- A head, normalized. -/
theorem rowK_at (i : S4x8448x8x96.Idx) : val_main_v166 (F := Ideal) A.x A.md A.win A.kvn A.wukv A.kg i = rowK A (i 0) (i 1) (i 2) (i 3) :=
  normK_at A (headK A) (headK_at A) i
/-- A latent's first rotary half. -/
theorem lowK_at (i : S4x8192x8x16.Idx) : val_main_v173 (F := Ideal) A.x A.md A.win A.kvn A.wukv A.kg i
    = rowK A (i 0) ⟨256 + (i 1).val, by have : (i 1).val < 8192 := (i 1).isLt; omega⟩ (i 2) ⟨64 + (i 3).val, by have : (i 3).val < 16 := (i 3).isLt; omega⟩ := by
  rw [val_main_v173_apply, val_main_v170_apply, val_main_v168_apply, rowK_at]
  rfl
/-- A latent's second rotary half. -/
theorem highK_at (i : S4x8192x8x16.Idx) : val_main_v174 (F := Ideal) A.x A.md A.win A.kvn A.wukv A.kg i
    = rowK A (i 0) ⟨256 + (i 1).val, by have : (i 1).val < 8192 := (i 1).isLt; omega⟩ (i 2) ⟨80 + (i 3).val, by have : (i 3).val < 16 := (i 3).isLt; omega⟩ := by
  rw [val_main_v174_apply, val_main_v170_apply, val_main_v168_apply, rowK_at]
  refine congrArg (rowK A (i 0) ⟨256 + (i 1).val, by have : (i 1).val < 8192 := (i 1).isLt; omega⟩ (i 2)) (Fin.ext ?_)
  show 64 + (16 + (i 3).val) = 80 + (i 3).val
  omega
/-- A latent's first rotary half, turned. -/
theorem turnK0_at (i : S4x8192x8x16.Idx) : val_main_v179 (F := Ideal) A.x A.md A.win A.kvn A.wukv A.kg A.cos A.sin i
    = rowK A (i 0) ⟨256 + (i 1).val, by have : (i 1).val < 8192 := (i 1).isLt; omega⟩ (i 2) ⟨64 + (i 3).val, by have : (i 3).val < 16 := (i 3).isLt; omega⟩ * A.cos (ix2 (i 1) (i 3))
      - rowK A (i 0) ⟨256 + (i 1).val, by have : (i 1).val < 8192 := (i 1).isLt; omega⟩ (i 2) ⟨80 + (i 3).val, by have : (i 3).val < 16 := (i 3).isLt; omega⟩ * A.sin (ix2 (i 1) (i 3)) := by
  rw [val_main_v179_apply, val_main_v178_apply, val_main_v177_apply, val_main_v176_apply, val_main_v175_apply, val_main_v172_apply, val_main_v171_apply,
    lowK_at, highK_at]
  have e : ∀ z : S8192x16.Idx, z 0 = i 1 → z 1 = i 3 → z = ix2 (i 1) (i 3) := fun z h0 h1 => (eq_ix2 z).trans (congrArg₂ ix2 h0 h1)
  rw [e (idx_main_v171 _) rfl rfl, e (idx_main_v172 _) rfl rfl]
  rfl
/-- A latent's second rotary half, turned. -/
theorem turnK1_at (i : S4x8192x8x16.Idx) : val_main_v184 (F := Ideal) A.x A.md A.win A.kvn A.wukv A.kg A.cos A.sin i
    = rowK A (i 0) ⟨256 + (i 1).val, by have : (i 1).val < 8192 := (i 1).isLt; omega⟩ (i 2) ⟨64 + (i 3).val, by have : (i 3).val < 16 := (i 3).isLt; omega⟩ * A.sin (ix2 (i 1) (i 3))
      + rowK A (i 0) ⟨256 + (i 1).val, by have : (i 1).val < 8192 := (i 1).isLt; omega⟩ (i 2) ⟨80 + (i 3).val, by have : (i 3).val < 16 := (i 3).isLt; omega⟩ * A.cos (ix2 (i 1) (i 3)) := by
  rw [val_main_v184_apply, val_main_v183_apply, val_main_v182_apply, val_main_v181_apply, val_main_v180_apply, val_main_v172_apply, val_main_v171_apply,
    lowK_at, highK_at]
  have e : ∀ z : S8192x16.Idx, z 0 = i 1 → z 1 = i 3 → z = ix2 (i 1) (i 3) := fun z h0 h1 => (eq_ix2 z).trans (congrArg₂ ix2 h0 h1)
  rw [e (idx_main_v171 _) rfl rfl, e (idx_main_v172 _) rfl rfl]
  rfl
/-- A latent's rotary lanes. -/
theorem ropeK_at (b : Fin 4) (t : Fin 8192) (h : Fin 8) (j : Fin 32) : val_main_v185 (F := Ideal) A.x A.md A.win A.kvn A.wukv A.kg A.cos A.sin (ix4 b t h j)
    = rotated (rowK A b ⟨256 + t, by omega⟩ h) (fun i => A.cos (ix2 t i)) (fun i => A.sin (ix2 t i)) ⟨64 + j, by omega⟩ := by
  have h0 := turnK0_at A
  have h1 := turnK1_at A
  unfold val_main_v185
  generalize val_main_v179 (F := Ideal) A.x A.md A.win A.kvn A.wukv A.kg A.cos A.sin = p at h0 ⊢
  generalize val_main_v184 (F := Ideal) A.x A.md A.win A.kvn A.wukv A.kg A.cos A.sin = q at h1 ⊢
  pointwise []
  unfold rotated
  rw [dif_neg (show ¬ 64 + j.val < 64 by omega)]
  by_cases hj : j.val < 16
  · refine (dif_pos hj).trans (Eq.trans ?_ (dif_pos (show 64 + j.val < 80 by omega)).symm)
    refine (h0 _).trans ?_
    simp only [show 64 + j.val - 64 = j.val by omega, show 64 + j.val + 16 = 80 + j.val by omega]
    rfl
  · refine (dif_neg hj).trans (Eq.trans ?_ (dif_neg (show ¬ 64 + j.val < 80 by omega)).symm)
    refine (h1 _).trans ?_
    simp only [show 64 + j.val - 80 = j.val - 16 by omega, show 64 + j.val - 16 = 64 + (j.val - 16) by omega]
    refine congrArg₂ (· + ·) rfl (congrArg₂ (· * ·) (congrArg _ (Fin.ext ?_)) rfl)
    show 80 + (j.val - 16) = 64 + j.val
    omega
/-- A latent's head at its position. -/
theorem turnedK_at (b : Fin 4) (t : Fin 8192) (h : Fin 8) (j : Fin 96) : val_main_v186 (F := Ideal) A.x A.md A.win A.kvn A.wukv A.kg A.cos A.sin (ix4 b t h j)
    = rotated (rowK A b ⟨256 + t, by omega⟩ h) (fun i => A.cos (ix2 t i)) (fun i => A.sin (ix2 t i)) j := by
  have h0 : ∀ j : Fin 64, val_main_v169 (F := Ideal) A.x A.md A.win A.kvn A.wukv A.kg (ix4 b t h j) = rowK A b ⟨256 + t, by omega⟩ h ⟨j, by omega⟩ := fun j => by
    rw [val_main_v169_apply, val_main_v168_apply, rowK_at]
    rfl
  have h1 := ropeK_at A b t h
  unfold val_main_v186
  generalize val_main_v169 (F := Ideal) A.x A.md A.win A.kvn A.wukv A.kg = p at h0 ⊢
  generalize val_main_v185 (F := Ideal) A.x A.md A.win A.kvn A.wukv A.kg A.cos A.sin = q at h1 ⊢
  pointwise []
  by_cases hj : j.val < 64
  · refine (dif_pos hj).trans ((h0 ⟨j, hj⟩).trans ?_)
    unfold rotated
    rw [dif_pos hj]
  · refine (dif_neg hj).trans ((h1 ⟨j.val - 64, by omega⟩).trans (congrArg _ (Fin.ext ?_)))
    show 64 + (j.val - 64) = j.val
    omega
/-- A head at its token's position. -/
theorem placedK_at (b : Fin 4) (t : Fin 8448) (h : Fin 8) (j : Fin 96) : val_main_v187 (F := Ideal) A.x A.md A.win A.kvn A.wukv A.kg A.cos A.sin (ix4 b t h j)
    = placed A t (rowK A b t h) j := by
  have h0 : ∀ t : Fin 256, val_main_v167 (F := Ideal) A.x A.md A.win A.kvn A.wukv A.kg (ix4 b t h j) = rowK A b ⟨t, by omega⟩ h j := fun t => by
    rw [val_main_v167_apply, rowK_at]
    rfl
  have h1 := fun t => turnedK_at A b t h j
  unfold val_main_v187
  generalize val_main_v167 (F := Ideal) A.x A.md A.win A.kvn A.wukv A.kg = p at h0 ⊢
  generalize val_main_v186 (F := Ideal) A.x A.md A.win A.kvn A.wukv A.kg A.cos A.sin = q at h1 ⊢
  pointwise []
  unfold placed
  by_cases ht : t.val < 256
  · refine (dif_pos ht).trans ((h0 ⟨t, ht⟩).trans ?_)
    rw [dif_pos ht]
  · refine (dif_neg ht).trans ((h1 ⟨t.val - 256, by omega⟩).trans ?_)
    rw [dif_neg ht]
    refine congrArg (fun z => rotated (rowK A b z h) _ _ j) (Fin.ext ?_)
    show 256 + (t.val - 256) = t.val
    omega

/-- The host's fill is zero. -/
theorem fill_zero : FloatOps.sitofp (F := Ideal) .f32 (0#32 : BitVec 32) = (0 : EReal) := by
  show (((0#32 : BitVec 32).toInt : ℝ) : EReal) = 0
  simp

/-- A value head and a one after it. -/
theorem headV_at (b : Fin 4) (t : Fin 8448) (h : Fin 8) (j : Fin 65) : val_main_v189 (F := Ideal) A.x A.md A.win A.kvn A.wukv (ix4 b t h j) = headV A b t h j := by
  have h0 : ∀ j : Fin 64, val_main_v112 (F := Ideal) A.x A.md A.win A.kvn A.wukv (ix4 b t h j)
      = product (innerKV A b t) (fun i j => A.wukv (ix3 3 i j)) ⟨128 * h + (64 + j), by omega⟩ := fun j => by
    rw [val_main_v112_apply, headKV_at]
    rfl
  have h1 : ∀ j : Fin 1, val_main_v188 (F := Ideal) (ix4 b t h j) = (1 : EReal) := fun j => by
    rw [val_main_v188_apply]
    exact Ideal.ofBits_one_f32
  unfold val_main_v189
  generalize val_main_v112 (F := Ideal) A.x A.md A.win A.kvn A.wukv = p at h0 ⊢
  generalize val_main_v188 (F := Ideal) = q at h1 ⊢
  pointwise []
  unfold headV
  by_cases hj : j.val < 64
  · refine (dif_pos hj).trans ((h0 ⟨j, hj⟩).trans ?_)
    rw [dif_pos hj]
  · refine (dif_neg hj).trans ((h1 _).trans ?_)
    rw [dif_neg hj]

/-- Its heads, filled with zeros. -/
theorem resQ_pad (b : Fin 4) (t : Fin 8448) (h : Fin 8) (l : Fin 128) : val_main_v190 (F := Ideal) A.x A.md A.win A.qn A.wuq A.qg A.cos A.sin (ix4 b t h l)
    = padded (placed A t (rowQ A b t h)) l := by
  have h0 : ∀ j : Fin 96, _ := placedQ_at A b t h
  unfold val_main_v190
  generalize val_main_v151 (F := Ideal) A.x A.md A.win A.qn A.wuq A.qg A.cos A.sin = p at h0 ⊢
  unfold val_main_call0_v0
  pointwise []
  unfold padded
  by_cases hl : l.val < 96
  · refine (dif_pos hl).trans ((h0 ⟨l, hl⟩).trans ?_)
    rw [dif_pos hl]
  · refine (dif_neg hl).trans (Eq.trans ?_ (dif_neg hl).symm)
    exact fill_zero
/-- The reference's result `resQ`. -/
theorem resQ_eq : val_main_v192 (F := Ideal) A.x A.md A.win A.qn A.wuq A.qg A.cos A.sin = resQ A := by
  funext i
  have h0 : (i 0 : ℕ) < 4 := (i 0).isLt
  have h1 : (i 1 : ℕ) < 8448 := (i 1).isLt
  have h2 : (i 2 : ℕ) < 1024 := (i 2).isLt
  have e : idx_main_v191 i = ix4 (i 0) (i 1) (hd (i 2)) (ln (i 2)) := by
    funext a
    refine Fin.ext ?_
    match a with
    | ⟨0, _⟩ => show (((i 0).val * 8448 + (i 1).val) * 1024 + (i 2).val) / 8650752 = (i 0).val; omega
    | ⟨1, _⟩ => show (((i 0).val * 8448 + (i 1).val) * 1024 + (i 2).val) / 1024 % 8448 = (i 1).val; omega
    | ⟨2, _⟩ => show (((i 0).val * 8448 + (i 1).val) * 1024 + (i 2).val) / 128 % 8 = (i 2).val / 128; omega
    | ⟨3, _⟩ => show (((i 0).val * 8448 + (i 1).val) * 1024 + (i 2).val) % 128 = (i 2).val % 128; omega
  rw [val_main_v192_apply, val_main_v191_apply, e]
  exact resQ_pad A (i 0) (i 1) (hd (i 2)) (ln (i 2))

/-- Its heads, filled with zeros. -/
theorem resK_pad (b : Fin 4) (t : Fin 8448) (h : Fin 8) (l : Fin 128) : val_main_v193 (F := Ideal) A.x A.md A.win A.kvn A.wukv A.kg A.cos A.sin (ix4 b t h l)
    = padded (placed A t (rowK A b t h)) l := by
  have h0 : ∀ j : Fin 96, _ := placedK_at A b t h
  unfold val_main_v193
  generalize val_main_v187 (F := Ideal) A.x A.md A.win A.kvn A.wukv A.kg A.cos A.sin = p at h0 ⊢
  unfold val_main_call1_v0
  pointwise []
  unfold padded
  by_cases hl : l.val < 96
  · refine (dif_pos hl).trans ((h0 ⟨l, hl⟩).trans ?_)
    rw [dif_pos hl]
  · refine (dif_neg hl).trans (Eq.trans ?_ (dif_neg hl).symm)
    exact fill_zero
/-- The reference's result `resK`. -/
theorem resK_eq : val_main_v195 (F := Ideal) A.x A.md A.win A.kvn A.wukv A.kg A.cos A.sin = resK A := by
  funext i
  have h0 : (i 0 : ℕ) < 4 := (i 0).isLt
  have h1 : (i 1 : ℕ) < 8448 := (i 1).isLt
  have h2 : (i 2 : ℕ) < 1024 := (i 2).isLt
  have e : idx_main_v194 i = ix4 (i 0) (i 1) (hd (i 2)) (ln (i 2)) := by
    funext a
    refine Fin.ext ?_
    match a with
    | ⟨0, _⟩ => show (((i 0).val * 8448 + (i 1).val) * 1024 + (i 2).val) / 8650752 = (i 0).val; omega
    | ⟨1, _⟩ => show (((i 0).val * 8448 + (i 1).val) * 1024 + (i 2).val) / 1024 % 8448 = (i 1).val; omega
    | ⟨2, _⟩ => show (((i 0).val * 8448 + (i 1).val) * 1024 + (i 2).val) / 128 % 8 = (i 2).val / 128; omega
    | ⟨3, _⟩ => show (((i 0).val * 8448 + (i 1).val) * 1024 + (i 2).val) % 128 = (i 2).val % 128; omega
  rw [val_main_v195_apply, val_main_v194_apply, e]
  exact resK_pad A (i 0) (i 1) (hd (i 2)) (ln (i 2))

/-- Its heads, filled with zeros. -/
theorem resV_pad (b : Fin 4) (t : Fin 8448) (h : Fin 8) (l : Fin 128) : val_main_v196 (F := Ideal) A.x A.md A.win A.kvn A.wukv (ix4 b t h l)
    = padded (headV A b t h) l := by
  have h0 : ∀ j : Fin 65, _ := headV_at A b t h
  unfold val_main_v196
  generalize val_main_v189 (F := Ideal) A.x A.md A.win A.kvn A.wukv = p at h0 ⊢
  unfold val_main_call2_v0
  pointwise []
  unfold padded
  by_cases hl : l.val < 65
  · refine (dif_pos hl).trans ((h0 ⟨l, hl⟩).trans ?_)
    rw [dif_pos hl]
  · refine (dif_neg hl).trans (Eq.trans ?_ (dif_neg hl).symm)
    exact fill_zero
/-- The reference's result `resV`. -/
theorem resV_eq : val_main_v198 (F := Ideal) A.x A.md A.win A.kvn A.wukv = resV A := by
  funext i
  have h0 : (i 0 : ℕ) < 4 := (i 0).isLt
  have h1 : (i 1 : ℕ) < 8448 := (i 1).isLt
  have h2 : (i 2 : ℕ) < 1024 := (i 2).isLt
  have e : idx_main_v197 i = ix4 (i 0) (i 1) (hd (i 2)) (ln (i 2)) := by
    funext a
    refine Fin.ext ?_
    match a with
    | ⟨0, _⟩ => show (((i 0).val * 8448 + (i 1).val) * 1024 + (i 2).val) / 8650752 = (i 0).val; omega
    | ⟨1, _⟩ => show (((i 0).val * 8448 + (i 1).val) * 1024 + (i 2).val) / 1024 % 8448 = (i 1).val; omega
    | ⟨2, _⟩ => show (((i 0).val * 8448 + (i 1).val) * 1024 + (i 2).val) / 128 % 8 = (i 2).val / 128; omega
    | ⟨3, _⟩ => show (((i 0).val * 8448 + (i 1).val) * 1024 + (i 2).val) % 128 = (i 2).val % 128; omega
  rw [val_main_v198_apply, val_main_v197_apply, e]
  exact resV_pad A (i 0) (i 1) (hd (i 2)) (ln (i 2))

end Cert.Reference3Ideal.Inproj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_attn_pre
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import Idealize.ShloMosaic.Adequacy
public import proofs.«01_k».proof.Proof.Pre
public import proofs.«01_k».proof.Proof.MergeFinal
public import proofs.«01_k».proof.Proof.MergeRef
public import proofs.«01_k».proof.Proof.InprojFinal
public import proofs.«01_k».proof.Proof.InprojRef
public import Idealize.ShloMosaic.Init

@[expose] public section

noncomputable section

namespace Cert.Proof

open Idealize.ShloMosaic Idealize.SL.Sem Cert.Kernel

/-- The reference leaves its arguments unchanged and every semaphore counter at zero. -/
theorem frame_reference : Cert.quiescent_ReferenceIdeal := fun m g _ =>
  (θ_run Cert.ReferenceIdeal.defs _ _).mono (fun r h => And.intro (fun c => (h c).2)
    (Idealize.ShloMosaic.sem_eq_zero_of_no_sems (by decide) r.2))
    (Cert.ReferenceIdeal.Value.run (F := Ideal) m g)

/-- The attention kernel and its reference compute one function, over the extended reals. -/
theorem attention : Cert.algebraic_KernelIdeal_ReferenceIdeal_pre_attn_pre := by
  intro m g m' g' hpre hagree
  have facts := fun c => Cert.Pre_attn_pre.Attn.of_pre _ _ _ (hpre c)
  refine ⟨fun c => Cert.Attn.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run _ _ _).mono (fun r h c => ?_) (Cert.KernelIdeal.Value.run_blocks (F := Ideal) m g)
    obtain ⟨hq, hk, hv, h1⟩ := facts c
    exact ⟨(h c).1.trans (Cert.KernelIdeal.Attn.final_o m c hq hk hv h1), (h c).2⟩
  · refine (θ_run _ _ _).mono (fun r h c => ?_) (Cert.ReferenceIdeal.Value.run (F := Ideal) m' g')
    obtain ⟨hq, hk, hv, h1⟩ := facts c
    obtain ⟨e0, e1, e2⟩ := hagree c
    refine ⟨(h c).1.trans ((Cert.ReferenceIdeal.Read.val_main_v49_eq m' c).trans ?_), (h c).2⟩
    rw [e0, e1, e2]
    exact Cert.ReferenceIdeal.Attn.result_eq hq hk hv h1

/-- The merge's reference leaves its arguments unchanged and every semaphore counter at zero. -/
theorem frame_merge_reference : Cert.quiescent_Reference2Ideal := fun m g _ =>
  (θ_run Cert.Reference2Ideal.defs _ _).mono (fun r h => And.intro (fun c => (h c).2)
    (Idealize.ShloMosaic.sem_eq_zero_of_no_sems (by decide) r.2))
    (Cert.Reference2Ideal.Value.run (F := Ideal) m g)

/-- The merge kernel and its reference compute one function, over the extended reals. -/
theorem merge : Cert.algebraic_Kernel2Ideal_Reference2Ideal := by
  intro m g m' g' _ hagree
  refine ⟨fun c => Cert.Merge.result
    (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3))
    (m ((c.tc : Thread Cert.Kernel2Ideal.nD Cert.Kernel2Ideal.τ).loc Cert.Kernel2Ideal.main_arg4))
    (m ((c.tc : Thread Cert.Kernel2Ideal.nD Cert.Kernel2Ideal.τ).loc Cert.Kernel2Ideal.main_arg5))
    (m ((c.tc : Thread Cert.Kernel2Ideal.nD Cert.Kernel2Ideal.τ).loc Cert.Kernel2Ideal.main_arg6))
    (m ((c.tc : Thread Cert.Kernel2Ideal.nD Cert.Kernel2Ideal.τ).loc Cert.Kernel2Ideal.main_arg7))
    (m ((c.tc : Thread Cert.Kernel2Ideal.nD Cert.Kernel2Ideal.τ).loc Cert.Kernel2Ideal.main_arg8))
    (m ((c.tc : Thread Cert.Kernel2Ideal.nD Cert.Kernel2Ideal.τ).loc Cert.Kernel2Ideal.main_arg9))
    (m ((c.tc : Thread Cert.Kernel2Ideal.nD Cert.Kernel2Ideal.τ).loc Cert.Kernel2Ideal.main_arg10))
    (m ((c.tc : Thread Cert.Kernel2Ideal.nD Cert.Kernel2Ideal.τ).loc Cert.Kernel2Ideal.main_arg11)), ?_, ?_⟩
  · refine (θ_run _ _ _).mono (fun r h c => ?_) (Cert.Kernel2Ideal.Value.run_blocks (F := Ideal) m g)
    exact ⟨(h c).1.trans (Cert.Kernel2Ideal.Merge.final_o m c), (h c).2⟩
  · refine (θ_run _ _ _).mono (fun r h c => ?_) (Cert.Reference2Ideal.Value.run (F := Ideal) m' g')
    obtain ⟨e0, e1, e2, e3, e4, e5, e6, e7, e8, e9, e10, e11⟩ := hagree c
    refine ⟨(h c).1.trans ((Cert.Reference2Ideal.Read.val_main_v91_eq m' c).trans ?_), (h c).2⟩
    rw [e0, e1, e2, e3, e4, e5, e6, e7, e8, e9, e10, e11]
    exact Cert.Reference2Ideal.Merge.result_eq _ _ _ _ _ _ _ _ _ _ _ _

/-- The input projection's reference leaves its arguments unchanged and every semaphore counter at zero. -/
theorem frame_inproj_reference : Cert.quiescent_Reference3Ideal := fun m g _ =>
  (θ_run Cert.Reference3Ideal.defs _ _).mono (fun r h => And.intro (fun c => (h c).2.2.2.2.2.2)
    (Idealize.ShloMosaic.sem_eq_zero_of_no_sems (by decide) r.2))
    (Cert.Reference3Ideal.Value.run (F := Ideal) m g)

/-- The input projection's two named constants. -/
theorem inproj_constants : Cert.preserves_Kernel3_Kernel3Ideal :=
  ⟨IdealRules.named_const.statement Cert.Kernel3Ideal.κ "inv_qr" .f32 0x3B2AAAAB#32 ((1/384 : ℝ) : EReal) rfl,
    IdealRules.named_const.statement Cert.Kernel3Ideal.κ "inv_qk" .f32 0x3C2AAAAB#32 ((1/96 : ℝ) : EReal) rfl⟩

/-- The input projection's kernel and its reference compute the same six functions, over the extended reals. -/
theorem inproj : Cert.algebraic_Kernel3Ideal_Reference3Ideal := by
  intro m g m' g' _ hagree
  refine ⟨fun c => Cert.Inproj.resLx (Cert.Kernel3Ideal.Inproj.args m c), fun c => Cert.Inproj.resLg (Cert.Kernel3Ideal.Inproj.args m c), fun c => Cert.Inproj.resGlu (Cert.Kernel3Ideal.Inproj.args m c), fun c => Cert.Inproj.resQ (Cert.Kernel3Ideal.Inproj.args m c), fun c => Cert.Inproj.resK (Cert.Kernel3Ideal.Inproj.args m c), fun c => Cert.Inproj.resV (Cert.Kernel3Ideal.Inproj.args m c), ?_, ?_⟩
  · refine (θ_run _ _ _).mono (fun r h c => ?_) (Cert.Kernel3Ideal.Value.run_blocks (F := Ideal) m g)
    exact ⟨(h c).1.trans (Cert.Kernel3Ideal.Inproj.final_lx m c), (h c).2.1.trans (Cert.Kernel3Ideal.Inproj.final_lg m c), (h c).2.2.1.trans (Cert.Kernel3Ideal.Inproj.final_glu m c), (h c).2.2.2.1.trans (Cert.Kernel3Ideal.Inproj.final_q m c), (h c).2.2.2.2.1.trans (Cert.Kernel3Ideal.Inproj.final_k m c), (h c).2.2.2.2.2.1.trans (Cert.Kernel3Ideal.Inproj.final_v m c), (h c).2.2.2.2.2.2⟩
  · refine (θ_run _ _ _).mono (fun r h c => ?_) (Cert.Reference3Ideal.Value.run (F := Ideal) m' g')
    obtain ⟨e0, e1, e2, e3, e4, e5, e6, e7, e8, e9, e10⟩ := hagree c
    have ha : Cert.Inproj.Args.mk (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) (m' ((c.tc : Thread Cert.Reference3Ideal.nD Cert.Reference3Ideal.τ).loc Cert.Reference3Ideal.main_arg9)) (m' ((c.tc : Thread Cert.Reference3Ideal.nD Cert.Reference3Ideal.τ).loc Cert.Reference3Ideal.main_arg10))
        = Cert.Kernel3Ideal.Inproj.args m c := by
      rw [e0, e1, e2, e3, e4, e5, e6, e7, e8, e9, e10]
      rfl
    exact ⟨(h c).1.trans ((Cert.Reference3Ideal.Read.val_main_v57_eq _).trans ((Cert.Reference3Ideal.Inproj.lx_eq (Cert.Inproj.Args.mk _ _ _ _ _ _ _ _ _ _ _)).trans (congrArg Cert.Inproj.resLx ha))),
      (h c).2.1.trans ((Cert.Reference3Ideal.Read.val_main_v58_eq _).trans ((Cert.Reference3Ideal.Inproj.lg_eq (Cert.Inproj.Args.mk _ _ _ _ _ _ _ _ _ _ _)).trans (congrArg Cert.Inproj.resLg ha))),
      (h c).2.2.1.trans ((Cert.Reference3Ideal.Read.val_main_v72_eq _).trans ((Cert.Reference3Ideal.Inproj.glu_eq (Cert.Inproj.Args.mk _ _ _ _ _ _ _ _ _ _ _)).trans (congrArg Cert.Inproj.resGlu ha))),
      (h c).2.2.2.1.trans ((Cert.Reference3Ideal.Read.val_main_v192_eq _).trans ((Cert.Reference3Ideal.Inproj.resQ_eq (Cert.Inproj.Args.mk _ _ _ _ _ _ _ _ _ _ _)).trans (congrArg Cert.Inproj.resQ ha))),
      (h c).2.2.2.2.1.trans ((Cert.Reference3Ideal.Read.val_main_v195_eq _).trans ((Cert.Reference3Ideal.Inproj.resK_eq (Cert.Inproj.Args.mk _ _ _ _ _ _ _ _ _ _ _)).trans (congrArg Cert.Inproj.resK ha))),
      (h c).2.2.2.2.2.1.trans ((Cert.Reference3Ideal.Read.val_main_v198_eq _).trans ((Cert.Reference3Ideal.Inproj.resV_eq (Cert.Inproj.Args.mk _ _ _ _ _ _ _ _ _ _ _)).trans (congrArg Cert.Inproj.resV ha))),
      (h c).2.2.2.2.2.2⟩

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre_attn_pre.Gen.facts,
    fun m g _ => Cert.Kernel.Gen.frame m g, fun m g _ => Cert.KernelIdeal.Gen.frame m g,
    fun m g _ => Cert.KernelIdeal.Gen.frame m g, frame_reference, fun m g _ => frame_reference m g trivial,
    fun m g _ => Cert.Kernel2.Gen.frame m g, fun m g _ => Cert.Kernel2Ideal.Gen.frame m g, frame_merge_reference,
    fun m g _ => Cert.Kernel3.Gen.frame m g, fun m g _ => Cert.Kernel3Ideal.Gen.frame m g, frame_inproj_reference,
    trivial, attention, trivial, merge, inproj_constants, inproj⟩

end Cert.Proof

end
